-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_RefFwdIdeal (m : (ℓ : Loc Cert.RefFwdIdeal.nD Cert.RefFwdIdeal.τ Cert.RefFwdIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_RefBwdIdeal (m : (ℓ : Loc Cert.RefBwdIdeal.nD Cert.RefBwdIdeal.τ Cert.RefBwdIdeal.sig) → Buf (Elt Ideal) ℓ) : Prop :=
  True

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2)
      ∧ r.2.mem ((c.tc : Thread Cert.RefFwdIdeal.nD Cert.RefFwdIdeal.τ).loc Cert.RefFwdIdeal.main_arg3) = m ((c.tc : Thread Cert.RefFwdIdeal.nD Cert.RefFwdIdeal.τ).loc Cert.RefFwdIdeal.main_arg3)
      ∧ r.2.mem ((c.tc : Thread Cert.RefFwdIdeal.nD Cert.RefFwdIdeal.τ).loc Cert.RefFwdIdeal.main_arg4) = m ((c.tc : Thread Cert.RefFwdIdeal.nD Cert.RefFwdIdeal.τ).loc Cert.RefFwdIdeal.main_arg4)
      ∧ r.2.mem ((c.tc : Thread Cert.RefFwdIdeal.nD Cert.RefFwdIdeal.τ).loc Cert.RefFwdIdeal.main_arg5) = m ((c.tc : Thread Cert.RefFwdIdeal.nD Cert.RefFwdIdeal.τ).loc Cert.RefFwdIdeal.main_arg5)
      ∧ r.2.mem ((c.tc : Thread Cert.RefFwdIdeal.nD Cert.RefFwdIdeal.τ).loc Cert.RefFwdIdeal.main_arg6) = m ((c.tc : Thread Cert.RefFwdIdeal.nD Cert.RefFwdIdeal.τ).loc Cert.RefFwdIdeal.main_arg6)
      ∧ r.2.mem ((c.tc : Thread Cert.RefFwdIdeal.nD Cert.RefFwdIdeal.τ).loc Cert.RefFwdIdeal.main_arg7) = m ((c.tc : Thread Cert.RefFwdIdeal.nD Cert.RefFwdIdeal.τ).loc Cert.RefFwdIdeal.main_arg7))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ r.2.sem = fun _ => 0)

def quiescent_RefBwdIdeal [hRefBwdIdeal : Cert.RefBwdIdeal.Facts] : Prop :=
  ∀ (m : (ℓ : Loc Cert.RefBwdIdeal.nD Cert.RefBwdIdeal.τ Cert.RefBwdIdeal.sig) → Buf (Elt Ideal) ℓ) (g : Dev Cert.RefBwdIdeal.nD → PrngReg), Pre_RefBwdIdeal m →
    θ_run (Cert.RefBwdIdeal.defs (F := Ideal)) (onTc (τ := Cert.RefBwdIdeal.τ) (Cert.RefBwdIdeal.main (F := Ideal))) ⟨m, fun _ => 0, g⟩ (fun r => (∀ c : Dev Cert.RefBwdIdeal.nD,
      r.2.mem ((c.tc : Thread Cert.RefBwdIdeal.nD Cert.RefBwdIdeal.τ).loc Cert.RefBwdIdeal.main_arg0) = m ((c.tc : Thread Cert.RefBwdIdeal.nD Cert.RefBwdIdeal.τ).loc Cert.RefBwdIdeal.main_arg0)
      ∧ r.2.mem ((c.tc : Thread Cert.RefBwdIdeal.nD Cert.RefBwdIdeal.τ).loc Cert.RefBwdIdeal.main_arg1) = m ((c.tc : Thread Cert.RefBwdIdeal.nD Cert.RefBwdIdeal.τ).loc Cert.RefBwdIdeal.main_arg1)
      ∧ r.2.mem ((c.tc : Thread Cert.RefBwdIdeal.nD Cert.RefBwdIdeal.τ).loc Cert.RefBwdIdeal.main_arg2) = m ((c.tc : Thread Cert.RefBwdIdeal.nD Cert.RefBwdIdeal.τ).loc Cert.RefBwdIdeal.main_arg2)
      ∧ r.2.mem ((c.tc : Thread Cert.RefBwdIdeal.nD Cert.RefBwdIdeal.τ).loc Cert.RefBwdIdeal.main_arg3) = m ((c.tc : Thread Cert.RefBwdIdeal.nD Cert.RefBwdIdeal.τ).loc Cert.RefBwdIdeal.main_arg3))
      ∧ r.2.sem = fun _ => 0)

def preserves_Fwd_FwdIdeal : Prop :=
  True

def preserves_Bwd_BwdIdeal : Prop :=
  True

def algebraic_FwdIdeal_RefFwdIdeal [hFwdIdeal : Cert.FwdIdeal.Facts] [hRefFwdIdeal : Cert.RefFwdIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.RefFwdIdeal.nD Cert.RefFwdIdeal.τ Cert.RefFwdIdeal.sig) → Buf (Elt Ideal) ℓ) (g' : Dev Cert.RefFwdIdeal.nD → PrngReg), Pre_FwdIdeal m →
    (∀ c : Dev Cert.FwdIdeal.nD,
      m' ((c.tc : Thread Cert.RefFwdIdeal.nD Cert.RefFwdIdeal.τ).loc Cert.RefFwdIdeal.main_arg0) = m ((c.tc : Thread Cert.FwdIdeal.nD Cert.FwdIdeal.τ).loc Cert.FwdIdeal.main_arg0)
      ∧ m' ((c.tc : Thread Cert.RefFwdIdeal.nD Cert.RefFwdIdeal.τ).loc Cert.RefFwdIdeal.main_arg1) = m ((c.tc : Thread Cert.FwdIdeal.nD Cert.FwdIdeal.τ).loc Cert.FwdIdeal.main_arg1)
      ∧ m' ((c.tc : Thread Cert.RefFwdIdeal.nD Cert.RefFwdIdeal.τ).loc Cert.RefFwdIdeal.main_arg2) = m ((c.tc : Thread Cert.FwdIdeal.nD Cert.FwdIdeal.τ).loc Cert.FwdIdeal.main_arg2)
      ∧ m' ((c.tc : Thread Cert.RefFwdIdeal.nD Cert.RefFwdIdeal.τ).loc Cert.RefFwdIdeal.main_arg3) = m ((c.tc : Thread Cert.FwdIdeal.nD Cert.FwdIdeal.τ).loc Cert.FwdIdeal.main_arg3)
      ∧ m' ((c.tc : Thread Cert.RefFwdIdeal.nD Cert.RefFwdIdeal.τ).loc Cert.RefFwdIdeal.main_arg4) = m ((c.tc : Thread Cert.FwdIdeal.nD Cert.FwdIdeal.τ).loc Cert.FwdIdeal.main_arg4)
      ∧ m' ((c.tc : Thread Cert.RefFwdIdeal.nD Cert.RefFwdIdeal.τ).loc Cert.RefFwdIdeal.main_arg5) = m ((c.tc : Thread Cert.FwdIdeal.nD Cert.FwdIdeal.τ).loc Cert.FwdIdeal.main_arg5)
      ∧ m' ((c.tc : Thread Cert.RefFwdIdeal.nD Cert.RefFwdIdeal.τ).loc Cert.RefFwdIdeal.main_arg6) = m ((c.tc : Thread Cert.FwdIdeal.nD Cert.FwdIdeal.τ).loc Cert.FwdIdeal.main_arg6)
      ∧ m' ((c.tc : Thread Cert.RefFwdIdeal.nD Cert.RefFwdIdeal.τ).loc Cert.RefFwdIdeal.main_arg7) = m ((c.tc : Thread Cert.FwdIdeal.nD Cert.FwdIdeal.τ).loc Cert.FwdIdeal.main_arg7)) →
    ∃ (v0 : (c : Dev Cert.FwdIdeal.nD) → Buf (Elt Ideal) ((c.tc : Thread Cert.FwdIdeal.nD Cert.FwdIdeal.τ).loc Cert.FwdIdeal.main_v6_0)) (v1 : (c : Dev Cert.FwdIdeal.nD) → Buf (Elt Ideal) ((c.tc : Thread Cert.FwdIdeal.nD Cert.FwdIdeal.τ).loc Cert.FwdIdeal.main_v6_1)) (v2 : (c : Dev Cert.FwdIdeal.nD) → Buf (Elt Ideal) ((c.tc : Thread Cert.FwdIdeal.nD Cert.FwdIdeal.τ).loc Cert.FwdIdeal.main_v6_2)) (v3 : (c : Dev Cert.FwdIdeal.nD) → Buf (Elt Ideal) ((c.tc : Thread Cert.FwdIdeal.nD Cert.FwdIdeal.τ).loc Cert.FwdIdeal.main_v6_3)) (v4 : (c : Dev Cert.FwdIdeal.nD) → Buf (Elt Ideal) ((c.tc : Thread Cert.FwdIdeal.nD Cert.FwdIdeal.τ).loc Cert.FwdIdeal.main_v6_4)) (v5 : (c : Dev Cert.FwdIdeal.nD) → Buf (Elt Ideal) ((c.tc : Thread Cert.FwdIdeal.nD Cert.FwdIdeal.τ).loc Cert.FwdIdeal.main_v6_5)) (v6 : (c : Dev Cert.FwdIdeal.nD) → Buf (Elt Ideal) ((c.tc : Thread Cert.FwdIdeal.nD Cert.FwdIdeal.τ).loc Cert.FwdIdeal.main_v6_6)) (v7 : (c : Dev Cert.FwdIdeal.nD) → Buf (Elt Ideal) ((c.tc : Thread Cert.FwdIdeal.nD Cert.FwdIdeal.τ).loc Cert.FwdIdeal.main_v6_7)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v6_0) = v0 c
          ∧ r.2.mem ((c.tc : Thread Cert.FwdIdeal.nD Cert.FwdIdeal.τ).loc Cert.FwdIdeal.main_v6_1) = v1 c
          ∧ r.2.mem ((c.tc : Thread Cert.FwdIdeal.nD Cert.FwdIdeal.τ).loc Cert.FwdIdeal.main_v6_2) = v2 c
          ∧ r.2.mem ((c.tc : Thread Cert.FwdIdeal.nD Cert.FwdIdeal.τ).loc Cert.FwdIdeal.main_v6_3) = v3 c
          ∧ r.2.mem ((c.tc : Thread Cert.FwdIdeal.nD Cert.FwdIdeal.τ).loc Cert.FwdIdeal.main_v6_4) = v4 c
          ∧ r.2.mem ((c.tc : Thread Cert.FwdIdeal.nD Cert.FwdIdeal.τ).loc Cert.FwdIdeal.main_v6_5) = v5 c
          ∧ r.2.mem ((c.tc : Thread Cert.FwdIdeal.nD Cert.FwdIdeal.τ).loc Cert.FwdIdeal.main_v6_6) = v6 c
          ∧ r.2.mem ((c.tc : Thread Cert.FwdIdeal.nD Cert.FwdIdeal.τ).loc Cert.FwdIdeal.main_v6_7) = v7 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7))
      ∧ θ_run (Cert.RefFwdIdeal.defs (F := Ideal)) (onTc (τ := Cert.RefFwdIdeal.τ) (Cert.RefFwdIdeal.main (F := Ideal))) ⟨m', fun _ => 0, g'⟩ (fun r => ∀ c : Dev Cert.RefFwdIdeal.nD,
          r.2.mem ((c.tc : Thread Cert.RefFwdIdeal.nD Cert.RefFwdIdeal.τ).loc Cert.RefFwdIdeal.main_v5_0) = v0 c
          ∧ r.2.mem ((c.tc : Thread Cert.RefFwdIdeal.nD Cert.RefFwdIdeal.τ).loc Cert.RefFwdIdeal.main_v5_1) = v1 c
          ∧ r.2.mem ((c.tc : Thread Cert.RefFwdIdeal.nD Cert.RefFwdIdeal.τ).loc Cert.RefFwdIdeal.main_v5_2) = v2 c
          ∧ r.2.mem ((c.tc : Thread Cert.RefFwdIdeal.nD Cert.RefFwdIdeal.τ).loc Cert.RefFwdIdeal.main_v5_3) = v3 c
          ∧ r.2.mem ((c.tc : Thread Cert.RefFwdIdeal.nD Cert.RefFwdIdeal.τ).loc Cert.RefFwdIdeal.main_v5_4) = v4 c
          ∧ r.2.mem ((c.tc : Thread Cert.RefFwdIdeal.nD Cert.RefFwdIdeal.τ).loc Cert.RefFwdIdeal.main_v5_5) = v5 c
          ∧ r.2.mem ((c.tc : Thread Cert.RefFwdIdeal.nD Cert.RefFwdIdeal.τ).loc Cert.RefFwdIdeal.main_v5_6) = v6 c
          ∧ r.2.mem ((c.tc : Thread Cert.RefFwdIdeal.nD Cert.RefFwdIdeal.τ).loc Cert.RefFwdIdeal.main_v5_7) = v7 c
          ∧ r.2.mem ((c.tc : Thread Cert.RefFwdIdeal.nD Cert.RefFwdIdeal.τ).loc Cert.RefFwdIdeal.main_arg0) = m' ((c.tc : Thread Cert.RefFwdIdeal.nD Cert.RefFwdIdeal.τ).loc Cert.RefFwdIdeal.main_arg0)
          ∧ r.2.mem ((c.tc : Thread Cert.RefFwdIdeal.nD Cert.RefFwdIdeal.τ).loc Cert.RefFwdIdeal.main_arg1) = m' ((c.tc : Thread Cert.RefFwdIdeal.nD Cert.RefFwdIdeal.τ).loc Cert.RefFwdIdeal.main_arg1)
          ∧ r.2.mem ((c.tc : Thread Cert.RefFwdIdeal.nD Cert.RefFwdIdeal.τ).loc Cert.RefFwdIdeal.main_arg2) = m' ((c.tc : Thread Cert.RefFwdIdeal.nD Cert.RefFwdIdeal.τ).loc Cert.RefFwdIdeal.main_arg2)
          ∧ r.2.mem ((c.tc : Thread Cert.RefFwdIdeal.nD Cert.RefFwdIdeal.τ).loc Cert.RefFwdIdeal.main_arg3) = m' ((c.tc : Thread Cert.RefFwdIdeal.nD Cert.RefFwdIdeal.τ).loc Cert.RefFwdIdeal.main_arg3)
          ∧ r.2.mem ((c.tc : Thread Cert.RefFwdIdeal.nD Cert.RefFwdIdeal.τ).loc Cert.RefFwdIdeal.main_arg4) = m' ((c.tc : Thread Cert.RefFwdIdeal.nD Cert.RefFwdIdeal.τ).loc Cert.RefFwdIdeal.main_arg4)
          ∧ r.2.mem ((c.tc : Thread Cert.RefFwdIdeal.nD Cert.RefFwdIdeal.τ).loc Cert.RefFwdIdeal.main_arg5) = m' ((c.tc : Thread Cert.RefFwdIdeal.nD Cert.RefFwdIdeal.τ).loc Cert.RefFwdIdeal.main_arg5)
          ∧ r.2.mem ((c.tc : Thread Cert.RefFwdIdeal.nD Cert.RefFwdIdeal.τ).loc Cert.RefFwdIdeal.main_arg6) = m' ((c.tc : Thread Cert.RefFwdIdeal.nD Cert.RefFwdIdeal.τ).loc Cert.RefFwdIdeal.main_arg6)
          ∧ r.2.mem ((c.tc : Thread Cert.RefFwdIdeal.nD Cert.RefFwdIdeal.τ).loc Cert.RefFwdIdeal.main_arg7) = m' ((c.tc : Thread Cert.RefFwdIdeal.nD Cert.RefFwdIdeal.τ).loc Cert.RefFwdIdeal.main_arg7))

def algebraic_BwdIdeal_RefBwdIdeal [hBwdIdeal : Cert.BwdIdeal.Facts] [hRefBwdIdeal : Cert.RefBwdIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.RefBwdIdeal.nD Cert.RefBwdIdeal.τ Cert.RefBwdIdeal.sig) → Buf (Elt Ideal) ℓ) (g' : Dev Cert.RefBwdIdeal.nD → PrngReg), Pre_BwdIdeal m →
    (∀ c : Dev Cert.BwdIdeal.nD,
      m' ((c.tc : Thread Cert.RefBwdIdeal.nD Cert.RefBwdIdeal.τ).loc Cert.RefBwdIdeal.main_arg0) = m ((c.tc : Thread Cert.BwdIdeal.nD Cert.BwdIdeal.τ).loc Cert.BwdIdeal.main_arg0)
      ∧ m' ((c.tc : Thread Cert.RefBwdIdeal.nD Cert.RefBwdIdeal.τ).loc Cert.RefBwdIdeal.main_arg1) = m ((c.tc : Thread Cert.BwdIdeal.nD Cert.BwdIdeal.τ).loc Cert.BwdIdeal.main_arg1)
      ∧ m' ((c.tc : Thread Cert.RefBwdIdeal.nD Cert.RefBwdIdeal.τ).loc Cert.RefBwdIdeal.main_arg2) = m ((c.tc : Thread Cert.BwdIdeal.nD Cert.BwdIdeal.τ).loc Cert.BwdIdeal.main_arg2)
      ∧ m' ((c.tc : Thread Cert.RefBwdIdeal.nD Cert.RefBwdIdeal.τ).loc Cert.RefBwdIdeal.main_arg3) = m ((c.tc : Thread Cert.BwdIdeal.nD Cert.BwdIdeal.τ).loc Cert.BwdIdeal.main_arg3)) →
    ∃ (v0 : (c : Dev Cert.BwdIdeal.nD) → Buf (Elt Ideal) ((c.tc : Thread Cert.BwdIdeal.nD Cert.BwdIdeal.τ).loc Cert.BwdIdeal.main_v0_0)) (v1 : (c : Dev Cert.BwdIdeal.nD) → Buf (Elt Ideal) ((c.tc : Thread Cert.BwdIdeal.nD Cert.BwdIdeal.τ).loc Cert.BwdIdeal.main_v0_1)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v0_0) = v0 c
          ∧ r.2.mem ((c.tc : Thread Cert.BwdIdeal.nD Cert.BwdIdeal.τ).loc Cert.BwdIdeal.main_v0_1) = v1 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ θ_run (Cert.RefBwdIdeal.defs (F := Ideal)) (onTc (τ := Cert.RefBwdIdeal.τ) (Cert.RefBwdIdeal.main (F := Ideal))) ⟨m', fun _ => 0, g'⟩ (fun r => ∀ c : Dev Cert.RefBwdIdeal.nD,
          r.2.mem ((c.tc : Thread Cert.RefBwdIdeal.nD Cert.RefBwdIdeal.τ).loc Cert.RefBwdIdeal.main_v3) = v0 c
          ∧ r.2.mem ((c.tc : Thread Cert.RefBwdIdeal.nD Cert.RefBwdIdeal.τ).loc Cert.RefBwdIdeal.main_v7) = v1 c
          ∧ r.2.mem ((c.tc : Thread Cert.RefBwdIdeal.nD Cert.RefBwdIdeal.τ).loc Cert.RefBwdIdeal.main_arg0) = m' ((c.tc : Thread Cert.RefBwdIdeal.nD Cert.RefBwdIdeal.τ).loc Cert.RefBwdIdeal.main_arg0)
          ∧ r.2.mem ((c.tc : Thread Cert.RefBwdIdeal.nD Cert.RefBwdIdeal.τ).loc Cert.RefBwdIdeal.main_arg1) = m' ((c.tc : Thread Cert.RefBwdIdeal.nD Cert.RefBwdIdeal.τ).loc Cert.RefBwdIdeal.main_arg1)
          ∧ r.2.mem ((c.tc : Thread Cert.RefBwdIdeal.nD Cert.RefBwdIdeal.τ).loc Cert.RefBwdIdeal.main_arg2) = m' ((c.tc : Thread Cert.RefBwdIdeal.nD Cert.RefBwdIdeal.τ).loc Cert.RefBwdIdeal.main_arg2)
          ∧ r.2.mem ((c.tc : Thread Cert.RefBwdIdeal.nD Cert.RefBwdIdeal.τ).loc Cert.RefBwdIdeal.main_arg3) = m' ((c.tc : Thread Cert.RefBwdIdeal.nD Cert.RefBwdIdeal.τ).loc Cert.RefBwdIdeal.main_arg3))

def Claim : Prop :=
  ∃ (hFwd : Cert.Fwd.Facts) (hFwdIdeal : Cert.FwdIdeal.Facts) (hRefFwdIdeal : Cert.RefFwdIdeal.Facts) (hBwd : Cert.Bwd.Facts) (hBwdIdeal : Cert.BwdIdeal.Facts) (hRefBwdIdeal : Cert.RefBwdIdeal.Facts),
    quiescent_Fwd (hFwd := hFwd)
    ∧ quiescent_FwdIdeal (hFwdIdeal := hFwdIdeal)
    ∧ quiescent_RefFwdIdeal (hRefFwdIdeal := hRefFwdIdeal)
    ∧ quiescent_Bwd (hBwd := hBwd)
    ∧ quiescent_BwdIdeal (hBwdIdeal := hBwdIdeal)
    ∧ quiescent_RefBwdIdeal (hRefBwdIdeal := hRefBwdIdeal)
    ∧ preserves_Fwd_FwdIdeal
    ∧ preserves_Bwd_BwdIdeal
    ∧ algebraic_FwdIdeal_RefFwdIdeal (hFwdIdeal := hFwdIdeal) (hRefFwdIdeal := hRefFwdIdeal)
    ∧ algebraic_BwdIdeal_RefBwdIdeal (hBwdIdeal := hBwdIdeal) (hRefBwdIdeal := hRefBwdIdeal)
-- ==== Fwd.lean ====
abbrev S4x256x16384 : Shape := ⟨3, ![4, 256, 16384]⟩
abbrev S5120x16384 : Shape := ⟨2, ![5120, 16384]⟩
abbrev S5120 : Shape := ⟨1, ![5120]⟩
abbrev S32x16384 : Shape := ⟨2, ![32, 16384]⟩
abbrev S5120x32 : Shape := ⟨2, ![5120, 32]⟩
abbrev S4x256x5120 : Shape := ⟨3, ![4, 256, 5120]⟩
abbrev S4x256 : Shape := ⟨2, ![4, 256]⟩
abbrev S1024x16384 : Shape := ⟨2, ![1024, 16384]⟩
abbrev S1024x5120 : Shape := ⟨2, ![1024, 5120]⟩
abbrev S1x5120 : Shape := ⟨2, ![1, 5120]⟩
abbrev S32x5120 : Shape := ⟨2, ![32, 5120]⟩
abbrev S1x1024 : Shape := ⟨2, ![1, 1024]⟩
abbrev S1056x5120 : Shape := ⟨2, ![1056, 5120]⟩
abbrev S1024x32 : Shape := ⟨2, ![1024, 32]⟩
abbrev S32x1024 : Shape := ⟨2, ![32, 1024]⟩
abbrev S1024x2048 : Shape := ⟨2, ![1024, 2048]⟩
abbrev S32x2048 : Shape := ⟨2, ![32, 2048]⟩
abbrev S1024x1024 : Shape := ⟨2, ![1024, 1024]⟩
abbrev S1056x1024 : Shape := ⟨2, ![1056, 1024]⟩
abbrev S1024x128 : Shape := ⟨2, ![1024, 128]⟩
abbrev S128x1024 : Shape := ⟨2, ![128, 1024]⟩
abbrev S1056x2048 : Shape := ⟨2, ![1056, 2048]⟩
abbrev S256x32 : Shape := ⟨2, ![256, 32]⟩
abbrev S256x2048 : Shape := ⟨2, ![256, 2048]⟩
abbrev S256x128 : Shape := ⟨2, ![256, 128]⟩
abbrev S1056x256 : Shape := ⟨2, ![1056, 256]⟩
abbrev S1024 : Shape := ⟨1, ![1024]⟩
abbrev S1024x256 : Shape := ⟨2, ![1024, 256]⟩
abbrev S256 : Shape := ⟨1, ![256]⟩
abbrev S1x256 : Shape := ⟨2, ![1, 256]⟩
abbrev S32x256 : Shape := ⟨2, ![32, 256]⟩

abbrev nBuf : Space → Nat
  | .hbm => 22
  | .vmem => 37
  | .smem => 0
  | _ => 0

abbrev bufTy : (tb : Table) → Fin (tcTables nBuf tb) → BufTy
  | .hbm, ⟨0, _⟩ => ⟨S4x256x16384, .bf16⟩
  | .hbm, ⟨1, _⟩ => ⟨S5120x16384, .fp8e4m3⟩
  | .hbm, ⟨2, _⟩ => ⟨S5120, .f32⟩
  | .hbm, ⟨3, _⟩ => ⟨S32x16384, .bf16⟩
  | .hbm, ⟨4, _⟩ => ⟨S5120x32, .bf16⟩
  | .hbm, ⟨5, _⟩ => ⟨S5120, .f32⟩
  | .hbm, ⟨6, _⟩ => ⟨S4x256x5120, .fp8e5m2⟩
  | .hbm, ⟨7, _⟩ => ⟨S4x256, .f32⟩
  | .hbm, ⟨8, _⟩ => ⟨S1024x16384, .bf16⟩
  | .hbm, ⟨9, _⟩ => ⟨S1024x5120, .fp8e5m2⟩
  | .hbm, ⟨10, _⟩ => ⟨S1x5120, .f32⟩
  | .hbm, ⟨11, _⟩ => ⟨S32x5120, .bf16⟩
  | .hbm, ⟨12, _⟩ => ⟨S1x5120, .f32⟩
  | .hbm, ⟨13, _⟩ => ⟨S1x1024, .f32⟩
  | .hbm, ⟨14, _⟩ => ⟨S5120x16384, .bf16⟩
  | .hbm, ⟨15, _⟩ => ⟨S1024x5120, .bf16⟩
  | .hbm, ⟨16, _⟩ => ⟨S1056x5120, .bf16⟩
  | .hbm, ⟨17, _⟩ => ⟨S1x5120, .f32⟩
  | .hbm, ⟨18, _⟩ => ⟨S5120x32, .bf16⟩
  | .hbm, ⟨19, _⟩ => ⟨S1024x32, .bf16⟩
  | .hbm, ⟨20, _⟩ => ⟨S1024x32, .bf16⟩
  | .hbm, ⟨21, _⟩ => ⟨S32x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .fp8e4m3⟩
  | .local _ .vmem, ⟨3, _⟩ => ⟨S1024x2048, .fp8e4m3⟩
  | .local _ .vmem, ⟨4, _⟩ => ⟨S1x1024, .f32⟩
  | .local _ .vmem, ⟨5, _⟩ => ⟨S1x1024, .f32⟩
  | .local _ .vmem, ⟨6, _⟩ => ⟨S32x2048, .bf16⟩
  | .local _ .vmem, ⟨7, _⟩ => ⟨S32x2048, .bf16⟩
  | .local _ .vmem, ⟨8, _⟩ => ⟨S1024x32, .bf16⟩
  | .local _ .vmem, ⟨9, _⟩ => ⟨S1024x32, .bf16⟩
  | .local _ .vmem, ⟨10, _⟩ => ⟨S32x1024, .bf16⟩
  | .local _ .vmem, ⟨11, _⟩ => ⟨S32x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .fp8e5m2⟩
  | .local _ .vmem, ⟨15, _⟩ => ⟨S1024x1024, .fp8e5m2⟩
  | .local _ .vmem, ⟨16, _⟩ => ⟨S1x1024, .f32⟩
  | .local _ .vmem, ⟨17, _⟩ => ⟨S1024x2048, .bf16⟩
  | .local _ .vmem, ⟨18, _⟩ => ⟨S1024x2048, .bf16⟩
  | .local _ .vmem, ⟨19, _⟩ => ⟨S1024x1024, .bf16⟩
  | .local _ .vmem, ⟨20, _⟩ => ⟨S1024x1024, .bf16⟩
  | .local _ .vmem, ⟨21, _⟩ => ⟨S1056x1024, .bf16⟩
  | .local _ .vmem, ⟨22, _⟩ => ⟨S1056x1024, .bf16⟩
  | .local _ .vmem, ⟨23, _⟩ => ⟨S1x1024, .f32⟩
  | .local _ .vmem, ⟨24, _⟩ => ⟨S1x1024, .f32⟩
  | .local _ .vmem, ⟨25, _⟩ => ⟨S1024x32, .bf16⟩
  | .local _ .vmem, ⟨26, _⟩ => ⟨S1024x32, .bf16⟩
  | .local _ .vmem, ⟨27, _⟩ => ⟨S1024x32, .bf16⟩
  | .local _ .vmem, ⟨28, _⟩ => ⟨S1024x32, .bf16⟩
  | .local _ .vmem, ⟨29, _⟩ => ⟨S32x1024, .bf16⟩
  | .local _ .vmem, ⟨30, _⟩ => ⟨S1056x1024, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x32, .f32⟩
  | .local _ .vmem, ⟨35, _⟩ => ⟨S32x1024, .bf16⟩
  | .local _ .vmem, ⟨36, _⟩ => ⟨S1024x32, .f32⟩
  | _, _ => ⟨S4x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨2, ![5, 8], ![false, false]⟩

def k0_cond5 (i : grid0.Coords) : BitVec 1 :=
  let arg1 : BitVec 32 := BitVec.ofNat 32 (i 1).val
  let c7_i32_187 : BitVec 32 := 7#32
  let v592 : BitVec 1 := Scalar.cmpi .eq arg1 c7_i32_187
  let v593 : BitVec 32 := Scalar.extui v592
  let c0_i32_188 : BitVec 32 := 0#32
  let v594 : BitVec 1 := Scalar.cmpi .ne v593 c0_i32_188
  v594

def k0_cond4 (i : grid0.Coords) : BitVec 1 :=
  let arg0 : BitVec 32 := BitVec.ofNat 32 (i 0).val
  let c0_i32_185 : BitVec 32 := 0#32
  let v587 : BitVec 1 := Scalar.cmpi .eq arg0 c0_i32_185
  let arg1 : BitVec 32 := BitVec.ofNat 32 (i 1).val
  let c7_i32 : BitVec 32 := 7#32
  let v588 : BitVec 1 := Scalar.cmpi .eq arg1 c7_i32
  let v589 : BitVec 1 := Scalar.andi v587 v588
  let v590 : BitVec 32 := Scalar.extui v589
  let c0_i32_186 : BitVec 32 := 0#32
  let v591 : BitVec 1 := Scalar.cmpi .ne v590 c0_i32_186
  v591

def k0_cond6 (i : grid0.Coords) : BitVec 1 :=
  let arg0 : BitVec 32 := BitVec.ofNat 32 (i 0).val
  let c4_i32 : BitVec 32 := 4#32
  let v595 : BitVec 1 := Scalar.cmpi .eq arg0 c4_i32
  let arg1 : BitVec 32 := BitVec.ofNat 32 (i 1).val
  let c7_i32_189 : BitVec 32 := 7#32
  let v596 : BitVec 1 := Scalar.cmpi .eq arg1 c7_i32_189
  let v597 : BitVec 1 := Scalar.andi v595 v596
  let v598 : BitVec 32 := Scalar.extui v597
  let c0_i32_190 : BitVec 32 := 0#32
  let v599 : BitVec 1 := Scalar.cmpi .ne v598 c0_i32_190
  v599

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1056x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x32 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1024x32 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x32 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S32x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== RefFwdIdeal.lean ====
abbrev S4x256x16384 : Shape := ⟨3, ![4, 256, 16384]⟩
abbrev S5120x16384 : Shape := ⟨2, ![5120, 16384]⟩
abbrev S5120 : Shape := ⟨1, ![5120]⟩
abbrev S32x16384 : Shape := ⟨2, ![32, 16384]⟩
abbrev S5120x32 : Shape := ⟨2, ![5120, 32]⟩
abbrev S4x256x5120 : Shape := ⟨3, ![4, 256, 5120]⟩
abbrev S4x256 : Shape := ⟨2, ![4, 256]⟩
abbrev S1024x16384 : Shape := ⟨2, ![1024, 16384]⟩
abbrev S5120x1 : Shape := ⟨2, ![5120, 1]⟩
abbrev S1x5120 : Shape := ⟨2, ![1, 5120]⟩
abbrev S1024x5120 : Shape := ⟨2, ![1024, 5120]⟩
abbrev S1024x1 : Shape := ⟨2, ![1024, 1]⟩
abbrev S1056x5120 : Shape := ⟨2, ![1056, 5120]⟩
abbrev S1024x32 : Shape := ⟨2, ![1024, 32]⟩
abbrev S32x1024 : Shape := ⟨2, ![32, 1024]⟩
abbrev S32x5120 : Shape := ⟨2, ![32, 5120]⟩

abbrev nBuf : Space → Nat
  | .hbm => 21
  | .vmem => 16
  | .smem => 0
  | _ => 0

abbrev bufTy : (tb : Table) → Fin (tcTables nBuf tb) → BufTy
  | .hbm, ⟨0, _⟩ => ⟨S4x256x16384, .bf16⟩
  | .hbm, ⟨1, _⟩ => ⟨S5120x16384, .fp8e4m3⟩
  | .hbm, ⟨2, _⟩ => ⟨S5120, .f32⟩
  | .hbm, ⟨3, _⟩ => ⟨S32x16384, .bf16⟩
  | .hbm, ⟨4, _⟩ => ⟨S5120x32, .bf16⟩
  | .hbm, ⟨5, _⟩ => ⟨S5120, .f32⟩
  | .hbm, ⟨6, _⟩ => ⟨S4x256x5120, .fp8e5m2⟩
  | .hbm, ⟨7, _⟩ => ⟨S4x256, .f32⟩
  | .hbm, ⟨8, _⟩ => ⟨S1024x16384, .bf16⟩
  | .hbm, ⟨9, _⟩ => ⟨S5120x1, .f32⟩
  | .hbm, ⟨10, _⟩ => ⟨S1x5120, .f32⟩
  | .hbm, ⟨11, _⟩ => ⟨S1024x5120, .fp8e5m2⟩
  | .hbm, ⟨12, _⟩ => ⟨S1024x1, .f32⟩
  | .hbm, ⟨13, _⟩ => ⟨S5120x16384, .bf16⟩
  | .hbm, ⟨14, _⟩ => ⟨S1024x5120, .bf16⟩
  | .hbm, ⟨15, _⟩ => ⟨S1056x5120, .bf16⟩
  | .hbm, ⟨16, _⟩ => ⟨S1x5120, .f32⟩
  | .hbm, ⟨17, _⟩ => ⟨S5120x32, .bf16⟩
  | .hbm, ⟨18, _⟩ => ⟨S1024x32, .bf16⟩
  | .hbm, ⟨19, _⟩ => ⟨S1024x32, .bf16⟩
  | .hbm, ⟨20, _⟩ => ⟨S32x1024, .bf16⟩
  | .local _ .vmem, ⟨0, _⟩ => ⟨S1024x16384, .bf16⟩
  | .local _ .vmem, ⟨1, _⟩ => ⟨S5120x16384, .fp8e4m3⟩
  | .local _ .vmem, ⟨2, _⟩ => ⟨S5120x1, .f32⟩
  | .local _ .vmem, ⟨3, _⟩ => ⟨S32x16384, .bf16⟩
  | .local _ .vmem, ⟨4, _⟩ => ⟨S5120x32, .bf16⟩
  | .local _ .vmem, ⟨5, _⟩ => ⟨S1x5120, .f32⟩
  | .local _ .vmem, ⟨6, _⟩ => ⟨S1024x5120, .fp8e5m2⟩
  | .local _ .vmem, ⟨7, _⟩ => ⟨S1024x1, .f32⟩
  | .local _ .vmem, ⟨8, _⟩ => ⟨S5120x16384, .bf16⟩
  | .local _ .vmem, ⟨9, _⟩ => ⟨S1024x5120, .bf16⟩
  | .local _ .vmem, ⟨10, _⟩ => ⟨S1056x5120, .bf16⟩
  | .local _ .vmem, ⟨11, _⟩ => ⟨S1x5120, .f32⟩
  | .local _ .vmem, ⟨12, _⟩ => ⟨S5120x32, .bf16⟩
  | .local _ .vmem, ⟨13, _⟩ => ⟨S1024x32, .bf16⟩
  | .local _ .vmem, ⟨14, _⟩ => ⟨S1024x32, .bf16⟩
  | .local _ .vmem, ⟨15, _⟩ => ⟨S32x1024, .bf16⟩
  | _, _ => ⟨S4x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev main_v5_7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1024x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x5120 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x16384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x5120 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1056x5120 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x5120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S5120x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x32 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Bwd.lean ====
abbrev S1056x5120 : Shape := ⟨2, ![1056, 5120]⟩
abbrev S5120x16384 : Shape := ⟨2, ![5120, 16384]⟩
abbrev S1024x16384 : Shape := ⟨2, ![1024, 16384]⟩
abbrev S32x1024 : Shape := ⟨2, ![32, 1024]⟩
abbrev S32x16384 : Shape := ⟨2, ![32, 16384]⟩
abbrev S5120x1024 : Shape := ⟨2, ![5120, 1024]⟩
abbrev S1024x1024 : Shape := ⟨2, ![1024, 1024]⟩
abbrev S1056x1024 : Shape := ⟨2, ![1056, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1056x5120, .bf16⟩
  | .hbm, ⟨1, _⟩ => ⟨S5120x16384, .bf16⟩
  | .hbm, ⟨2, _⟩ => ⟨S1024x16384, .bf16⟩
  | .hbm, ⟨3, _⟩ => ⟨S32x1024, .bf16⟩
  | .hbm, ⟨4, _⟩ => ⟨S1024x16384, .bf16⟩
  | .hbm, ⟨5, _⟩ => ⟨S32x16384, .bf16⟩
  | .local _ .vmem, ⟨0, _⟩ => ⟨S1056x5120, .bf16⟩
  | .local _ .vmem, ⟨1, _⟩ => ⟨S5120x1024, .bf16⟩
  | .local _ .vmem, ⟨2, _⟩ => ⟨S5120x1024, .bf16⟩
  | .local _ .vmem, ⟨3, _⟩ => ⟨S1024x1024, .bf16⟩
  | .local _ .vmem, ⟨4, _⟩ => ⟨S1024x1024, .bf16⟩
  | .local _ .vmem, ⟨5, _⟩ => ⟨S32x1024, .bf16⟩
  | .local _ .vmem, ⟨6, _⟩ => ⟨S1024x1024, .bf16⟩
  | .local _ .vmem, ⟨7, _⟩ => ⟨S1024x1024, .bf16⟩
  | .local _ .vmem, ⟨8, _⟩ => ⟨S32x1024, .bf16⟩
  | .local _ .vmem, ⟨9, _⟩ => ⟨S32x1024, .bf16⟩
  | _, _ => ⟨S1056x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1056x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefBwdIdeal.lean ====
abbrev S1056x5120 : Shape := ⟨2, ![1056, 5120]⟩
abbrev S5120x16384 : Shape := ⟨2, ![5120, 16384]⟩
abbrev S1024x16384 : Shape := ⟨2, ![1024, 16384]⟩
abbrev S32x1024 : Shape := ⟨2, ![32, 1024]⟩
abbrev S1024x5120 : Shape := ⟨2, ![1024, 5120]⟩
abbrev S32x5120 : Shape := ⟨2, ![32, 5120]⟩
abbrev S32x16384 : Shape := ⟨2, ![32, 16384]⟩

abbrev nBuf : Space → Nat
  | .hbm => 12
  | .vmem => 0
  | .smem => 0
  | _ => 0

abbrev bufTy : (tb : Table) → Fin (tcTables nBuf tb) → BufTy
  | .hbm, ⟨0, _⟩ => ⟨S1056x5120, .bf16⟩
  | .hbm, ⟨1, _⟩ => ⟨S5120x16384, .bf16⟩
  | .hbm, ⟨2, _⟩ => ⟨S1024x16384, .bf16⟩
  | .hbm, ⟨3, _⟩ => ⟨S32x1024, .bf16⟩
  | .hbm, ⟨4, _⟩ => ⟨S1024x5120, .bf16⟩
  | .hbm, ⟨5, _⟩ => ⟨S32x5120, .bf16⟩
  | .hbm, ⟨6, _⟩ => ⟨S1024x16384, .f32⟩
  | .hbm, ⟨7, _⟩ => ⟨S1024x16384, .bf16⟩
  | .hbm, ⟨8, _⟩ => ⟨S32x16384, .f32⟩
  | .hbm, ⟨9, _⟩ => ⟨S32x16384, .f32⟩
  | .hbm, ⟨10, _⟩ => ⟨S32x16384, .f32⟩
  | .hbm, ⟨11, _⟩ => ⟨S32x16384, .bf16⟩
  | _, _ => ⟨S1056x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Back.Value.lean ====
/-
  Hand-written, untrusted. THE VALUE OF THE SECOND CALL (`dora_bwd`, program `BwdIdeal`) over the extended reals: the two
  result arrays after the run are the reference's terms of the argument arrays. Grid point `t` computes columns
  `1024 t … 1024 t + 1023` of both results from the same columns of `v` and `x2`; no sum is cut, so block by block the
  kernel's payload IS the reference's term read at the block's place in the array.
-/
module

public import proofs.«01_k».proof.Defs
public import proofs.«01_k».proof.Proof.Gen.BwdIdeal.Value
public import proofs.«01_k».proof.Proof.Gen.RefBwdIdeal.Run
public import Idealize.ShloMosaic.Lib.Pointwise

@[expose] public section

set_option maxRecDepth 16384

noncomputable section

namespace Cert.BwdIdeal.Back

open Cert.BwdIdeal Cert.BwdIdeal.Gen Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The first result: the rows `0 … 1023` of `gk` times `v`. -/
def DX (gk : Vec Ideal S1056x5120 .bf16) (v : Vec Ideal S5120x16384 .bf16) : Vec Ideal S1024x16384 .bf16 :=
  fun j => ∑ k : Fin 5120, gk (ix2 ⟨(j 0).val, Nat.lt_trans (j 0).isLt (by decide)⟩ k) * v (ix2 k (j 1))

/-- The second result: `gbt` times `x2`, less the rows `1024 … 1055` of `gk` times `v`. -/
def DLA (gk : Vec Ideal S1056x5120 .bf16) (v : Vec Ideal S5120x16384 .bf16) (x2 : Vec Ideal S1024x16384 .bf16)
    (gbt : Vec Ideal S32x1024 .bf16) : Vec Ideal S32x16384 .bf16 :=
  fun j => (∑ k : Fin 1024, gbt (ix2 (j 0) k) * x2 (ix2 k (j 1)))
    - ∑ k : Fin 5120, gk (ix2 ⟨1024 + (j 0).val, Nat.add_lt_add_left (j 0).isLt 1024⟩ k) * v (ix2 k (j 1))

/-- Where the windows stand at point `t`. -/
theorem idx_eq : ∀ t : Fin cfg0.N, (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = 0)
    ∧ (win0_4.index t 0 = 0 ∧ win0_4.index t 1 = t.val) ∧ (win0_5.index t 0 = 0 ∧ win0_5.index t 1 = t.val) :=
  (by decide +kernel : ∀ t : Fin grid0.N, (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = 0)
    ∧ (win0_4.index t 0 = 0 ∧ win0_4.index t 1 = t.val) ∧ (win0_5.index t 0 = 0 ∧ win0_5.index t 1 = t.val))

theorem lt16 (t : Fin cfg0.N) : t.val < 16 := t.isLt

/-- The windows' blocks at point `t`, read at an index. -/
theorem iblk0 (c : Dev nD) (t : Fin cfg0.N) (r : Fin 1056) (k : Fin 5120) :
    (iblk m c 0 t : Vec Ideal S1056x5120 .bf16) (ix2 r k) = m ((c : Thread nD τ).loc main_arg0) (ix2 r k) := by
  obtain ⟨⟨h0, h1⟩, -⟩ := idx_eq t
  unfold iblk
  rw [View.read_apply]
  show m _ _ = m _ _
  congr 1; funext a; apply Fin.ext
  match a with
  | ⟨0, _⟩ => show win0_0.index t 0 * 1056 + 1 * r.val = r.val; rw [h0]; omega
  | ⟨1, _⟩ => show win0_0.index t 1 * 5120 + 1 * k.val = k.val; rw [h1]; omega

theorem iblk1 (c : Dev nD) (t : Fin cfg0.N) (k : Fin 5120) (l : Fin 1024) :
    (iblk m c 1 t : Vec Ideal S5120x1024 .bf16) (ix2 k l) = m ((c : Thread nD τ).loc main_arg1) (ix2 k ⟨t.val * 1024 + l.val, by have := lt16 t; omega⟩) := by
  obtain ⟨-, ⟨h0, h1⟩, -⟩ := idx_eq t
  unfold iblk
  rw [View.read_apply]
  show m _ _ = m _ _
  congr 1; funext a; apply Fin.ext
  match a with
  | ⟨0, _⟩ => show win0_1.index t 0 * 5120 + 1 * k.val = k.val; rw [h0]; omega
  | ⟨1, _⟩ => show win0_1.index t 1 * 1024 + 1 * l.val = t.val * 1024 + l.val; rw [h1]; omega

theorem iblk2 (c : Dev nD) (t : Fin cfg0.N) (k : Fin 1024) (l : Fin 1024) :
    (iblk m c 2 t : Vec Ideal S1024x1024 .bf16) (ix2 k l) = m ((c : Thread nD τ).loc main_arg2) (ix2 k ⟨t.val * 1024 + l.val, by have := lt16 t; omega⟩) := by
  obtain ⟨-, -, ⟨h0, h1⟩, -⟩ := idx_eq t
  unfold iblk
  rw [View.read_apply]
  show m _ _ = m _ _
  congr 1; funext a; apply Fin.ext
  match a with
  | ⟨0, _⟩ => show win0_2.index t 0 * 1024 + 1 * k.val = k.val; rw [h0]; omega
  | ⟨1, _⟩ => show win0_2.index t 1 * 1024 + 1 * l.val = t.val * 1024 + l.val; rw [h1]; omega

theorem iblk3 (c : Dev nD) (t : Fin cfg0.N) (r : Fin 32) (k : Fin 1024) :
    (iblk m c 3 t : Vec Ideal S32x1024 .bf16) (ix2 r k) = m ((c : Thread nD τ).loc main_arg3) (ix2 r k) := by
  obtain ⟨-, -, -, ⟨h0, h1⟩, -⟩ := idx_eq t
  unfold iblk
  rw [View.read_apply]
  show m _ _ = m _ _
  congr 1; funext a; apply Fin.ext
  match a with
  | ⟨0, _⟩ => show win0_3.index t 0 * 32 + 1 * r.val = r.val; rw [h0]; omega
  | ⟨1, _⟩ => show win0_3.index t 1 * 1024 + 1 * k.val = k.val; rw [h1]; omega

/-- The payload of the first result at an index. -/
theorem pay2_apply (A : Vec Ideal S1056x5120 .bf16) (B : Vec Ideal S5120x1024 .bf16) (r : Fin 1024) (l : Fin 1024) :
    k0_pay2 A B (ix2 r l) = ∑ k : Fin 5120, A (ix2 ⟨r.val, by omega⟩ k) * B (ix2 k l) := by
  pointwise! [k0_pay2, k0_pay1]

/-- The payload of the second result at an index. -/
theorem pay3_apply (A : Vec Ideal S1056x5120 .bf16) (B : Vec Ideal S5120x1024 .bf16) (C : Vec Ideal S32x1024 .bf16)
    (D : Vec Ideal S1024x1024 .bf16) (r : Fin 32) (l : Fin 1024) :
    k0_pay3 A B C D (ix2 r l) = (∑ k : Fin 1024, C (ix2 r k) * D (ix2 k l))
      - ∑ k : Fin 5120, A (ix2 ⟨1024 + r.val, by omega⟩ k) * B (ix2 k l) := by
  pointwise! [k0_pay3, k0_pay1]

/-- Each whole-buffer load reads its block and the one covering store leaves its payload. -/
theorem out4_eq (x0 : Vec Ideal S1056x5120 .bf16) (x1 : Vec Ideal S5120x1024 .bf16) (x2 : Vec Ideal S1024x1024 .bf16) (x3 : Vec Ideal S32x1024 .bf16) :
    out0_4 (F := Ideal) x0 x1 x2 x3 = k0_pay2 x0 x1 := by
  unfold out0_4
  rw [View.canon_unit_zero hz, View.ld_unit_zero (S := S1056x5120) hz, View.ld_unit_zero (S := S5120x1024) hz]

theorem out5_eq (x0 : Vec Ideal S1056x5120 .bf16) (x1 : Vec Ideal S5120x1024 .bf16) (x2 : Vec Ideal S1024x1024 .bf16) (x3 : Vec Ideal S32x1024 .bf16) :
    out0_5 (F := Ideal) x0 x1 x2 x3 = k0_pay3 x0 x1 x3 x2 := by
  unfold out0_5
  rw [View.canon_unit_zero hz, View.ld_unit_zero (S := S1056x5120) hz, View.ld_unit_zero (S := S5120x1024) hz, View.ld_unit_zero (S := S32x1024) hz,
    View.ld_unit_zero (S := S1024x1024) hz]

/-- The first result array after the run. -/
abbrev dx (c : Dev nD) : Buf (Elt Ideal) ((c : Thread nD τ).loc main_v0_0) :=
  DX (m ((c : Thread nD τ).loc main_arg0)) (m ((c : Thread nD τ).loc main_arg1))

/-- The second result array after the run. -/
abbrev dla (c : Dev nD) : Buf (Elt Ideal) ((c : Thread nD τ).loc main_v0_1) :=
  DLA (m ((c : Thread nD τ).loc main_arg0)) (m ((c : Thread nD τ).loc main_arg1)) (m ((c : Thread nD τ).loc main_arg2))
    (m ((c : Thread nD τ).loc main_arg3))

theorem flushed4_eq (c : Dev nD) (t : Fin cfg0.N) :
    (dats m 0 c).flushed 4 t = ((cfg0.win 4).blk t).view.read (Elt Ideal) (dx m c) := by
  obtain ⟨-, -, -, -, ⟨h0, h1⟩, -⟩ := idx_eq t
  rw [Value.flushed4, out4_eq]
  funext j
  obtain ⟨r, l, rfl⟩ : ∃ (r : Fin 1024) (l : Fin 1024), j = ix2 r l := ⟨j 0, j 1, eq_ix2 j⟩
  rw [View.read_apply]
  show (k0_pay2 (F := Ideal) _ _ (ix2 r l) : EReal) = dx m c _
  rw [pay2_apply]
  have e : ((cfg0.win 4).blk t).view.emb (ix2 r l) = (ix2 r ⟨t.val * 1024 + l.val, by have := lt16 t; omega⟩ : S1024x16384.Idx) := by
    funext a; apply Fin.ext
    match a with
    | ⟨0, _⟩ => show win0_4.index t 0 * 1024 + 1 * r.val = r.val; rw [h0]; omega
    | ⟨1, _⟩ => show win0_4.index t 1 * 1024 + 1 * l.val = t.val * 1024 + l.val; rw [h1]; omega
  rw [e]
  exact Finset.sum_congr rfl fun k _ => by rw [iblk0, iblk1]; rfl

theorem flushed5_eq (c : Dev nD) (t : Fin cfg0.N) :
    (dats m 0 c).flushed 5 t = ((cfg0.win 5).blk t).view.read (Elt Ideal) (dla m c) := by
  obtain ⟨-, -, -, -, -, h0, h1⟩ := idx_eq t
  rw [Value.flushed5, out5_eq]
  funext j
  obtain ⟨r, l, rfl⟩ : ∃ (r : Fin 32) (l : Fin 1024), j = ix2 r l := ⟨j 0, j 1, eq_ix2 j⟩
  rw [View.read_apply]
  show (k0_pay3 (F := Ideal) _ _ _ _ (ix2 r l) : EReal) = dla m c _
  rw [pay3_apply]
  have e : ((cfg0.win 5).blk t).view.emb (ix2 r l) = (ix2 r ⟨t.val * 1024 + l.val, by have := lt16 t; omega⟩ : S32x16384.Idx) := by
    funext a; apply Fin.ext
    match a with
    | ⟨0, _⟩ => show win0_5.index t 0 * 32 + 1 * r.val = r.val; rw [h0]; omega
    | ⟨1, _⟩ => show win0_5.index t 1 * 1024 + 1 * l.val = t.val * 1024 + l.val; rw [h1]; omega
  rw [e]
  refine congrArg₂ _ (Finset.sum_congr rfl fun k _ => ?_) (Finset.sum_congr rfl fun k _ => ?_)
  · rw [iblk3, iblk2]; rfl
  · rw [iblk0, iblk1]; rfl

theorem final4 (c : Dev nD) : (dats m 0 c).arrAt 4 cfg0.N = dx m c :=
  (dats m 0 c).arrAt_eq_of_cover 4 (dx m c) (fun t _ => flushed4_eq m c t) fun i => by
    have hi0 : (i 0 : Nat) < 1024 := (i 0).isLt
    have hi1 : (i 1 : Nat) < 16384 := (i 1).isLt
    let t : Fin cfg0.N := ⟨(i 1 : Nat) / 1024, by show _ < 16; omega⟩
    obtain ⟨-, -, -, -, ⟨h0, h1⟩, -⟩ := idx_eq t
    refine ⟨t, (by decide +kernel : ∀ t : Fin grid0.N, win0_4.flush t = true) t, ?_⟩
    show i ∈ ((View.whole main_v0_0).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024; rw [h0]; omega
    | ⟨1, _⟩ => show win0_4.index t 1 * 1024 ≤ (i 1 : Nat) ∧ (i 1 : Nat) < win0_4.index t 1 * 1024 + 1024
                rw [h1]; show (i 1 : Nat) / 1024 * 1024 ≤ _ ∧ _ < (i 1 : Nat) / 1024 * 1024 + 1024; omega

theorem final5 (c : Dev nD) : (dats m 0 c).arrAt 5 cfg0.N = dla m c :=
  (dats m 0 c).arrAt_eq_of_cover 5 (dla m c) (fun t _ => flushed5_eq m c t) fun i => by
    have hi0 : (i 0 : Nat) < 32 := (i 0).isLt
    have hi1 : (i 1 : Nat) < 16384 := (i 1).isLt
    let t : Fin cfg0.N := ⟨(i 1 : Nat) / 1024, by show _ < 16; omega⟩
    obtain ⟨-, -, -, -, -, h0, h1⟩ := idx_eq t
    refine ⟨t, (by decide +kernel : ∀ t : Fin grid0.N, win0_5.flush t = true) t, ?_⟩
    show i ∈ ((View.whole main_v0_1).slice (win0_5.rect t)).set
    rw [View.set_slice_whole, Rect.mem_set_unit]
    intro a
    match a with
    | ⟨0, _⟩ => show win0_5.index t 0 * 32 ≤ (i 0 : Nat) ∧ (i 0 : Nat) < win0_5.index t 0 * 32 + 32; rw [h0]; omega
    | ⟨1, _⟩ => show win0_5.index t 1 * 1024 ≤ (i 1 : Nat) ∧ (i 1 : Nat) < win0_5.index t 1 * 1024 + 1024
                rw [h1]; show (i 1 : Nat) / 1024 * 1024 ≤ _ ∧ _ < (i 1 : Nat) / 1024 * 1024 + 1024; omega

end Cert.BwdIdeal.Back

/-! ## The reference's terms are the same functions of the arguments -/

namespace Cert.RefBwdIdeal.Back

open Cert.RefBwdIdeal Cert.RefBwdIdeal.Gen Idealize.ShloMosaic Idealize.ShloMosaic.TcCoe Idealize.SL.Sem

theorem dx_eq (gk : FVec Ideal S1056x5120 .bf16) (v : FVec Ideal S5120x16384 .bf16) :
    truncf .bf16 (Host.dotGeneral (F := Ideal) (φ₁ := .bf16) (φ₂ := .bf16) dot_S1024x5120_S5120x16384_S1024x16384_1_0_0_1_n_n none
      (extractStridedSlice S1024x5120 ![0, 0] gk slices_S1056x5120_S1024x5120_0_0) v) bitsLt_bf16_f32 = Cert.BwdIdeal.Back.DX gk v := by
  funext j
  obtain ⟨r, l, rfl⟩ : ∃ (r : Fin 1024) (l : Fin 16384), j = ix2 r l := ⟨j 0, j 1, eq_ix2 j⟩
  pointwise! [Cert.BwdIdeal.Back.DX]

theorem dla_eq (gk : FVec Ideal S1056x5120 .bf16) (v : FVec Ideal S5120x16384 .bf16) (x2 : FVec Ideal S1024x16384 .bf16) (gbt : FVec Ideal S32x1024 .bf16) :
    truncf .bf16 (subf (Host.dotGeneral (F := Ideal) (φ₁ := .bf16) (φ₂ := .bf16) dot_S32x1024_S1024x16384_S32x16384_1_0_0_1_n_n none gbt x2)
      (Host.dotGeneral (F := Ideal) (φ₁ := .bf16) (φ₂ := .bf16) dot_S32x5120_S5120x16384_S32x16384_1_0_0_1_n_n none
        (extractStridedSlice S32x5120 ![1024, 0] gk slices_S1056x5120_S32x5120_1024_0) v)) bitsLt_bf16_f32
      = Cert.BwdIdeal.Back.DLA gk v x2 gbt := by
  funext j
  obtain ⟨r, l, rfl⟩ : ∃ (r : Fin 32) (l : Fin 16384), j = ix2 r l := ⟨j 0, j 1, eq_ix2 j⟩
  pointwise! [Cert.BwdIdeal.Back.DLA]

end Cert.RefBwdIdeal.Back

namespace Cert.Proof

open Idealize.ShloMosaic Idealize.ShloMosaic.TcCoe Idealize.SL.Sem

/-- The value claim of the second call. -/
theorem algebraic_back : algebraic_BwdIdeal_RefBwdIdeal := by
  intro m g m' g' _ hm
  refine ⟨Cert.BwdIdeal.Back.dx m, Cert.BwdIdeal.Back.dla m, ?_, ?_⟩
  · refine (θ_run _ _ _).mono (fun r h c => ?_) (Cert.BwdIdeal.Value.run_blocks m g)
    obtain ⟨h4, h5, h⟩ := h c
    exact ⟨h4.trans (Cert.BwdIdeal.Back.final4 m c), h5.trans (Cert.BwdIdeal.Back.final5 m c), h⟩
  · refine (θ_run _ _ _).mono (fun r h c => ?_) (Cert.RefBwdIdeal.Value.run m' g')
    obtain ⟨h3, h7, h⟩ := h c
    obtain ⟨e0, e1, e2, e3⟩ := hm c
    refine ⟨h3.trans ?_, h7.trans ?_, h⟩
    · rw [Cert.RefBwdIdeal.Back.dx_eq, e0, e1]
    · rw [Cert.RefBwdIdeal.Back.dla_eq, e0, e1, e2, e3]

end Cert.Proof

end
-- ==== Proof.Front.Kit.lean ====
/-
  Hand-written, untrusted. NAMES FOR THE FIRST CALL: the conditions of its guarded regions in closed form over the grid points, its staging
  buffers and its scratches as memory references, and the part of the pipeline's invariant that owns the scratches.
-/
module

public import proofs.«01_k».proof.Proof.Gen.FwdIdeal.Frame
public import proofs.«01_k».proof.Proof.Gen.FwdIdeal.Skeleton
public import Idealize.ShloMosaic.Lib.Pipeline.Value

@[expose] public section

set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 40 = 0 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 40 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 0#32)) 0#32) = 1#1
/-- It holds at the points before point 8 — by arithmetic of the point. -/
theorem hcond0_2 : ∀ t : Fin cfg0.N, cond0_2 (grid0.coords t) ↔ t.val < 8 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_2, e0, e1]
    word_cmp
   : ∀ t : Fin grid0.N, cond0_2 (grid0.coords t) ↔ t.val < 8)

/-- The condition of the body's `scf.if` 3 (`k0_h4`), from the grid coordinates (the skeleton's scalar
    chain substituted). -/
abbrev cond0_3 (i : grid0.Coords) : Prop := k0_cond4 i = 1#1
/-- It holds at point 7 only — by arithmetic of the point. -/
theorem hcond0_3 : ∀ t : Fin cfg0.N, cond0_3 (grid0.coords t) ↔ t.val % 40 = 7 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 40 = 7)

/-- The condition of the body's `scf.if` 4 (`k0_h5`), from the grid coordinates (the skeleton's scalar
    chain substituted). -/
abbrev cond0_4 (i : grid0.Coords) : Prop := k0_cond5 i = 1#1
/-- It holds at the points ≡ 7 (mod 8) — by arithmetic of the point. -/
theorem hcond0_4 : ∀ t : Fin cfg0.N, cond0_4 (grid0.coords t) ↔ t.val % 8 = 7 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ t.val % 8 = 7)

/-- The condition of the body's `scf.if` 5 (`k0_h6`), from the grid coordinates (the skeleton's scalar
    chain substituted). -/
abbrev cond0_5 (i : grid0.Coords) : Prop := k0_cond6 i = 1#1
/-- It holds at the last point only — by arithmetic of the point. -/
theorem hcond0_5 : ∀ t : Fin cfg0.N, cond0_5 (grid0.coords t) ↔ t.val % 40 = 39 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_5, k0_cond6, e0, e1]
    word_cmp
   : ∀ t : Fin grid0.N, cond0_5 (grid0.coords t) ↔ t.val % 40 = 39)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x32 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1056x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x32 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x32 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x32 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S32x1024 .bf16 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S1056x1024 .f32 := Memref.whole cc0_scratch0
abbrev scM0_1 : Memref sig .tc .vmem S1024x128 .f32 := Memref.whole cc0_scratch1
abbrev scM0_2 : Memref sig .tc .vmem S1024x128 .f32 := Memref.whole cc0_scratch2
abbrev scM0_3 : Memref sig .tc .vmem S1024x128 .f32 := Memref.whole cc0_scratch3
abbrev scM0_4 : Memref sig .tc .vmem S1024x32 .f32 := Memref.whole cc0_scratch4
abbrev scM0_5 : Memref sig .tc .vmem S32x1024 .bf16 := Memref.whole cc0_scratch5
abbrev scM0_6 : Memref sig .tc .vmem S1024x32 .f32 := Memref.whole cc0_scratch6
/-- The scratch `arg19` the kernel carries between points, as a view: what it holds is stated through it. -/
abbrev VS0_0 : View sig .tc .vmem S1056x1024 .f32 := scM0_0.view
/-- The scratch `arg20` the kernel carries between points, as a view: what it holds is stated through it. -/
abbrev VS0_1 : View sig .tc .vmem S1024x128 .f32 := scM0_1.view
/-- The scratch `arg21` the kernel carries between points, as a view: what it holds is stated through it. -/
abbrev VS0_2 : View sig .tc .vmem S1024x128 .f32 := scM0_2.view
/-- The scratch `arg22` the kernel carries between points, as a view: what it holds is stated through it. -/
abbrev VS0_3 : View sig .tc .vmem S1024x128 .f32 := scM0_3.view
/-- The scratch `arg23` the kernel carries between points, as a view: what it holds is stated through it. -/
abbrev VS0_4 : View sig .tc .vmem S1024x32 .f32 := scM0_4.view
/-- The scratch `arg25` the kernel carries between points, as a view: what it holds is stated through it. -/
abbrev VS0_6 : View sig .tc .vmem S1024x32 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.FwdIdeal.Gen

end
-- ==== Proof.Front.Blocks.lean ====
/-
  Hand-written, untrusted. THE BODY OF THE FIRST CALL (`dora_fwd`) IN STAGES: the printed body is nine short programs in a
  row. Three guarded initialisations (`init0`, `init1`, `init2`), the main product in four strips of 256 rows (`strip s`, one
  text for the four), three guarded endings (`fin3`; `fin4`, again one text `last s` for four strips; `fin5`). `body_stages`
  states that the printed body is these stages.
-/
module

public import proofs.«01_k».proof.Proof.Front.Kit

@[expose] public section

set_option maxRecDepth 65536

noncomputable section

namespace Cert.FwdIdeal.Front

open Cert.FwdIdeal Cert.FwdIdeal.Gen
open Idealize.ShloMosaic Idealize.ShloMosaic.TcCoe Idealize.ShloMosaic.Tactic
open Idealize.SL.Sem

variable {F : FTy → Type} [FloatOps F]

/-! ## Geometry of the strips -/

theorem inbW (s : Fin 4) (c : Nat) (hc : c + 128 ≤ 2048) : ∀ a, (![256 * s.val, c] : Fin 2 → Nat) a + S256x128.size a ≤ S1024x2048.size a := by
  intro a
  match a with
  | ⟨0, _⟩ => show 256 * s.val + 256 ≤ 1024; omega
  | ⟨1, _⟩ => show c + 128 ≤ 2048; omega

theorem inbV : ∀ s : Fin 4, ∀ a, (![256 * s.val, 0] : Fin 2 → Nat) a + S256x2048.size a ≤ S1024x2048.size a := by decide
theorem inbN : ∀ s : Fin 4, ∀ a, (![256 * s.val, 0] : Fin 2 → Nat) a + S256x128.size a ≤ S1024x128.size a := by decide
theorem inbB : ∀ s : Fin 4, ∀ a, (![256 * s.val, 0] : Fin 2 → Nat) a + S256x32.size a ≤ S1024x32.size a := by decide
theorem inbZ : ∀ s : Fin 4, ∀ a, (![0, 256 * s.val] : Fin 2 → Nat) a + S1056x256.size a ≤ S1056x1024.size a := by decide
theorem inbZt : ∀ s : Fin 4, ∀ a, (![0, 256 * s.val] : Fin 2 → Nat) a + S1024x256.size a ≤ S1056x1024.size a := by decide
theorem inbZb : ∀ s : Fin 4, ∀ a, (![1024, 256 * s.val] : Fin 2 → Nat) a + S32x256.size a ≤ S1056x1024.size a := by decide
theorem inbC : ∀ s : Fin 4, ∀ a, (![0, 256 * s.val] : Fin 2 → Nat) a + S1024x256.size a ≤ S1024x1024.size a := by decide
theorem inbT : ∀ s : Fin 4, ∀ a, (![0, 256 * s.val] : Fin 2 → Nat) a + S32x256.size a ≤ S32x1024.size a := by decide
theorem inbM : ∀ s : Fin 4, ∀ a, (![0, 256 * s.val] : Fin 2 → Nat) a + S1x256.size a ≤ S1x1024.size a := by decide
theorem pkV : ∀ s : Fin 4, (Rect.unit (s := S1024x2048) ![256 * s.val, 0] S256x2048.size (inbV s)).PackedRows (EltTy.packing .bf16) := by decide
theorem pkB : ∀ s : Fin 4, (Rect.unit (s := S1024x32) ![256 * s.val, 0] S256x32.size (inbB s)).PackedRows (EltTy.packing .bf16) := by decide
theorem pkC : ∀ s : Fin 4, (Rect.unit (s := S1024x1024) ![0, 256 * s.val] S1024x256.size (inbC s)).PackedRows (EltTy.packing .bf16) := by decide
theorem pkZt : ∀ s : Fin 4, (Rect.unit (s := S1056x1024) ![0, 256 * s.val] S1024x256.size (inbZt s)).PackedRows (EltTy.packing .bf16) := by decide
theorem pkZb : ∀ s : Fin 4, (Rect.unit (s := S1056x1024) ![1024, 256 * s.val] S32x256.size (inbZb s)).PackedRows (EltTy.packing .bf16) := by decide
theorem slT : ∀ j : Fin 16, S256x2048.Slices ![0, 128 * j.val] S256x128 := by decide
theorem slM : ∀ s : Fin 4, S1x1024.Slices ![0, 256 * s.val] S1x256 := by decide

/-! ## What a strip of the main product computes -/

/-- Lane tile `j` of a strip of the adapted weight: code times scale plus the adapter's product. -/
def vt (ba : FVec F S256x2048 .f32) (sc : Vec F S256x128 .f32) (j : Fin 16) (w : Vec F S256x128 .fp8e4m3) : FVec F S256x128 .f32 :=
  addf (mulf (extf .f32 w bitsLt_fp8e4m3_f32) sc) (extractStridedSlice S256x128 ![0, 128 * j.val] ba (slT j))

/-- The partial sums of squares of a strip, lane by lane. -/
def sqs (ba : FVec F S256x2048 .f32) (sc p : Vec F S256x128 .f32) (w0 w1 w2 w3 w4 w5 w6 w7 w8 w9 w10 w11 w12 w13 w14 w15 : Vec F S256x128 .fp8e4m3) : FVec F S256x128 .f32 :=
  shapeCast S256x128 (addf (addf (addf (addf (addf (addf (addf (addf (addf (addf (addf (addf (addf (addf (addf (addf p (mulf (vt ba sc 0 w0) (vt ba sc 0 w0))) (mulf (vt ba sc 1 w1) (vt ba sc 1 w1))) (mulf (vt ba sc 2 w2) (vt ba sc 2 w2))) (mulf (vt ba sc 3 w3) (vt ba sc 3 w3))) (mulf (vt ba sc 4 w4) (vt ba sc 4 w4))) (mulf (vt ba sc 5 w5) (vt ba sc 5 w5))) (mulf (vt ba sc 6 w6) (vt ba sc 6 w6))) (mulf (vt ba sc 7 w7) (vt ba sc 7 w7))) (mulf (vt ba sc 8 w8) (vt ba sc 8 w8))) (mulf (vt ba sc 9 w9) (vt ba sc 9 w9))) (mulf (vt ba sc 10 w10) (vt ba sc 10 w10))) (mulf (vt ba sc 11 w11) (vt ba sc 11 w11))) (mulf (vt ba sc 12 w12) (vt ba sc 12 w12))) (mulf (vt ba sc 13 w13) (vt ba sc 13 w13))) (mulf (vt ba sc 14 w14) (vt ba sc 14 w14))) (mulf (vt ba sc 15 w15) (vt ba sc 15 w15))) shapeCasts_S256x128_S256x128

/-- The strip of the adapted weight: its sixteen tiles side by side. -/
def vcat (ba : FVec F S256x2048 .f32) (sc : Vec F S256x128 .f32) (w0 w1 w2 w3 w4 w5 w6 w7 w8 w9 w10 w11 w12 w13 w14 w15 : Vec F S256x128 .fp8e4m3) : FVec F S256x2048 .bf16 :=
  concatenate S256x2048 1 [⟨S256x128, truncf .bf16 (vt ba sc 0 w0) bitsLt_bf16_f32⟩, ⟨S256x128, truncf .bf16 (vt ba sc 1 w1) bitsLt_bf16_f32⟩, ⟨S256x128, truncf .bf16 (vt ba sc 2 w2) bitsLt_bf16_f32⟩, ⟨S256x128, truncf .bf16 (vt ba sc 3 w3) bitsLt_bf16_f32⟩, ⟨S256x128, truncf .bf16 (vt ba sc 4 w4) bitsLt_bf16_f32⟩, ⟨S256x128, truncf .bf16 (vt ba sc 5 w5) bitsLt_bf16_f32⟩, ⟨S256x128, truncf .bf16 (vt ba sc 6 w6) bitsLt_bf16_f32⟩, ⟨S256x128, truncf .bf16 (vt ba sc 7 w7) bitsLt_bf16_f32⟩, ⟨S256x128, truncf .bf16 (vt ba sc 8 w8) bitsLt_bf16_f32⟩, ⟨S256x128, truncf .bf16 (vt ba sc 9 w9) bitsLt_bf16_f32⟩, ⟨S256x128, truncf .bf16 (vt ba sc 10 w10) bitsLt_bf16_f32⟩, ⟨S256x128, truncf .bf16 (vt ba sc 11 w11) bitsLt_bf16_f32⟩, ⟨S256x128, truncf .bf16 (vt ba sc 12 w12) bitsLt_bf16_f32⟩, ⟨S256x128, truncf .bf16 (vt ba sc 13 w13) bitsLt_bf16_f32⟩, ⟨S256x128, truncf .bf16 (vt ba sc 14 w14) bitsLt_bf16_f32⟩, ⟨S256x128, truncf .bf16 (vt ba sc 15 w15) bitsLt_bf16_f32⟩] concatenates_S256x128_S256x128_S256x128_S256x128_S256x128_S256x128_S256x128_S256x128_S256x128_S256x128_S256x128_S256x128_S256x128_S256x128_S256x128_S256x128_S256x2048_d1

/-- One strip's columns of the accumulator: what they held plus the rows of `x` and `lora_a` times the strip. -/
def zadd (xa : FVec F S1056x2048 .bf16) (vb : FVec F S256x2048 .bf16) (z : Vec F S1056x256 .f32) : FVec F S1056x256 .f32 :=
  shapeCast S1056x256 (addf z (matmul dot_S1056x2048_S256x2048_S1056x256_1_1_0_0_n_n none xa vb (constant S1056x256 .f32 0x00000000#32))) shapeCasts_S1056x256_S1056x256

/-! ## What a strip of the ending computes -/

def nrow (n : FVec F S1x1024 .f32) (s : Fin 4) : FVec F S1x256 .f32 := extractStridedSlice S1x256 ![0, 256 * s.val] n (slM s)

def fdm (n : FVec F S1x1024 .f32) (s : Fin 4) (z : Vec F S1024x256 .f32) (ys : Vec F S1024x128 .f32) (y : Vec F S1024x256 .fp8e5m2) : FVec F S1x256 .f32 :=
  divf (k0_pay37 z ys y) (nrow n s)

def fg (c : FVec F S1x1024 .f32) (s : Fin 4) (ys : Vec F S1024x128 .f32) (y : Vec F S1024x256 .fp8e5m2) : FVec F S1024x256 .bf16 :=
  truncf .bf16 (mulf (k0_pay36 ys y) (broadcastTo S1024x256 (nrow c s) broadcasts_S1x256_S1024x256)) bitsLt_bf16_f32

def fk (n m : FVec F S1x1024 .f32) (s : Fin 4) (dm : FVec F S1x256 .f32) : FVec F S1x256 .f32 :=
  divf (mulf (nrow m s) dm) (mulf (nrow n s) (nrow n s))

def fkb (k : FVec F S1x256 .f32) (bt : Vec F S32x256 .bf16) : FVec F S32x256 .bf16 :=
  truncf .bf16 (mulf (extf .f32 (shapeCast S32x256 bt shapeCasts_S32x256_S32x256) bitsLt_bf16_f32) (broadcastTo S32x256 k broadcasts_S1x256_S32x256)) bitsLt_bf16_f32

def fdlb (g : FVec F S1024x256 .bf16) (k : FVec F S1x256 .f32) (xt : Vec F S32x1024 .bf16) (zb : Vec F S32x256 .f32) : FVec F S256x32 .bf16 :=
  truncf .bf16 (transpose S256x32 [1, 0] (subf (matmul dot_S32x1024_S1024x256_S32x256_1_0_0_1_n_n none xt g (constant S32x256 .f32 0x00000000#32))
    (mulf (broadcastTo S32x256 k broadcasts_S1x256_S32x256) zb)) transposes_S32x256_p1_0_S256x32) bitsLt_bf16_f32

/-! ## The stages -/

/-- First grid point: the scale of `dy` as a column, the two running products at zero. -/
def init0 (i : grid0.Coords) (arg10 : Memref sig .tc .vmem S1x1024 .f32) (harg10 : arg10.IsWhole) (arg22 : Memref sig .tc .vmem S1024x128 .f32) (harg22 : arg22.IsWhole) (arg23 : Memref sig .tc .vmem S1024x32 .f32) (harg23 : arg23.IsWhole) (arg25 : Memref sig .tc .vmem S1024x32 .f32) (harg25 : arg25.IsWhole) : Prog (TpuEff nD τ sig (Elt F) Λ₀ .tc) PUnit :=
  if _h : cond0_0 i then do
    let v600 : Vec F S1x1024 .f32 ← Prog.lift (.load arg10 (Rect.unit (s := S1x1024) ![0, 0] S1x1024.size inb_S1x1024_S1x1024_0_0).toLoadRect (View.loadsAt_vmem h_S1x1024))
    let _ : Vec F S1024x128 .f32 ← Prog.lift (.load arg22 (Rect.unit (s := S1024x128) ![0, 0] S1024x128.size inb_S1024x128_S1024x128_0_0).toLoadRect (View.loadsAt_vmem h_S1024x128))
    Prog.lift (.store arg22 (Rect.unit (s := S1024x128) ![0, 0] S1024x128.size inb_S1024x128_S1024x128_0_0) (k0_pay45 v600) Finset.univ (View.stores_vmem_bits_univ h_S1024x128 rfl) (.inl rfl))
    let _ : Vec F S1024x32 .f32 ← Prog.lift (.load arg23 (Rect.unit (s := S1024x32) ![0, 0] S1024x32.size inb_S1024x32_S1024x32_0_0).toLoadRect (View.loadsAt_vmem h_S1024x32))
    Prog.lift (.store arg23 (Rect.unit (s := S1024x32) ![0, 0] S1024x32.size inb_S1024x32_S1024x32_0_0) (k0_pay46 (F := F)) Finset.univ (View.stores_vmem_bits_univ h_S1024x32 rfl) (.inl rfl))
    let _ : Vec F S1024x32 .f32 ← Prog.lift (.load arg25 (Rect.unit (s := S1024x32) ![0, 0] S1024x32.size inb_S1024x32_S1024x32_0_0).toLoadRect (View.loadsAt_vmem h_S1024x32))
    Prog.lift (.store arg25 (Rect.unit (s := S1024x32) ![0, 0] S1024x32.size inb_S1024x32_S1024x32_0_0) (k0_pay47 (F := F)) Finset.univ (View.stores_vmem_bits_univ h_S1024x32 rfl) (.inl rfl))
    pure ⟨⟩
  else pure ⟨⟩

/-- First block of a row of blocks: the scale of the weight as a column, the sums at zero. -/
def init1 (i : grid0.Coords) (arg4 : Memref sig .tc .vmem S1x1024 .f32) (harg4 : arg4.IsWhole) (arg19 : Memref sig .tc .vmem S1056x1024 .f32) (harg19 : arg19.IsWhole) (arg20 : Memref sig .tc .vmem S1024x128 .f32) (harg20 : arg20.IsWhole) (arg21 : Memref sig .tc .vmem S1024x128 .f32) (harg21 : arg21.IsWhole) : Prog (TpuEff nD τ sig (Elt F) Λ₀ .tc) PUnit :=
  if _h : cond0_1 i then do
    let v600 : Vec F S1x1024 .f32 ← Prog.lift (.load arg4 (Rect.unit (s := S1x1024) ![0, 0] S1x1024.size inb_S1x1024_S1x1024_0_0).toLoadRect (View.loadsAt_vmem h_S1x1024))
    let _ : Vec F S1024x128 .f32 ← Prog.lift (.load arg21 (Rect.unit (s := S1024x128) ![0, 0] S1024x128.size inb_S1024x128_S1024x128_0_0).toLoadRect (View.loadsAt_vmem h_S1024x128))
    Prog.lift (.store arg21 (Rect.unit (s := S1024x128) ![0, 0] S1024x128.size inb_S1024x128_S1024x128_0_0) (k0_pay48 v600) Finset.univ (View.stores_vmem_bits_univ h_S1024x128 rfl) (.inl rfl))
    let _ : Vec F S1024x128 .f32 ← Prog.lift (.load arg20 (Rect.unit (s := S1024x128) ![0, 0] S1024x128.size inb_S1024x128_S1024x128_0_0).toLoadRect (View.loadsAt_vmem h_S1024x128))
    Prog.lift (.store arg20 (Rect.unit (s := S1024x128) ![0, 0] S1024x128.size inb_S1024x128_S1024x128_0_0) (k0_pay49 (F := F)) Finset.univ (View.stores_vmem_bits_univ h_S1024x128 rfl) (.inl rfl))
    let _ : Vec F S1056x1024 .f32 ← Prog.lift (.load arg19 (Rect.unit (s := S1056x1024) ![0, 0] S1056x1024.size inb_S1056x1024_S1056x1024_0_0).toLoadRect (View.loadsAt_vmem h_S1056x1024))
    Prog.lift (.store arg19 (Rect.unit (s := S1056x1024) ![0, 0] S1056x1024.size inb_S1056x1024_S1056x1024_0_0) (k0_pay50 (F := F)) Finset.univ (View.stores_vmem_bits_univ h_S1056x1024 rfl) (.inl rfl))
    pure ⟨⟩
  else pure ⟨⟩

/-- First row of blocks: one more block of `x` times `lora_a`. -/
def init2 (i : grid0.Coords) (arg2 : Memref sig .tc .vmem S1024x2048 .bf16) (harg2 : arg2.IsWhole) (arg5 : Memref sig .tc .vmem S32x2048 .bf16) (harg5 : arg5.IsWhole) (arg23 : Memref sig .tc .vmem S1024x32 .f32) (harg23 : arg23.IsWhole) : Prog (TpuEff nD τ sig (Elt F) Λ₀ .tc) PUnit :=
  if _h : cond0_2 i then do
    let v600 : Vec F S1024x32 .f32 ← Prog.lift (.load arg23 (Rect.unit (s := S1024x32) ![0, 0] S1024x32.size inb_S1024x32_S1024x32_0_0).toLoadRect (View.loadsAt_vmem h_S1024x32))
    let v601 : Vec F S1024x2048 .bf16 ← Prog.lift (.load arg2 (Rect.unit (s := S1024x2048) ![0, 0] S1024x2048.size inb_S1024x2048_S1024x2048_0_0).toLoadRect (View.loadsAt_vmem h_S1024x2048))
    let v603 : Vec F S32x2048 .bf16 ← Prog.lift (.load arg5 (Rect.unit (s := S32x2048) ![0, 0] S32x2048.size inb_S32x2048_S32x2048_0_0).toLoadRect (View.loadsAt_vmem h_S32x2048))
    let _ : Vec F S1024x32 .f32 ← Prog.lift (.load arg23 (Rect.unit (s := S1024x32) ![0, 0] S1024x32.size inb_S1024x32_S1024x32_0_0).toLoadRect (View.loadsAt_vmem h_S1024x32))
    Prog.lift (.store arg23 (Rect.unit (s := S1024x32) ![0, 0] S1024x32.size inb_S1024x32_S1024x32_0_0) (k0_pay51 v600 v601 v603) Finset.univ (View.stores_vmem_bits_univ h_S1024x32 rfl) (.inl rfl))
    pure ⟨⟩
  else pure ⟨⟩

/-- Strip `s` of the main product. -/
def strip (arg3 : Memref sig .tc .vmem S1024x2048 .fp8e4m3) (harg3 : arg3.IsWhole) (arg6 : Memref sig .tc .vmem S1024x32 .bf16) (harg6 : arg6.IsWhole) (arg11 : Memref sig .tc .vmem S1024x2048 .bf16) (harg11 : arg11.IsWhole) (arg19 : Memref sig .tc .vmem S1056x1024 .f32) (harg19 : arg19.IsWhole) (arg20 : Memref sig .tc .vmem S1024x128 .f32) (harg20 : arg20.IsWhole) (arg21 : Memref sig .tc .vmem S1024x128 .f32) (harg21 : arg21.IsWhole) (a : Vec F S32x2048 .bf16) (xa : FVec F S1056x2048 .bf16) (s : Fin 4) : Prog (TpuEff nD τ sig (Elt F) Λ₀ .tc) PUnit := do
  let b : Vec F S256x32 .bf16 ← Prog.lift (.load arg6 (Rect.unit (s := S1024x32) ![256 * s.val, 0] S256x32.size (inbB s)).toLoadRect (View.loadsAt_vmem h_S256x32))
  let sc : Vec F S256x128 .f32 ← Prog.lift (.load arg21 (Rect.unit (s := S1024x128) ![256 * s.val, 0] S256x128.size (inbN s)).toLoadRect (View.loadsAt_vmem h_S256x128))
  let p : Vec F S256x128 .f32 ← Prog.lift (.load arg20 (Rect.unit (s := S1024x128) ![256 * s.val, 0] S256x128.size (inbN s)).toLoadRect (View.loadsAt_vmem h_S256x128))
  let w0 : Vec F S256x128 .fp8e4m3 ← Prog.lift (.load arg3 (Rect.unit (s := S1024x2048) ![256 * s.val, 0] S256x128.size (inbW s 0 (by decide))).toLoadRect (View.loadsAt_vmem h_S256x128))
  let w1 : Vec F S256x128 .fp8e4m3 ← Prog.lift (.load arg3 (Rect.unit (s := S1024x2048) ![256 * s.val, 128] S256x128.size (inbW s 128 (by decide))).toLoadRect (View.loadsAt_vmem h_S256x128))
  let w2 : Vec F S256x128 .fp8e4m3 ← Prog.lift (.load arg3 (Rect.unit (s := S1024x2048) ![256 * s.val, 256] S256x128.size (inbW s 256 (by decide))).toLoadRect (View.loadsAt_vmem h_S256x128))
  let w3 : Vec F S256x128 .fp8e4m3 ← Prog.lift (.load arg3 (Rect.unit (s := S1024x2048) ![256 * s.val, 384] S256x128.size (inbW s 384 (by decide))).toLoadRect (View.loadsAt_vmem h_S256x128))
  let w4 : Vec F S256x128 .fp8e4m3 ← Prog.lift (.load arg3 (Rect.unit (s := S1024x2048) ![256 * s.val, 512] S256x128.size (inbW s 512 (by decide))).toLoadRect (View.loadsAt_vmem h_S256x128))
  let w5 : Vec F S256x128 .fp8e4m3 ← Prog.lift (.load arg3 (Rect.unit (s := S1024x2048) ![256 * s.val, 640] S256x128.size (inbW s 640 (by decide))).toLoadRect (View.loadsAt_vmem h_S256x128))
  let w6 : Vec F S256x128 .fp8e4m3 ← Prog.lift (.load arg3 (Rect.unit (s := S1024x2048) ![256 * s.val, 768] S256x128.size (inbW s 768 (by decide))).toLoadRect (View.loadsAt_vmem h_S256x128))
  let w7 : Vec F S256x128 .fp8e4m3 ← Prog.lift (.load arg3 (Rect.unit (s := S1024x2048) ![256 * s.val, 896] S256x128.size (inbW s 896 (by decide))).toLoadRect (View.loadsAt_vmem h_S256x128))
  let w8 : Vec F S256x128 .fp8e4m3 ← Prog.lift (.load arg3 (Rect.unit (s := S1024x2048) ![256 * s.val, 1024] S256x128.size (inbW s 1024 (by decide))).toLoadRect (View.loadsAt_vmem h_S256x128))
  let w9 : Vec F S256x128 .fp8e4m3 ← Prog.lift (.load arg3 (Rect.unit (s := S1024x2048) ![256 * s.val, 1152] S256x128.size (inbW s 1152 (by decide))).toLoadRect (View.loadsAt_vmem h_S256x128))
  let w10 : Vec F S256x128 .fp8e4m3 ← Prog.lift (.load arg3 (Rect.unit (s := S1024x2048) ![256 * s.val, 1280] S256x128.size (inbW s 1280 (by decide))).toLoadRect (View.loadsAt_vmem h_S256x128))
  let w11 : Vec F S256x128 .fp8e4m3 ← Prog.lift (.load arg3 (Rect.unit (s := S1024x2048) ![256 * s.val, 1408] S256x128.size (inbW s 1408 (by decide))).toLoadRect (View.loadsAt_vmem h_S256x128))
  let w12 : Vec F S256x128 .fp8e4m3 ← Prog.lift (.load arg3 (Rect.unit (s := S1024x2048) ![256 * s.val, 1536] S256x128.size (inbW s 1536 (by decide))).toLoadRect (View.loadsAt_vmem h_S256x128))
  let w13 : Vec F S256x128 .fp8e4m3 ← Prog.lift (.load arg3 (Rect.unit (s := S1024x2048) ![256 * s.val, 1664] S256x128.size (inbW s 1664 (by decide))).toLoadRect (View.loadsAt_vmem h_S256x128))
  let w14 : Vec F S256x128 .fp8e4m3 ← Prog.lift (.load arg3 (Rect.unit (s := S1024x2048) ![256 * s.val, 1792] S256x128.size (inbW s 1792 (by decide))).toLoadRect (View.loadsAt_vmem h_S256x128))
  let w15 : Vec F S256x128 .fp8e4m3 ← Prog.lift (.load arg3 (Rect.unit (s := S1024x2048) ![256 * s.val, 1920] S256x128.size (inbW s 1920 (by decide))).toLoadRect (View.loadsAt_vmem h_S256x128))
  let _ : Vec F S256x128 .f32 ← Prog.lift (.load arg20 (Rect.unit (s := S1024x128) ![256 * s.val, 0] S256x128.size (inbN s)).toLoadRect (View.loadsAt_vmem h_S256x128))
  Prog.lift (.store arg20 (Rect.unit (s := S1024x128) ![256 * s.val, 0] S256x128.size (inbN s)) (sqs (k0_pay92 a b) sc p w0 w1 w2 w3 w4 w5 w6 w7 w8 w9 w10 w11 w12 w13 w14 w15) Finset.univ (View.stores_vmem_bits_univ h_S256x128 rfl) (.inl rfl))
  let _ : Vec F S256x2048 .bf16 ← Prog.lift (.load arg11 (Rect.unit (s := S1024x2048) ![256 * s.val, 0] S256x2048.size (inbV s)).toLoadRect (View.loadsAt_vmem h_S256x2048))
  Prog.lift (.store arg11 (Rect.unit (s := S1024x2048) ![256 * s.val, 0] S256x2048.size (inbV s)) (vcat (k0_pay92 a b) sc w0 w1 w2 w3 w4 w5 w6 w7 w8 w9 w10 w11 w12 w13 w14 w15) Finset.univ (View.stores_vmem h_S256x2048 (harg11.storeExact_slice rfl _ (pkV s)) (fun _ => rfl)) (.inl rfl))
  let z : Vec F S1056x256 .f32 ← Prog.lift (.load arg19 (Rect.unit (s := S1056x1024) ![0, 256 * s.val] S1056x256.size (inbZ s)).toLoadRect (View.loadsAt_vmem h_S1056x256))
  let _ : Vec F S1056x256 .f32 ← Prog.lift (.load arg19 (Rect.unit (s := S1056x1024) ![0, 256 * s.val] S1056x256.size (inbZ s)).toLoadRect (View.loadsAt_vmem h_S1056x256))
  Prog.lift (.store arg19 (Rect.unit (s := S1056x1024) ![0, 256 * s.val] S1056x256.size (inbZ s)) (zadd xa (vcat (k0_pay92 a b) sc w0 w1 w2 w3 w4 w5 w6 w7 w8 w9 w10 w11 w12 w13 w14 w15) z) Finset.univ (View.stores_vmem_bits_univ h_S1056x256 rfl) (.inl rfl))

/-- The main product of one block: four strips. -/
def main (arg2 : Memref sig .tc .vmem S1024x2048 .bf16) (harg2 : arg2.IsWhole) (arg3 : Memref sig .tc .vmem S1024x2048 .fp8e4m3) (harg3 : arg3.IsWhole) (arg5 : Memref sig .tc .vmem S32x2048 .bf16) (harg5 : arg5.IsWhole) (arg6 : Memref sig .tc .vmem S1024x32 .bf16) (harg6 : arg6.IsWhole) (arg11 : Memref sig .tc .vmem S1024x2048 .bf16) (harg11 : arg11.IsWhole) (arg19 : Memref sig .tc .vmem S1056x1024 .f32) (harg19 : arg19.IsWhole) (arg20 : Memref sig .tc .vmem S1024x128 .f32) (harg20 : arg20.IsWhole) (arg21 : Memref sig .tc .vmem S1024x128 .f32) (harg21 : arg21.IsWhole) : Prog (TpuEff nD τ sig (Elt F) Λ₀ .tc) PUnit := do
  let a : Vec F S32x2048 .bf16 ← Prog.lift (.load arg5 (Rect.unit (s := S32x2048) ![0, 0] S32x2048.size inb_S32x2048_S32x2048_0_0).toLoadRect (View.loadsAt_vmem h_S32x2048))
  let x : Vec F S1024x2048 .bf16 ← Prog.lift (.load arg2 (Rect.unit (s := S1024x2048) ![0, 0] S1024x2048.size inb_S1024x2048_S1024x2048_0_0).toLoadRect (View.loadsAt_vmem h_S1024x2048))
  strip arg3 harg3 arg6 harg6 arg11 harg11 arg19 harg19 arg20 harg20 arg21 harg21 a (k0_pay52 a x) 0
  strip arg3 harg3 arg6 harg6 arg11 harg11 arg19 harg19 arg20 harg20 arg21 harg21 a (k0_pay52 a x) 1
  strip arg3 harg3 arg6 harg6 arg11 harg11 arg19 harg19 arg20 harg20 arg21 harg21 a (k0_pay52 a x) 2
  strip arg3 harg3 arg6 harg6 arg11 harg11 arg19 harg19 arg20 harg20 arg21 harg21 a (k0_pay52 a x) 3

/-- End of the first row of blocks: `x` times `lora_a`, as a result and transposed for later. -/
def fin3 (i : grid0.Coords) (arg16 : Memref sig .tc .vmem S1024x32 .bf16) (harg16 : arg16.IsWhole) (arg23 : Memref sig .tc .vmem S1024x32 .f32) (harg23 : arg23.IsWhole) (arg24 : Memref sig .tc .vmem S32x1024 .bf16) (harg24 : arg24.IsWhole) : Prog (TpuEff nD τ sig (Elt F) Λ₀ .tc) PUnit :=
  if _h : k0_cond4 i = 1#1 then do
    let v600 : Vec F S1024x32 .f32 ← Prog.lift (.load arg23 (Rect.unit (s := S1024x32) ![0, 0] S1024x32.size inb_S1024x32_S1024x32_0_0).toLoadRect (View.loadsAt_vmem h_S1024x32))
    let _ : Vec F S1024x32 .bf16 ← Prog.lift (.load arg16 (Rect.unit (s := S1024x32) ![0, 0] S1024x32.size inb_S1024x32_S1024x32_0_0).toLoadRect (View.loadsAt_vmem h_S1024x32))
    Prog.lift (.store arg16 (Rect.unit (s := S1024x32) ![0, 0] S1024x32.size inb_S1024x32_S1024x32_0_0) (k0_pay205 v600) Finset.univ (View.stores_vmem h_S1024x32 (harg16.storeExact_slice rfl _ packedbf16_S1024x32_S1024x32_0_0) (fun _ => rfl)) (.inl rfl))
    let v603 : Vec F S1024x32 .f32 ← Prog.lift (.load arg23 (Rect.unit (s := S1024x32) ![0, 0] S1024x32.size inb_S1024x32_S1024x32_0_0).toLoadRect (View.loadsAt_vmem h_S1024x32))
    let _ : Vec F S32x1024 .bf16 ← Prog.lift (.load arg24 (Rect.unit (s := S32x1024) ![0, 0] S32x1024.size inb_S32x1024_S32x1024_0_0).toLoadRect (View.loadsAt_vmem h_S32x1024))
    Prog.lift (.store arg24 (Rect.unit (s := S32x1024) ![0, 0] S32x1024.size inb_S32x1024_S32x1024_0_0) (k0_pay206 v603) Finset.univ (View.stores_vmem h_S32x1024 (harg24.storeExact_slice rfl _ packedbf16_S32x1024_S32x1024_0_0) (fun _ => rfl)) (.inl rfl))
    pure ⟨⟩
  else pure ⟨⟩

/-- Strip `s` of the ending of a row of blocks. -/
def last (arg6 : Memref sig .tc .vmem S1024x32 .bf16) (harg6 : arg6.IsWhole) (arg7 : Memref sig .tc .vmem S32x1024 .bf16) (harg7 : arg7.IsWhole) (arg9 : Memref sig .tc .vmem S1024x1024 .fp8e5m2) (harg9 : arg9.IsWhole) (arg12 : Memref sig .tc .vmem S1024x1024 .bf16) (harg12 : arg12.IsWhole) (arg13 : Memref sig .tc .vmem S1056x1024 .bf16) (harg13 : arg13.IsWhole) (arg14 : Memref sig .tc .vmem S1x1024 .f32) (harg14 : arg14.IsWhole) (arg15 : Memref sig .tc .vmem S1024x32 .bf16) (harg15 : arg15.IsWhole) (arg19 : Memref sig .tc .vmem S1056x1024 .f32) (harg19 : arg19.IsWhole) (arg22 : Memref sig .tc .vmem S1024x128 .f32) (harg22 : arg22.IsWhole) (arg24 : Memref sig .tc .vmem S32x1024 .bf16) (harg24 : arg24.IsWhole) (arg25 : Memref sig .tc .vmem S1024x32 .f32) (harg25 : arg25.IsWhole) (n m c : FVec F S1x1024 .f32) (s : Fin 4) : Prog (TpuEff nD τ sig (Elt F) Λ₀ .tc) PUnit := do
  let z : Vec F S1024x256 .f32 ← Prog.lift (.load arg19 (Rect.unit (s := S1056x1024) ![0, 256 * s.val] S1024x256.size (inbZt s)).toLoadRect (View.loadsAt_vmem h_S1024x256))
  let _ : Vec F S1024x256 .bf16 ← Prog.lift (.load arg12 (Rect.unit (s := S1024x1024) ![0, 256 * s.val] S1024x256.size (inbC s)).toLoadRect (View.loadsAt_vmem h_S1024x256))
  Prog.lift (.store arg12 (Rect.unit (s := S1024x1024) ![0, 256 * s.val] S1024x256.size (inbC s)) (k0_pay35 z) Finset.univ (View.stores_vmem h_S1024x256 (harg12.storeExact_slice rfl _ (pkC s)) (fun _ => rfl)) (.inl rfl))
  let ys : Vec F S1024x128 .f32 ← Prog.lift (.load arg22 (Rect.unit (s := S1024x128) ![0, 0] S1024x128.size inb_S1024x128_S1024x128_0_0).toLoadRect (View.loadsAt_vmem h_S1024x128))
  let y : Vec F S1024x256 .fp8e5m2 ← Prog.lift (.load arg9 (Rect.unit (s := S1024x1024) ![0, 256 * s.val] S1024x256.size (inbC s)).toLoadRect (View.loadsAt_vmem h_S1024x256))
  let _ : Vec F S1x256 .f32 ← Prog.lift (.load arg14 (Rect.unit (s := S1x1024) ![0, 256 * s.val] S1x256.size (inbM s)).toLoadRect (View.loadsAt_vmem h_S1x256))
  Prog.lift (.store arg14 (Rect.unit (s := S1x1024) ![0, 256 * s.val] S1x256.size (inbM s)) (fdm n s z ys y) Finset.univ (View.stores_vmem_bits_univ h_S1x256 rfl) (.inl rfl))
  let _ : Vec F S1024x256 .bf16 ← Prog.lift (.load arg13 (Rect.unit (s := S1056x1024) ![0, 256 * s.val] S1024x256.size (inbZt s)).toLoadRect (View.loadsAt_vmem h_S1024x256))
  Prog.lift (.store arg13 (Rect.unit (s := S1056x1024) ![0, 256 * s.val] S1024x256.size (inbZt s)) (fg c s ys y) Finset.univ (View.stores_vmem h_S1024x256 (harg13.storeExact_slice rfl _ (pkZt s)) (fun _ => rfl)) (.inl rfl))
  let bt : Vec F S32x256 .bf16 ← Prog.lift (.load arg7 (Rect.unit (s := S32x1024) ![0, 256 * s.val] S32x256.size (inbT s)).toLoadRect (View.loadsAt_vmem h_S32x256))
  let _ : Vec F S32x256 .bf16 ← Prog.lift (.load arg13 (Rect.unit (s := S1056x1024) ![1024, 256 * s.val] S32x256.size (inbZb s)).toLoadRect (View.loadsAt_vmem h_S32x256))
  Prog.lift (.store arg13 (Rect.unit (s := S1056x1024) ![1024, 256 * s.val] S32x256.size (inbZb s)) (fkb (fk n m s (fdm n s z ys y)) bt) Finset.univ (View.stores_vmem h_S32x256 (harg13.storeExact_slice rfl _ (pkZb s)) (fun _ => rfl)) (.inl rfl))
  let gb : Vec F S1024x32 .f32 ← Prog.lift (.load arg25 (Rect.unit (s := S1024x32) ![0, 0] S1024x32.size inb_S1024x32_S1024x32_0_0).toLoadRect (View.loadsAt_vmem h_S1024x32))
  let b : Vec F S256x32 .bf16 ← Prog.lift (.load arg6 (Rect.unit (s := S1024x32) ![256 * s.val, 0] S256x32.size (inbB s)).toLoadRect (View.loadsAt_vmem h_S256x32))
  let _ : Vec F S1024x32 .f32 ← Prog.lift (.load arg25 (Rect.unit (s := S1024x32) ![0, 0] S1024x32.size inb_S1024x32_S1024x32_0_0).toLoadRect (View.loadsAt_vmem h_S1024x32))
  Prog.lift (.store arg25 (Rect.unit (s := S1024x32) ![0, 0] S1024x32.size inb_S1024x32_S1024x32_0_0) (k0_pay14 (fg c s ys y) gb b) Finset.univ (View.stores_vmem_bits_univ h_S1024x32 rfl) (.inl rfl))
  let xt : Vec F S32x1024 .bf16 ← Prog.lift (.load arg24 (Rect.unit (s := S32x1024) ![0, 0] S32x1024.size inb_S32x1024_S32x1024_0_0).toLoadRect (View.loadsAt_vmem h_S32x1024))
  let zb : Vec F S32x256 .f32 ← Prog.lift (.load arg19 (Rect.unit (s := S1056x1024) ![1024, 256 * s.val] S32x256.size (inbZb s)).toLoadRect (View.loadsAt_vmem h_S32x256))
  let _ : Vec F S256x32 .bf16 ← Prog.lift (.load arg15 (Rect.unit (s := S1024x32) ![256 * s.val, 0] S256x32.size (inbB s)).toLoadRect (View.loadsAt_vmem h_S256x32))
  Prog.lift (.store arg15 (Rect.unit (s := S1024x32) ![256 * s.val, 0] S256x32.size (inbB s)) (fdlb (fg c s ys y) (fk n m s (fdm n s z ys y)) xt zb) Finset.univ (View.stores_vmem h_S256x32 (harg15.storeExact_slice rfl _ (pkB s)) (fun _ => rfl)) (.inl rfl))

/-- End of a row of blocks: norm, the gradients that need the whole row. -/
def fin4 (i : grid0.Coords) (arg6 : Memref sig .tc .vmem S1024x32 .bf16) (harg6 : arg6.IsWhole) (arg7 : Memref sig .tc .vmem S32x1024 .bf16) (harg7 : arg7.IsWhole) (arg8 : Memref sig .tc .vmem S1x1024 .f32) (harg8 : arg8.IsWhole) (arg9 : Memref sig .tc .vmem S1024x1024 .fp8e5m2) (harg9 : arg9.IsWhole) (arg12 : Memref sig .tc .vmem S1024x1024 .bf16) (harg12 : arg12.IsWhole) (arg13 : Memref sig .tc .vmem S1056x1024 .bf16) (harg13 : arg13.IsWhole) (arg14 : Memref sig .tc .vmem S1x1024 .f32) (harg14 : arg14.IsWhole) (arg15 : Memref sig .tc .vmem S1024x32 .bf16) (harg15 : arg15.IsWhole) (arg19 : Memref sig .tc .vmem S1056x1024 .f32) (harg19 : arg19.IsWhole) (arg20 : Memref sig .tc .vmem S1024x128 .f32) (harg20 : arg20.IsWhole) (arg22 : Memref sig .tc .vmem S1024x128 .f32) (harg22 : arg22.IsWhole) (arg24 : Memref sig .tc .vmem S32x1024 .bf16) (harg24 : arg24.IsWhole) (arg25 : Memref sig .tc .vmem S1024x32 .f32) (harg25 : arg25.IsWhole) : Prog (TpuEff nD τ sig (Elt F) Λ₀ .tc) PUnit :=
  if _h : k0_cond5 i = 1#1 then do
    let q : Vec F S1024x128 .f32 ← Prog.lift (.load arg20 (Rect.unit (s := S1024x128) ![0, 0] S1024x128.size inb_S1024x128_S1024x128_0_0).toLoadRect (View.loadsAt_vmem h_S1024x128))
    let m : Vec F S1x1024 .f32 ← Prog.lift (.load arg8 (Rect.unit (s := S1x1024) ![0, 0] S1x1024.size inb_S1x1024_S1x1024_0_0).toLoadRect (View.loadsAt_vmem h_S1x1024))
    last arg6 harg6 arg7 harg7 arg9 harg9 arg12 harg12 arg13 harg13 arg14 harg14 arg15 harg15 arg19 harg19 arg22 harg22 arg24 harg24 arg25 harg25 (k0_pay3 q) (k0_pay4 m) (k0_pay5 q m) 0
    last arg6 harg6 arg7 harg7 arg9 harg9 arg12 harg12 arg13 harg13 arg14 harg14 arg15 harg15 arg19 harg19 arg22 harg22 arg24 harg24 arg25 harg25 (k0_pay3 q) (k0_pay4 m) (k0_pay5 q m) 1
    last arg6 harg6 arg7 harg7 arg9 harg9 arg12 harg12 arg13 harg13 arg14 harg14 arg15 harg15 arg19 harg19 arg22 harg22 arg24 harg24 arg25 harg25 (k0_pay3 q) (k0_pay4 m) (k0_pay5 q m) 2
    last arg6 harg6 arg7 harg7 arg9 harg9 arg12 harg12 arg13 harg13 arg14 harg14 arg15 harg15 arg19 harg19 arg22 harg22 arg24 harg24 arg25 harg25 (k0_pay3 q) (k0_pay4 m) (k0_pay5 q m) 3
  else pure ⟨⟩

/-- Last grid point: `g` times `lora_b`, as a result and transposed. -/
def fin5 (i : grid0.Coords) (arg17 : Memref sig .tc .vmem S1024x32 .bf16) (harg17 : arg17.IsWhole) (arg18 : Memref sig .tc .vmem S32x1024 .bf16) (harg18 : arg18.IsWhole) (arg25 : Memref sig .tc .vmem S1024x32 .f32) (harg25 : arg25.IsWhole) : Prog (TpuEff nD τ sig (Elt F) Λ₀ .tc) PUnit :=
  if _h : k0_cond6 i = 1#1 then do
    let v600 : Vec F S1024x32 .f32 ← Prog.lift (.load arg25 (Rect.unit (s := S1024x32) ![0, 0] S1024x32.size inb_S1024x32_S1024x32_0_0).toLoadRect (View.loadsAt_vmem h_S1024x32))
    let _ : Vec F S1024x32 .bf16 ← Prog.lift (.load arg17 (Rect.unit (s := S1024x32) ![0, 0] S1024x32.size inb_S1024x32_S1024x32_0_0).toLoadRect (View.loadsAt_vmem h_S1024x32))
    Prog.lift (.store arg17 (Rect.unit (s := S1024x32) ![0, 0] S1024x32.size inb_S1024x32_S1024x32_0_0) (k0_pay1 v600) Finset.univ (View.stores_vmem h_S1024x32 (harg17.storeExact_slice rfl _ packedbf16_S1024x32_S1024x32_0_0) (fun _ => rfl)) (.inl rfl))
    let v603 : Vec F S1024x32 .f32 ← Prog.lift (.load arg25 (Rect.unit (s := S1024x32) ![0, 0] S1024x32.size inb_S1024x32_S1024x32_0_0).toLoadRect (View.loadsAt_vmem h_S1024x32))
    let _ : Vec F S32x1024 .bf16 ← Prog.lift (.load arg18 (Rect.unit (s := S32x1024) ![0, 0] S32x1024.size inb_S32x1024_S32x1024_0_0).toLoadRect (View.loadsAt_vmem h_S32x1024))
    Prog.lift (.store arg18 (Rect.unit (s := S32x1024) ![0, 0] S32x1024.size inb_S32x1024_S32x1024_0_0) (k0_pay2 v603) Finset.univ (View.stores_vmem h_S32x1024 (harg18.storeExact_slice rfl _ packedbf16_S32x1024_S32x1024_0_0) (fun _ => rfl)) (.inl rfl))
    pure ⟨⟩
  else pure ⟨⟩

/-- A guarded region followed by the rest of the program. -/
theorem dite_bind {E : Type → Type _} {α β : Type} {C : Prop} (d : Decidable C) (p : C → Prog E α) (q : ¬C → Prog E α) (k : α → Prog E β) :
    (@dite _ C d p q >>= k) = @dite _ C d (fun h => p h >>= k) (fun h => q h >>= k) := by
  by_cases h : C
  · rw [dif_pos h, dif_pos h]
  · rw [dif_neg h, dif_neg h]

end Cert.FwdIdeal.Front

end
-- ==== Proof.Front.Specs.lean ====
/-
  Hand-written, untrusted. WHAT THE STAGES LEAVE, 1: the initialisations, a strip of the main product, the two endings that only copy. Each
  stage is a triple over the buffers it touches: their contents before, their contents after.
-/
module

public import proofs.«01_k».proof.Proof.Front.Blocks
public import Idealize.ShloMosaic.Lib.VecWindow
public import Idealize.ShloMosaic.Lib.Pipeline.Value

@[expose] public section

set_option maxRecDepth 16384

noncomputable section

namespace Cert.FwdIdeal.Front

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- One store over known contents leaves them with the payload put over the rectangle. -/
theorem put_one {S : Shape} {e : EltTy} {m : Memref sig .tc .vmem S e} (hm : m.IsWhole) (x : S.Idx → Elt F e) (off size : Fin S.rank → Nat)
    (inb : ∀ a, off a + size a ≤ S.size a) (w : (Rect.unit off size inb).shape.Idx → Elt F e) :
    m.view.read (Elt F) (m.view.writes (Elt F) (hm.unread x) [⟨Rect.unit off size inb, w⟩]) = VecWindow.put x off size w := by
  rw [View.read_writes_cons_put _ _ _ _ _ rfl, View.writes_nil, hm.read_unread]

/-- Rows `256 s …` and columns `k …` of a block of the weight. -/
def tile (w : Vec F S1024x2048 .fp8e4m3) (s : Fin 4) (k : Nat) (hk : k + 128 ≤ 2048) : Vec F S256x128 .fp8e4m3 :=
  View.ld w (Rect.unit (s := S1024x2048) ![256 * s.val, k] S256x128.size (inbW s k hk))

/-- Rows `256 s …` of the adapter, and of a column buffer. -/
def rowB (b : Vec F S1024x32 .bf16) (s : Fin 4) : Vec F S256x32 .bf16 := View.ld b (Rect.unit (s := S1024x32) ![256 * s.val, 0] S256x32.size (inbB s))
def rowN (q : Vec F S1024x128 .f32) (s : Fin 4) : Vec F S256x128 .f32 := View.ld q (Rect.unit (s := S1024x128) ![256 * s.val, 0] S256x128.size (inbN s))
def colZ (z : Vec F S1056x1024 .f32) (s : Fin 4) : Vec F S1056x256 .f32 := View.ld z (Rect.unit (s := S1056x1024) ![0, 256 * s.val] S1056x256.size (inbZ s))

/-- Strip `s` of the adapted weight. -/
def stripVal (a : Vec F S32x2048 .bf16) (w : Vec F S1024x2048 .fp8e4m3) (b : Vec F S1024x32 .bf16) (sc : Vec F S1024x128 .f32) (s : Fin 4) : FVec F S256x2048 .bf16 :=
  vcat (k0_pay92 a (rowB b s)) (rowN sc s) (tile w s 0 (by decide)) (tile w s 128 (by decide)) (tile w s 256 (by decide)) (tile w s 384 (by decide)) (tile w s 512 (by decide)) (tile w s 640 (by decide)) (tile w s 768 (by decide)) (tile w s 896 (by decide)) (tile w s 1024 (by decide)) (tile w s 1152 (by decide)) (tile w s 1280 (by decide)) (tile w s 1408 (by decide)) (tile w s 1536 (by decide)) (tile w s 1664 (by decide)) (tile w s 1792 (by decide)) (tile w s 1920 (by decide))

/-- The three buffers after strip `s`. -/
def stripV (a : Vec F S32x2048 .bf16) (w : Vec F S1024x2048 .fp8e4m3) (b : Vec F S1024x32 .bf16) (sc : Vec F S1024x128 .f32) (s : Fin 4) (v : Vec F S1024x2048 .bf16) : Vec F S1024x2048 .bf16 :=
  VecWindow.put v ![256 * s.val, 0] S256x2048.size (stripVal a w b sc s)
def stripQ (a : Vec F S32x2048 .bf16) (w : Vec F S1024x2048 .fp8e4m3) (b : Vec F S1024x32 .bf16) (sc : Vec F S1024x128 .f32) (s : Fin 4) (q : Vec F S1024x128 .f32) : Vec F S1024x128 .f32 :=
  VecWindow.put q ![256 * s.val, 0] S256x128.size (sqs (k0_pay92 a (rowB b s)) (rowN sc s) (rowN q s) (tile w s 0 (by decide)) (tile w s 128 (by decide)) (tile w s 256 (by decide)) (tile w s 384 (by decide)) (tile w s 512 (by decide)) (tile w s 640 (by decide)) (tile w s 768 (by decide)) (tile w s 896 (by decide)) (tile w s 1024 (by decide)) (tile w s 1152 (by decide)) (tile w s 1280 (by decide)) (tile w s 1408 (by decide)) (tile w s 1536 (by decide)) (tile w s 1664 (by decide)) (tile w s 1792 (by decide)) (tile w s 1920 (by decide)))
def stripZ (a : Vec F S32x2048 .bf16) (xa : FVec F S1056x2048 .bf16) (w : Vec F S1024x2048 .fp8e4m3) (b : Vec F S1024x32 .bf16) (sc : Vec F S1024x128 .f32) (s : Fin 4) (z : Vec F S1056x1024 .f32) : Vec F S1056x1024 .f32 :=
  VecWindow.put z ![0, 256 * s.val] S1056x256.size (zadd xa (stripVal a w b sc s) (colZ z s))

/-- A strip. -/
theorem strip_spec (c : Dev nD) (a : Vec F S32x2048 .bf16) (xa : FVec F S1056x2048 .bf16) (s : Fin 4) (arg3 : Memref sig .tc .vmem S1024x2048 .fp8e4m3) (harg3 : arg3.IsWhole) (arg6 : Memref sig .tc .vmem S1024x32 .bf16) (harg6 : arg6.IsWhole) (arg11 : Memref sig .tc .vmem S1024x2048 .bf16) (harg11 : arg11.IsWhole) (arg19 : Memref sig .tc .vmem S1056x1024 .f32) (harg19 : arg19.IsWhole) (arg20 : Memref sig .tc .vmem S1024x128 .f32) (harg20 : arg20.IsWhole) (arg21 : Memref sig .tc .vmem S1024x128 .f32) (harg21 : arg21.IsWhole)
    (w : Vec F S1024x2048 .fp8e4m3) (b : Vec F S1024x32 .bf16) (v : Vec F S1024x2048 .bf16) (z : Vec F S1056x1024 .f32) (q : Vec F S1024x128 .f32) (sc : Vec F S1024x128 .f32)
    (E : Set ℕ) (Q : PUnit → sProp 𝕄) :
    iprop(owns (c : Thread nD τ) arg3 fullShare w ∗ owns (c : Thread nD τ) arg6 fullShare b ∗ owns (c : Thread nD τ) arg11 fullShare v ∗ owns (c : Thread nD τ) arg19 fullShare z ∗ owns (c : Thread nD τ) arg20 fullShare q ∗ owns (c : Thread nD τ) arg21 fullShare sc
      ∗ (iprop(owns (c : Thread nD τ) arg3 fullShare w ∗ owns (c : Thread nD τ) arg6 fullShare b ∗ owns (c : Thread nD τ) arg11 fullShare (stripV a w b sc s v) ∗ owns (c : Thread nD τ) arg19 fullShare (stripZ a xa w b sc s z) ∗ owns (c : Thread nD τ) arg20 fullShare (stripQ a w b sc s q) ∗ owns (c : Thread nD τ) arg21 fullShare sc) -∗ Q ⟨⟩))
      ⊢ wp frame (wpE (defs₀ (F := F)) Variants.none c none) E (strip arg3 harg3 arg6 harg6 arg11 harg11 arg19 harg19 arg20 harg20 arg21 harg21 a xa s) Q := by
  unfold strip owns
  iintro ⟨⟨%f3, %hf3, H3⟩, ⟨%f6, %hf6, H6⟩, ⟨%f11, %hf11, H11⟩, ⟨%f19, %hf19, H19⟩, ⟨%f20, %hf20, H20⟩, ⟨%f21, %hf21, H21⟩, Hk⟩
  obtain rfl := harg3.eq_unread hf3; obtain rfl := harg6.eq_unread hf6; obtain rfl := harg11.eq_unread hf11; obtain rfl := harg19.eq_unread hf19; obtain rfl := harg20.eq_unread hf20; obtain rfl := harg21.eq_unread hf21
  sl_exec
  sl_step
  iapply Hk
  isplitl [H3]
  · iexists _; isplitr
    swap; · iexact H3
    ipureintro; exact harg3.read_unread _
  isplitl [H6]
  · iexists _; isplitr
    swap; · iexact H6
    ipureintro; exact harg6.read_unread _
  isplitl [H11]
  · iexists _; isplitr
    swap; · iexact H11
    ipureintro; rw [put_one]; simp only [View.readAt_eq_ld, harg3.read_unread, harg6.read_unread, harg11.read_unread, harg19.read_unread, harg20.read_unread, harg21.read_unread]; rfl
  isplitl [H19]
  · iexists _; isplitr
    swap; · iexact H19
    ipureintro; rw [put_one]; simp only [View.readAt_eq_ld, harg3.read_unread, harg6.read_unread, harg11.read_unread, harg19.read_unread, harg20.read_unread, harg21.read_unread]; rfl
  isplitl [H20]
  · iexists _; isplitr
    swap; · iexact H20
    ipureintro; rw [put_one]; simp only [View.readAt_eq_ld, harg3.read_unread, harg6.read_unread, harg11.read_unread, harg19.read_unread, harg20.read_unread, harg21.read_unread]; rfl
  iexists _; isplitr
  swap; · iexact H21
  ipureintro; exact harg21.read_unread _

/-- First grid point. -/
theorem init0_spec (c : Dev nD) (i : grid0.Coords) (arg10 : Memref sig .tc .vmem S1x1024 .f32) (harg10 : arg10.IsWhole) (arg22 : Memref sig .tc .vmem S1024x128 .f32) (harg22 : arg22.IsWhole) (arg23 : Memref sig .tc .vmem S1024x32 .f32) (harg23 : arg23.IsWhole) (arg25 : Memref sig .tc .vmem S1024x32 .f32) (harg25 : arg25.IsWhole)
    (yr : Vec F S1x1024 .f32) (ys : Vec F S1024x128 .f32) (xa : Vec F S1024x32 .f32) (gb : Vec F S1024x32 .f32)
    (E : Set ℕ) (Q : PUnit → sProp 𝕄) :
    iprop(owns (c : Thread nD τ) arg10 fullShare yr ∗ owns (c : Thread nD τ) arg22 fullShare ys ∗ owns (c : Thread nD τ) arg23 fullShare xa ∗ owns (c : Thread nD τ) arg25 fullShare gb
      ∗ (iprop(owns (c : Thread nD τ) arg10 fullShare yr ∗ owns (c : Thread nD τ) arg22 fullShare (if cond0_0 i then k0_pay45 yr else ys) ∗ owns (c : Thread nD τ) arg23 fullShare (if cond0_0 i then k0_pay46 (F := F) else xa) ∗ owns (c : Thread nD τ) arg25 fullShare (if cond0_0 i then k0_pay47 (F := F) else gb)) -∗ Q ⟨⟩))
      ⊢ wp frame (wpE (defs₀ (F := F)) Variants.none c none) E (init0 i arg10 harg10 arg22 harg22 arg23 harg23 arg25 harg25) Q := by
  unfold init0 owns
  iintro ⟨⟨%f10, %hf10, H10⟩, ⟨%f22, %hf22, H22⟩, ⟨%f23, %hf23, H23⟩, ⟨%f25, %hf25, H25⟩, Hk⟩
  obtain rfl := harg10.eq_unread hf10; obtain rfl := harg22.eq_unread hf22; obtain rfl := harg23.eq_unread hf23; obtain rfl := harg25.eq_unread hf25
  by_cases h : cond0_0 i
  · rw [dif_pos h]
    sl_exec
    sl_step
    iapply Hk
    isplitl [H10]
    · iexists _; isplitr
      swap; · iexact H10
      ipureintro; exact harg10.read_unread _
    isplitl [H22]
    · iexists _; isplitr
      swap; · iexact H22
      ipureintro; rw [if_pos h, View.read_writes_full]; simp only [View.readAt_eq_ld, harg10.read_unread, View.ld_unit_zero (S := S1x1024) hz]
    isplitl [H23]
    · iexists _; isplitr
      swap; · iexact H23
      ipureintro; rw [if_pos h, View.read_writes_full]
    iexists _; isplitr
    swap; · iexact H25
    ipureintro; rw [if_pos h, View.read_writes_full]
  · rw [dif_neg h]
    sl_step
    iapply Hk
    isplitl [H10]
    · iexists _; isplitr
      swap; · iexact H10
      ipureintro; exact harg10.read_unread _
    isplitl [H22]
    · iexists _; isplitr
      swap; · iexact H22
      ipureintro; rw [if_neg h]; exact harg22.read_unread _
    isplitl [H23]
    · iexists _; isplitr
      swap; · iexact H23
      ipureintro; rw [if_neg h]; exact harg23.read_unread _
    iexists _; isplitr
    swap; · iexact H25
    ipureintro; rw [if_neg h]; exact harg25.read_unread _

/-- First block of a row of blocks. -/
theorem init1_spec (c : Dev nD) (i : grid0.Coords) (arg4 : Memref sig .tc .vmem S1x1024 .f32) (harg4 : arg4.IsWhole) (arg19 : Memref sig .tc .vmem S1056x1024 .f32) (harg19 : arg19.IsWhole) (arg20 : Memref sig .tc .vmem S1024x128 .f32) (harg20 : arg20.IsWhole) (arg21 : Memref sig .tc .vmem S1024x128 .f32) (harg21 : arg21.IsWhole)
    (ws : Vec F S1x1024 .f32) (z : Vec F S1056x1024 .f32) (q : Vec F S1024x128 .f32) (sc : Vec F S1024x128 .f32)
    (E : Set ℕ) (Q : PUnit → sProp 𝕄) :
    iprop(owns (c : Thread nD τ) arg4 fullShare ws ∗ owns (c : Thread nD τ) arg19 fullShare z ∗ owns (c : Thread nD τ) arg20 fullShare q ∗ owns (c : Thread nD τ) arg21 fullShare sc
      ∗ (iprop(owns (c : Thread nD τ) arg4 fullShare ws ∗ owns (c : Thread nD τ) arg19 fullShare (if cond0_1 i then k0_pay50 (F := F) else z) ∗ owns (c : Thread nD τ) arg20 fullShare (if cond0_1 i then k0_pay49 (F := F) else q) ∗ owns (c : Thread nD τ) arg21 fullShare (if cond0_1 i then k0_pay48 ws else sc)) -∗ Q ⟨⟩))
      ⊢ wp frame (wpE (defs₀ (F := F)) Variants.none c none) E (init1 i arg4 harg4 arg19 harg19 arg20 harg20 arg21 harg21) Q := by
  unfold init1 owns
  iintro ⟨⟨%f4, %hf4, H4⟩, ⟨%f19, %hf19, H19⟩, ⟨%f20, %hf20, H20⟩, ⟨%f21, %hf21, H21⟩, Hk⟩
  obtain rfl := harg4.eq_unread hf4; obtain rfl := harg19.eq_unread hf19; obtain rfl := harg20.eq_unread hf20; obtain rfl := harg21.eq_unread hf21
  by_cases h : cond0_1 i
  · rw [dif_pos h]
    sl_exec
    sl_step
    iapply Hk
    isplitl [H4]
    · iexists _; isplitr
      swap; · iexact H4
      ipureintro; exact harg4.read_unread _
    isplitl [H19]
    · iexists _; isplitr
      swap; · iexact H19
      ipureintro; rw [if_pos h, View.read_writes_full]
    isplitl [H20]
    · iexists _; isplitr
      swap; · iexact H20
      ipureintro; rw [if_pos h, View.read_writes_full]
    iexists _; isplitr
    swap; · iexact H21
    ipureintro; rw [if_pos h, View.read_writes_full]; simp only [View.readAt_eq_ld, harg4.read_unread, View.ld_unit_zero (S := S1x1024) hz]
  · rw [dif_neg h]
    sl_step
    iapply Hk
    isplitl [H4]
    · iexists _; isplitr
      swap; · iexact H4
      ipureintro; exact harg4.read_unread _
    isplitl [H19]
    · iexists _; isplitr
      swap; · iexact H19
      ipureintro; rw [if_neg h]; exact harg19.read_unread _
    isplitl [H20]
    · iexists _; isplitr
      swap; · iexact H20
      ipureintro; rw [if_neg h]; exact harg20.read_unread _
    iexists _; isplitr
    swap; · iexact H21
    ipureintro; rw [if_neg h]; exact harg21.read_unread _

/-- First row of blocks. -/
theorem init2_spec (c : Dev nD) (i : grid0.Coords) (arg2 : Memref sig .tc .vmem S1024x2048 .bf16) (harg2 : arg2.IsWhole) (arg5 : Memref sig .tc .vmem S32x2048 .bf16) (harg5 : arg5.IsWhole) (arg23 : Memref sig .tc .vmem S1024x32 .f32) (harg23 : arg23.IsWhole)
    (x : Vec F S1024x2048 .bf16) (a : Vec F S32x2048 .bf16) (xa : Vec F S1024x32 .f32)
    (E : Set ℕ) (Q : PUnit → sProp 𝕄) :
    iprop(owns (c : Thread nD τ) arg2 fullShare x ∗ owns (c : Thread nD τ) arg5 fullShare a ∗ owns (c : Thread nD τ) arg23 fullShare xa
      ∗ (iprop(owns (c : Thread nD τ) arg2 fullShare x ∗ owns (c : Thread nD τ) arg5 fullShare a ∗ owns (c : Thread nD τ) arg23 fullShare (if cond0_2 i then k0_pay51 xa x a else xa)) -∗ Q ⟨⟩))
      ⊢ wp frame (wpE (defs₀ (F := F)) Variants.none c none) E (init2 i arg2 harg2 arg5 harg5 arg23 harg23) Q := by
  unfold init2 owns
  iintro ⟨⟨%f2, %hf2, H2⟩, ⟨%f5, %hf5, H5⟩, ⟨%f23, %hf23, H23⟩, Hk⟩
  obtain rfl := harg2.eq_unread hf2; obtain rfl := harg5.eq_unread hf5; obtain rfl := harg23.eq_unread hf23
  by_cases h : cond0_2 i
  · rw [dif_pos h]
    sl_exec
    sl_step
    iapply Hk
    isplitl [H2]
    · iexists _; isplitr
      swap; · iexact H2
      ipureintro; exact harg2.read_unread _
    isplitl [H5]
    · iexists _; isplitr
      swap; · iexact H5
      ipureintro; exact harg5.read_unread _
    iexists _; isplitr
    swap; · iexact H23
    ipureintro; rw [if_pos h, View.read_writes_full]; simp only [View.readAt_eq_ld, harg2.read_unread, harg5.read_unread, harg23.read_unread, View.ld_unit_zero (S := S1024x2048) hz, View.ld_unit_zero (S := S32x2048) hz, View.ld_unit_zero (S := S1024x32) hz]
  · rw [dif_neg h]
    sl_step
    iapply Hk
    isplitl [H2]
    · iexists _; isplitr
      swap; · iexact H2
      ipureintro; exact harg2.read_unread _
    isplitl [H5]
    · iexists _; isplitr
      swap; · iexact H5
      ipureintro; exact harg5.read_unread _
    iexists _; isplitr
    swap; · iexact H23
    ipureintro; rw [if_neg h]; exact harg23.read_unread _

/-- End of the first row of blocks. -/
theorem fin3_spec (c : Dev nD) (i : grid0.Coords) (arg16 : Memref sig .tc .vmem S1024x32 .bf16) (harg16 : arg16.IsWhole) (arg23 : Memref sig .tc .vmem S1024x32 .f32) (harg23 : arg23.IsWhole) (arg24 : Memref sig .tc .vmem S32x1024 .bf16) (harg24 : arg24.IsWhole)
    (xo : Vec F S1024x32 .bf16) (xa : Vec F S1024x32 .f32) (xt : Vec F S32x1024 .bf16)
    (E : Set ℕ) (Q : PUnit → sProp 𝕄) :
    iprop(owns (c : Thread nD τ) arg16 fullShare xo ∗ owns (c : Thread nD τ) arg23 fullShare xa ∗ owns (c : Thread nD τ) arg24 fullShare xt
      ∗ (iprop(owns (c : Thread nD τ) arg16 fullShare (if k0_cond4 i = 1#1 then k0_pay205 xa else xo) ∗ owns (c : Thread nD τ) arg23 fullShare xa ∗ owns (c : Thread nD τ) arg24 fullShare (if k0_cond4 i = 1#1 then k0_pay206 xa else xt)) -∗ Q ⟨⟩))
      ⊢ wp frame (wpE (defs₀ (F := F)) Variants.none c none) E (fin3 i arg16 harg16 arg23 harg23 arg24 harg24) Q := by
  unfold fin3 owns
  iintro ⟨⟨%f16, %hf16, H16⟩, ⟨%f23, %hf23, H23⟩, ⟨%f24, %hf24, H24⟩, Hk⟩
  obtain rfl := harg16.eq_unread hf16; obtain rfl := harg23.eq_unread hf23; obtain rfl := harg24.eq_unread hf24
  by_cases h : k0_cond4 i = 1#1
  · rw [dif_pos h]
    sl_exec
    sl_step
    iapply Hk
    isplitl [H16]
    · iexists _; isplitr
      swap; · iexact H16
      ipureintro; rw [if_pos h, View.read_writes_full]; simp only [View.readAt_eq_ld, harg23.read_unread, View.ld_unit_zero (S := S1024x32) hz]
    isplitl [H23]
    · iexists _; isplitr
      swap; · iexact H23
      ipureintro; exact harg23.read_unread _
    iexists _; isplitr
    swap; · iexact H24
    ipureintro; rw [if_pos h, View.read_writes_full]; simp only [View.readAt_eq_ld, harg23.read_unread, View.ld_unit_zero (S := S1024x32) hz]
  · rw [dif_neg h]
    sl_step
    iapply Hk
    isplitl [H16]
    · iexists _; isplitr
      swap; · iexact H16
      ipureintro; rw [if_neg h]; exact harg16.read_unread _
    isplitl [H23]
    · iexists _; isplitr
      swap; · iexact H23
      ipureintro; exact harg23.read_unread _
    iexists _; isplitr
    swap; · iexact H24
    ipureintro; rw [if_neg h]; exact harg24.read_unread _

/-- Last grid point. -/
theorem fin5_spec (c : Dev nD) (i : grid0.Coords) (arg17 : Memref sig .tc .vmem S1024x32 .bf16) (harg17 : arg17.IsWhole) (arg18 : Memref sig .tc .vmem S32x1024 .bf16) (harg18 : arg18.IsWhole) (arg25 : Memref sig .tc .vmem S1024x32 .f32) (harg25 : arg25.IsWhole)
    (go : Vec F S1024x32 .bf16) (gt : Vec F S32x1024 .bf16) (gb : Vec F S1024x32 .f32)
    (E : Set ℕ) (Q : PUnit → sProp 𝕄) :
    iprop(owns (c : Thread nD τ) arg17 fullShare go ∗ owns (c : Thread nD τ) arg18 fullShare gt ∗ owns (c : Thread nD τ) arg25 fullShare gb
      ∗ (iprop(owns (c : Thread nD τ) arg17 fullShare (if k0_cond6 i = 1#1 then k0_pay1 gb else go) ∗ owns (c : Thread nD τ) arg18 fullShare (if k0_cond6 i = 1#1 then k0_pay2 gb else gt) ∗ owns (c : Thread nD τ) arg25 fullShare gb) -∗ Q ⟨⟩))
      ⊢ wp frame (wpE (defs₀ (F := F)) Variants.none c none) E (fin5 i arg17 harg17 arg18 harg18 arg25 harg25) Q := by
  unfold fin5 owns
  iintro ⟨⟨%f17, %hf17, H17⟩, ⟨%f18, %hf18, H18⟩, ⟨%f25, %hf25, H25⟩, Hk⟩
  obtain rfl := harg17.eq_unread hf17; obtain rfl := harg18.eq_unread hf18; obtain rfl := harg25.eq_unread hf25
  by_cases h : k0_cond6 i = 1#1
  · rw [dif_pos h]
    sl_exec
    sl_step
    iapply Hk
    isplitl [H17]
    · iexists _; isplitr
      swap; · iexact H17
      ipureintro; rw [if_pos h, View.read_writes_full]; simp only [View.readAt_eq_ld, harg25.read_unread, View.ld_unit_zero (S := S1024x32) hz]
    isplitl [H18]
    · iexists _; isplitr
      swap; · iexact H18
      ipureintro; rw [if_pos h, View.read_writes_full]; simp only [View.readAt_eq_ld, harg25.read_unread, View.ld_unit_zero (S := S1024x32) hz]
    iexists _; isplitr
    swap; · iexact H25
    ipureintro; exact harg25.read_unread _
  · rw [dif_neg h]
    sl_step
    iapply Hk
    isplitl [H17]
    · iexists _; isplitr
      swap; · iexact H17
      ipureintro; rw [if_neg h]; exact harg17.read_unread _
    isplitl [H18]
    · iexists _; isplitr
      swap; · iexact H18
      ipureintro; rw [if_neg h]; exact harg18.read_unread _
    iexists _; isplitr
    swap; · iexact H25
    ipureintro; exact harg25.read_unread _

end Cert.FwdIdeal.Front

end
-- ==== Proof.Front.MainSpec.lean ====
/-
  Hand-written, untrusted. WHAT THE STAGES LEAVE, 2: the main product of one block (four strips), and the ending of a row of blocks (four strips
  of `last`).
-/
module

public import proofs.«01_k».proof.Proof.Front.Specs

@[expose] public section

set_option maxRecDepth 16384

noncomputable section

namespace Cert.FwdIdeal.Front

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of a whole buffer gives its contents. -/
theorem load_full (c : Dev nD) {S : Shape} {e : EltTy} (m : Memref sig .tc .vmem S e) (hm : m.IsWhole) (x : S.Idx → Elt F e) {off : Fin S.rank → Nat}
    (h0 : off = fun _ => 0) (inb : ∀ a, off a + S.size a ≤ S.size a) (hl : m.view.LoadsAt (Rect.unit off S.size inb).toLoadRect) (E : Set ℕ) (Q : (S.Idx → Elt F e) → sProp 𝕄) :
    iprop(owns (c : Thread nD τ) m fullShare x ∗ (owns (c : Thread nD τ) m fullShare x -∗ Q x))
      ⊢ wp frame (wpE (defs₀ (F := F)) Variants.none c none) E (Prog.lift (.load m (Rect.unit off S.size inb).toLoadRect hl)) Q := by
  unfold owns
  iintro ⟨⟨%f, %hf, H⟩, Hk⟩
  obtain rfl := hm.eq_unread hf
  sl_exec
  sl_step
  rw [show View.readAt (Elt F) m.view (Rect.unit off S.size inb).toLoadRect (hm.unread x) = x from by rw [View.readAt_eq_ld, hm.read_unread, View.ld_unit_zero h0]]
  iapply Hk
  iexists _; isplitr
  swap; · iexact H
  ipureintro; exact hm.read_unread _

/-- The buffers after the four strips of one block. -/
def mainV (a : Vec F S32x2048 .bf16) (w : Vec F S1024x2048 .fp8e4m3) (b : Vec F S1024x32 .bf16) (sc : Vec F S1024x128 .f32) (v : Vec F S1024x2048 .bf16) : Vec F S1024x2048 .bf16 :=
  stripV a w b sc 3 (stripV a w b sc 2 (stripV a w b sc 1 (stripV a w b sc 0 v)))
def mainQ (a : Vec F S32x2048 .bf16) (w : Vec F S1024x2048 .fp8e4m3) (b : Vec F S1024x32 .bf16) (sc : Vec F S1024x128 .f32) (q : Vec F S1024x128 .f32) : Vec F S1024x128 .f32 :=
  stripQ a w b sc 3 (stripQ a w b sc 2 (stripQ a w b sc 1 (stripQ a w b sc 0 q)))
def mainZ (a : Vec F S32x2048 .bf16) (x : Vec F S1024x2048 .bf16) (w : Vec F S1024x2048 .fp8e4m3) (b : Vec F S1024x32 .bf16) (sc : Vec F S1024x128 .f32) (z : Vec F S1056x1024 .f32) : Vec F S1056x1024 .f32 :=
  stripZ a (k0_pay52 a x) w b sc 3 (stripZ a (k0_pay52 a x) w b sc 2 (stripZ a (k0_pay52 a x) w b sc 1 (stripZ a (k0_pay52 a x) w b sc 0 z)))

/-- The main product of one block. -/
theorem main_spec (c : Dev nD) (arg2 : Memref sig .tc .vmem S1024x2048 .bf16) (harg2 : arg2.IsWhole) (arg3 : Memref sig .tc .vmem S1024x2048 .fp8e4m3) (harg3 : arg3.IsWhole) (arg5 : Memref sig .tc .vmem S32x2048 .bf16) (harg5 : arg5.IsWhole) (arg6 : Memref sig .tc .vmem S1024x32 .bf16) (harg6 : arg6.IsWhole) (arg11 : Memref sig .tc .vmem S1024x2048 .bf16) (harg11 : arg11.IsWhole) (arg19 : Memref sig .tc .vmem S1056x1024 .f32) (harg19 : arg19.IsWhole) (arg20 : Memref sig .tc .vmem S1024x128 .f32) (harg20 : arg20.IsWhole) (arg21 : Memref sig .tc .vmem S1024x128 .f32) (harg21 : arg21.IsWhole)
    (x : Vec F S1024x2048 .bf16) (w : Vec F S1024x2048 .fp8e4m3) (a : Vec F S32x2048 .bf16) (b : Vec F S1024x32 .bf16) (v : Vec F S1024x2048 .bf16) (z : Vec F S1056x1024 .f32) (q : Vec F S1024x128 .f32) (sc : Vec F S1024x128 .f32)
    (E : Set ℕ) (Q : PUnit → sProp 𝕄) :
    iprop(owns (c : Thread nD τ) arg2 fullShare x ∗ owns (c : Thread nD τ) arg3 fullShare w ∗ owns (c : Thread nD τ) arg5 fullShare a ∗ owns (c : Thread nD τ) arg6 fullShare b ∗ owns (c : Thread nD τ) arg11 fullShare v ∗ owns (c : Thread nD τ) arg19 fullShare z ∗ owns (c : Thread nD τ) arg20 fullShare q ∗ owns (c : Thread nD τ) arg21 fullShare sc
      ∗ (iprop(owns (c : Thread nD τ) arg2 fullShare x ∗ owns (c : Thread nD τ) arg3 fullShare w ∗ owns (c : Thread nD τ) arg5 fullShare a ∗ owns (c : Thread nD τ) arg6 fullShare b ∗ owns (c : Thread nD τ) arg11 fullShare (mainV a w b sc v) ∗ owns (c : Thread nD τ) arg19 fullShare (mainZ a x w b sc z) ∗ owns (c : Thread nD τ) arg20 fullShare (mainQ a w b sc q) ∗ owns (c : Thread nD τ) arg21 fullShare sc) -∗ Q ⟨⟩))
      ⊢ wp frame (wpE (defs₀ (F := F)) Variants.none c none) E (main arg2 harg2 arg3 harg3 arg5 harg5 arg6 harg6 arg11 harg11 arg19 harg19 arg20 harg20 arg21 harg21) Q := by
  unfold main
  iintro ⟨H2, H3, H5, H6, H11, H19, H20, H21, Hk⟩
  rw [wp_bind]
  iapply (load_full c arg5 harg5 a hz _ _ E _)
  isplitl [H5]; · iexact H5
  iintro H5
  rw [wp_bind]
  iapply (load_full c arg2 harg2 x hz _ _ E _)
  isplitl [H2]; · iexact H2
  iintro H2
  rw [wp_bind]
  iapply (strip_spec c a (k0_pay52 a x) 0 arg3 harg3 arg6 harg6 arg11 harg11 arg19 harg19 arg20 harg20 arg21 harg21)
  isplitl [H3]; · iexact H3
  isplitl [H6]; · iexact H6
  isplitl [H11]; · iexact H11
  isplitl [H19]; · iexact H19
  isplitl [H20]; · iexact H20
  isplitl [H21]; · iexact H21
  iintro ⟨H3, H6, H11, H19, H20, H21⟩
  rw [wp_bind]
  iapply (strip_spec c a (k0_pay52 a x) 1 arg3 harg3 arg6 harg6 arg11 harg11 arg19 harg19 arg20 harg20 arg21 harg21)
  isplitl [H3]; · iexact H3
  isplitl [H6]; · iexact H6
  isplitl [H11]; · iexact H11
  isplitl [H19]; · iexact H19
  isplitl [H20]; · iexact H20
  isplitl [H21]; · iexact H21
  iintro ⟨H3, H6, H11, H19, H20, H21⟩
  rw [wp_bind]
  iapply (strip_spec c a (k0_pay52 a x) 2 arg3 harg3 arg6 harg6 arg11 harg11 arg19 harg19 arg20 harg20 arg21 harg21)
  isplitl [H3]; · iexact H3
  isplitl [H6]; · iexact H6
  isplitl [H11]; · iexact H11
  isplitl [H19]; · iexact H19
  isplitl [H20]; · iexact H20
  isplitl [H21]; · iexact H21
  iintro ⟨H3, H6, H11, H19, H20, H21⟩
  iapply (strip_spec c a (k0_pay52 a x) 3 arg3 harg3 arg6 harg6 arg11 harg11 arg19 harg19 arg20 harg20 arg21 harg21)
  isplitl [H3]; · iexact H3
  isplitl [H6]; · iexact H6
  isplitl [H11]; · iexact H11
  isplitl [H19]; · iexact H19
  isplitl [H20]; · iexact H20
  isplitl [H21]; · iexact H21
  iintro ⟨H3, H6, H11, H19, H20, H21⟩
  iapply Hk
  isplitl [H2]; · iexact H2
  isplitl [H3]; · iexact H3
  isplitl [H5]; · iexact H5
  isplitl [H6]; · iexact H6
  isplitl [H11]; · iexact H11
  isplitl [H19]; · iexact H19
  isplitl [H20]; · iexact H20
  iexact H21

end Cert.FwdIdeal.Front

end
-- ==== Proof.Front.Ending.lean ====
/-
  Hand-written, untrusted. WHAT THE STAGES LEAVE, 2: one strip of the ending of a row of blocks.
-/
module

public import proofs.«01_k».proof.Proof.Front.Specs

@[expose] public section

set_option maxRecDepth 16384

noncomputable section

namespace Cert.FwdIdeal.Front

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

def topZ (z : Vec F S1056x1024 .f32) (s : Fin 4) : Vec F S1024x256 .f32 := View.ld z (Rect.unit (s := S1056x1024) ![0, 256 * s.val] S1024x256.size (inbZt s))
def botZ (z : Vec F S1056x1024 .f32) (s : Fin 4) : Vec F S32x256 .f32 := View.ld z (Rect.unit (s := S1056x1024) ![1024, 256 * s.val] S32x256.size (inbZb s))
def colC (y : Vec F S1024x1024 .fp8e5m2) (s : Fin 4) : Vec F S1024x256 .fp8e5m2 := View.ld y (Rect.unit (s := S1024x1024) ![0, 256 * s.val] S1024x256.size (inbC s))
def colT (bt : Vec F S32x1024 .bf16) (s : Fin 4) : Vec F S32x256 .bf16 := View.ld bt (Rect.unit (s := S32x1024) ![0, 256 * s.val] S32x256.size (inbT s))

/-- A strip of the gradient of the magnitude, of `g`, of `k`. -/
def dmS (n : FVec F S1x1024 .f32) (s : Fin 4) (z : Vec F S1056x1024 .f32) (ys : Vec F S1024x128 .f32) (y : Vec F S1024x1024 .fp8e5m2) : FVec F S1x256 .f32 :=
  fdm n s (topZ z s) ys (colC y s)
def gS (k : FVec F S1x1024 .f32) (s : Fin 4) (ys : Vec F S1024x128 .f32) (y : Vec F S1024x1024 .fp8e5m2) : FVec F S1024x256 .bf16 := fg k s ys (colC y s)
def kS (n mm : FVec F S1x1024 .f32) (s : Fin 4) (z : Vec F S1056x1024 .f32) (ys : Vec F S1024x128 .f32) (y : Vec F S1024x1024 .fp8e5m2) : FVec F S1x256 .f32 :=
  fk n mm s (dmS n s z ys y)

/-- The five results after strip `s` of the ending. -/
def lastZ (s : Fin 4) (z : Vec F S1056x1024 .f32) (zo : Vec F S1024x1024 .bf16) : Vec F S1024x1024 .bf16 :=
  VecWindow.put zo ![0, 256 * s.val] S1024x256.size (k0_pay35 (topZ z s))
def lastD (n : FVec F S1x1024 .f32) (s : Fin 4) (z : Vec F S1056x1024 .f32) (ys : Vec F S1024x128 .f32) (y : Vec F S1024x1024 .fp8e5m2) (dm : Vec F S1x1024 .f32) : Vec F S1x1024 .f32 :=
  VecWindow.put dm ![0, 256 * s.val] S1x256.size (dmS n s z ys y)
def lastG (n mm k : FVec F S1x1024 .f32) (s : Fin 4) (z : Vec F S1056x1024 .f32) (ys : Vec F S1024x128 .f32) (y : Vec F S1024x1024 .fp8e5m2) (bt : Vec F S32x1024 .bf16) (gk : Vec F S1056x1024 .bf16) : Vec F S1056x1024 .bf16 :=
  VecWindow.put (VecWindow.put gk ![0, 256 * s.val] S1024x256.size (gS k s ys y)) ![1024, 256 * s.val] S32x256.size (fkb (kS n mm s z ys y) (colT bt s))
def lastB (k : FVec F S1x1024 .f32) (s : Fin 4) (ys : Vec F S1024x128 .f32) (y : Vec F S1024x1024 .fp8e5m2) (b : Vec F S1024x32 .bf16) (gb : Vec F S1024x32 .f32) : Vec F S1024x32 .f32 :=
  k0_pay14 (gS k s ys y) gb (rowB b s)
def lastL (n mm k : FVec F S1x1024 .f32) (s : Fin 4) (z : Vec F S1056x1024 .f32) (ys : Vec F S1024x128 .f32) (y : Vec F S1024x1024 .fp8e5m2) (xt : Vec F S32x1024 .bf16) (dl : Vec F S1024x32 .bf16) : Vec F S1024x32 .bf16 :=
  VecWindow.put dl ![256 * s.val, 0] S256x32.size (fdlb (gS k s ys y) (kS n mm s z ys y) xt (botZ z s))

set_option maxHeartbeats 1000000 in
/-- A strip of the ending. -/
theorem last_spec (c : Dev nD) (n mm k : FVec F S1x1024 .f32) (s : Fin 4) (arg6 : Memref sig .tc .vmem S1024x32 .bf16) (harg6 : arg6.IsWhole) (arg7 : Memref sig .tc .vmem S32x1024 .bf16) (harg7 : arg7.IsWhole) (arg9 : Memref sig .tc .vmem S1024x1024 .fp8e5m2) (harg9 : arg9.IsWhole) (arg12 : Memref sig .tc .vmem S1024x1024 .bf16) (harg12 : arg12.IsWhole) (arg13 : Memref sig .tc .vmem S1056x1024 .bf16) (harg13 : arg13.IsWhole) (arg14 : Memref sig .tc .vmem S1x1024 .f32) (harg14 : arg14.IsWhole) (arg15 : Memref sig .tc .vmem S1024x32 .bf16) (harg15 : arg15.IsWhole) (arg19 : Memref sig .tc .vmem S1056x1024 .f32) (harg19 : arg19.IsWhole) (arg22 : Memref sig .tc .vmem S1024x128 .f32) (harg22 : arg22.IsWhole) (arg24 : Memref sig .tc .vmem S32x1024 .bf16) (harg24 : arg24.IsWhole) (arg25 : Memref sig .tc .vmem S1024x32 .f32) (harg25 : arg25.IsWhole)
    (b : Vec F S1024x32 .bf16) (bt : Vec F S32x1024 .bf16) (y : Vec F S1024x1024 .fp8e5m2) (zo : Vec F S1024x1024 .bf16) (gk : Vec F S1056x1024 .bf16) (dm : Vec F S1x1024 .f32) (dl : Vec F S1024x32 .bf16) (z : Vec F S1056x1024 .f32) (ys : Vec F S1024x128 .f32) (xt : Vec F S32x1024 .bf16) (gb : Vec F S1024x32 .f32)
    (E : Set ℕ) (Q : PUnit → sProp 𝕄) :
    iprop(owns (c : Thread nD τ) arg6 fullShare b ∗ owns (c : Thread nD τ) arg7 fullShare bt ∗ owns (c : Thread nD τ) arg9 fullShare y ∗ owns (c : Thread nD τ) arg12 fullShare zo ∗ owns (c : Thread nD τ) arg13 fullShare gk ∗ owns (c : Thread nD τ) arg14 fullShare dm ∗ owns (c : Thread nD τ) arg15 fullShare dl ∗ owns (c : Thread nD τ) arg19 fullShare z ∗ owns (c : Thread nD τ) arg22 fullShare ys ∗ owns (c : Thread nD τ) arg24 fullShare xt ∗ owns (c : Thread nD τ) arg25 fullShare gb
      ∗ (iprop(owns (c : Thread nD τ) arg6 fullShare b ∗ owns (c : Thread nD τ) arg7 fullShare bt ∗ owns (c : Thread nD τ) arg9 fullShare y ∗ owns (c : Thread nD τ) arg12 fullShare (lastZ s z zo) ∗ owns (c : Thread nD τ) arg13 fullShare (lastG n mm k s z ys y bt gk) ∗ owns (c : Thread nD τ) arg14 fullShare (lastD n s z ys y dm) ∗ owns (c : Thread nD τ) arg15 fullShare (lastL n mm k s z ys y xt dl) ∗ owns (c : Thread nD τ) arg19 fullShare z ∗ owns (c : Thread nD τ) arg22 fullShare ys ∗ owns (c : Thread nD τ) arg24 fullShare xt ∗ owns (c : Thread nD τ) arg25 fullShare (lastB k s ys y b gb)) -∗ Q ⟨⟩))
      ⊢ wp frame (wpE (defs₀ (F := F)) Variants.none c none) E (last arg6 harg6 arg7 harg7 arg9 harg9 arg12 harg12 arg13 harg13 arg14 harg14 arg15 harg15 arg19 harg19 arg22 harg22 arg24 harg24 arg25 harg25 n mm k s) Q := by
  unfold last owns
  iintro ⟨⟨%f6, %hf6, H6⟩, ⟨%f7, %hf7, H7⟩, ⟨%f9, %hf9, H9⟩, ⟨%f12, %hf12, H12⟩, ⟨%f13, %hf13, H13⟩, ⟨%f14, %hf14, H14⟩, ⟨%f15, %hf15, H15⟩, ⟨%f19, %hf19, H19⟩, ⟨%f22, %hf22, H22⟩, ⟨%f24, %hf24, H24⟩, ⟨%f25, %hf25, H25⟩, Hk⟩
  obtain rfl := harg6.eq_unread hf6; obtain rfl := harg7.eq_unread hf7; obtain rfl := harg9.eq_unread hf9; obtain rfl := harg12.eq_unread hf12; obtain rfl := harg13.eq_unread hf13; obtain rfl := harg14.eq_unread hf14; obtain rfl := harg15.eq_unread hf15; obtain rfl := harg19.eq_unread hf19; obtain rfl := harg22.eq_unread hf22; obtain rfl := harg24.eq_unread hf24; obtain rfl := harg25.eq_unread hf25
  sl_exec
  sl_step
  iapply Hk
  isplitl [H6]
  · iexists _; isplitr
    swap; · iexact H6
    ipureintro; exact harg6.read_unread _
  isplitl [H7]
  · iexists _; isplitr
    swap; · iexact H7
    ipureintro; exact harg7.read_unread _
  isplitl [H9]
  · iexists _; isplitr
    swap; · iexact H9
    ipureintro; exact harg9.read_unread _
  isplitl [H12]
  · iexists _; isplitr
    swap; · iexact H12
    ipureintro; rw [put_one]; simp only [View.readAt_eq_ld, harg6.read_unread, harg7.read_unread, harg9.read_unread, harg19.read_unread, harg22.read_unread, harg24.read_unread, harg25.read_unread, View.ld_unit_zero (S := S1024x128) hz, View.ld_unit_zero (S := S32x1024) hz, View.ld_unit_zero (S := S1024x32) hz]; rfl
  isplitl [H13]
  · iexists _; isplitr
    swap; · iexact H13
    ipureintro; rw [View.read_writes_cons_put _ _ _ _ _ rfl, put_one]; simp only [View.readAt_eq_ld, harg6.read_unread, harg7.read_unread, harg9.read_unread, harg19.read_unread, harg22.read_unread, harg24.read_unread, harg25.read_unread, View.ld_unit_zero (S := S1024x128) hz, View.ld_unit_zero (S := S32x1024) hz, View.ld_unit_zero (S := S1024x32) hz]; rfl
  isplitl [H14]
  · iexists _; isplitr
    swap; · iexact H14
    ipureintro; rw [put_one]; simp only [View.readAt_eq_ld, harg6.read_unread, harg7.read_unread, harg9.read_unread, harg19.read_unread, harg22.read_unread, harg24.read_unread, harg25.read_unread, View.ld_unit_zero (S := S1024x128) hz, View.ld_unit_zero (S := S32x1024) hz, View.ld_unit_zero (S := S1024x32) hz]; rfl
  isplitl [H15]
  · iexists _; isplitr
    swap; · iexact H15
    ipureintro; rw [put_one]; simp only [View.readAt_eq_ld, harg6.read_unread, harg7.read_unread, harg9.read_unread, harg19.read_unread, harg22.read_unread, harg24.read_unread, harg25.read_unread, View.ld_unit_zero (S := S1024x128) hz, View.ld_unit_zero (S := S32x1024) hz, View.ld_unit_zero (S := S1024x32) hz]; rfl
  isplitl [H19]
  · iexists _; isplitr
    swap; · iexact H19
    ipureintro; exact harg19.read_unread _
  isplitl [H22]
  · iexists _; isplitr
    swap; · iexact H22
    ipureintro; exact harg22.read_unread _
  isplitl [H24]
  · iexists _; isplitr
    swap; · iexact H24
    ipureintro; exact harg24.read_unread _
  iexists _; isplitr
  swap; · iexact H25
  ipureintro; rw [View.read_writes_full]; simp only [View.readAt_eq_ld, harg6.read_unread, harg7.read_unread, harg9.read_unread, harg19.read_unread, harg22.read_unread, harg24.read_unread, harg25.read_unread, View.ld_unit_zero (S := S1024x128) hz, View.ld_unit_zero (S := S32x1024) hz, View.ld_unit_zero (S := S1024x32) hz]; rfl

end Cert.FwdIdeal.Front

end
-- ==== Proof.Front.Stages.lean ====
/-
  Hand-written, untrusted. The printed body of the first call IS its stages (`body_stages`): the guarded regions, which the print
  runs on into the rest of the program, are separated by `dite_bind`, and the rest is the same program text.
-/
module

public import proofs.«01_k».proof.Proof.Front.Blocks

@[expose] public section

set_option maxRecDepth 65536
set_option maxHeartbeats 4000000

noncomputable section

namespace Cert.FwdIdeal.Front

open Cert.FwdIdeal Cert.FwdIdeal.Gen
open Idealize.ShloMosaic Idealize.ShloMosaic.TcCoe Idealize.ShloMosaic.Tactic
open Idealize.SL.Sem

variable {F : FTy → Type} [FloatOps F]

/-- The first printed part: three initialisations, then the first loads. -/
theorem part7_stages (i : grid0.Coords) (arg2 : Memref sig .tc .vmem S1024x2048 .bf16) (harg2 : arg2.IsWhole) (arg3 : Memref sig .tc .vmem S1024x2048 .fp8e4m3) (harg3 : arg3.IsWhole) (arg4 : Memref sig .tc .vmem S1x1024 .f32) (harg4 : arg4.IsWhole) (arg5 : Memref sig .tc .vmem S32x2048 .bf16) (harg5 : arg5.IsWhole) (arg6 : Memref sig .tc .vmem S1024x32 .bf16) (harg6 : arg6.IsWhole) (arg7 : Memref sig .tc .vmem S32x1024 .bf16) (harg7 : arg7.IsWhole) (arg8 : Memref sig .tc .vmem S1x1024 .f32) (harg8 : arg8.IsWhole) (arg9 : Memref sig .tc .vmem S1024x1024 .fp8e5m2) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1024x1024 .bf16) (harg12 : arg12.IsWhole) (arg13 : Memref sig .tc .vmem S1056x1024 .bf16) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1024x32 .bf16) (harg16 : arg16.IsWhole) (arg17 : Memref sig .tc .vmem S1024x32 .bf16) (harg17 : arg17.IsWhole) (arg18 : Memref sig .tc .vmem S32x1024 .bf16) (harg18 : arg18.IsWhole) (arg19 : Memref sig .tc .vmem S1056x1024 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1024x32 .f32) (harg23 : arg23.IsWhole) (arg24 : Memref sig .tc .vmem S32x1024 .bf16) (harg24 : arg24.IsWhole) (arg25 : Memref sig .tc .vmem S1024x32 .f32) (harg25 : arg25.IsWhole) :
    k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 = (do
      init0 i arg10 harg10 arg22 harg22 arg23 harg23 arg25 harg25
      init1 i arg4 harg4 arg19 harg19 arg20 harg20 arg21 harg21
      init2 i arg2 harg2 arg5 harg5 arg23 harg23
      let v11 : Vec F S32x2048 .bf16 ← Prog.lift (.load arg5 (Rect.unit (s := S32x2048) ![0, 0] S32x2048.size inb_S32x2048_S32x2048_0_0).toLoadRect (View.loadsAt_vmem h_S32x2048))
      let v12 : Vec F S1024x2048 .bf16 ← Prog.lift (.load arg2 (Rect.unit (s := S1024x2048) ![0, 0] S1024x2048.size inb_S1024x2048_S1024x2048_0_0).toLoadRect (View.loadsAt_vmem h_S1024x2048))
      let v15 : Vec F S256x32 .bf16 ← Prog.lift (.load arg6 (Rect.unit (s := S1024x32) ![0, 0] S256x32.size inb_S1024x32_S256x32_0_0).toLoadRect (View.loadsAt_vmem h_S256x32))
      let v17 : Vec F S256x128 .f32 ← Prog.lift (.load arg21 (Rect.unit (s := S1024x128) ![0, 0] S256x128.size inb_S1024x128_S256x128_0_0).toLoadRect (View.loadsAt_vmem h_S256x128))
      let v18 : Vec F S256x128 .f32 ← Prog.lift (.load arg20 (Rect.unit (s := S1024x128) ![0, 0] S256x128.size inb_S1024x128_S256x128_0_0).toLoadRect (View.loadsAt_vmem h_S256x128))
      let v19 : Vec F S256x128 .fp8e4m3 ← Prog.lift (.load arg3 (Rect.unit (s := S1024x2048) ![0, 0] S256x128.size inb_S1024x2048_S256x128_0_0).toLoadRect (View.loadsAt_vmem h_S256x128))
      let v27 : Vec F S256x128 .fp8e4m3 ← Prog.lift (.load arg3 (Rect.unit (s := S1024x2048) ![0, 128] S256x128.size inb_S1024x2048_S256x128_0_128).toLoadRect (View.loadsAt_vmem h_S256x128))
      pure ⟨BitVec.ofNat 32 (i 0).val, BitVec.ofNat 32 (i 1).val, v11, k0_pay52 v11 v12, k0_pay53 v11 v15, v17, k0_pay55 v11 v15 v17 v18 v19, k0_pay56 v11 v15 v17 v19, k0_pay57 v11 v15 v17 v27, k0_pay58 v11 v15 v17 v27⟩) := by
  rw [k0_part7_eq_skeleton]
  unfold init0 init1 init2
  simp only [dite_bind]
  rfl

theorem part20_stages (i : grid0.Coords) (arg2 : Memref sig .tc .vmem S1024x2048 .bf16) (harg2 : arg2.IsWhole) (arg3 : Memref sig .tc .vmem S1024x2048 .fp8e4m3) (harg3 : arg3.IsWhole) (arg4 : Memref sig .tc .vmem S1x1024 .f32) (harg4 : arg4.IsWhole) (arg5 : Memref sig .tc .vmem S32x2048 .bf16) (harg5 : arg5.IsWhole) (arg6 : Memref sig .tc .vmem S1024x32 .bf16) (harg6 : arg6.IsWhole) (arg7 : Memref sig .tc .vmem S32x1024 .bf16) (harg7 : arg7.IsWhole) (arg8 : Memref sig .tc .vmem S1x1024 .f32) (harg8 : arg8.IsWhole) (arg9 : Memref sig .tc .vmem S1024x1024 .fp8e5m2) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1024x1024 .bf16) (harg12 : arg12.IsWhole) (arg13 : Memref sig .tc .vmem S1056x1024 .bf16) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1024x32 .bf16) (harg16 : arg16.IsWhole) (arg17 : Memref sig .tc .vmem S1024x32 .bf16) (harg17 : arg17.IsWhole) (arg18 : Memref sig .tc .vmem S32x1024 .bf16) (harg18 : arg18.IsWhole) (arg19 : Memref sig .tc .vmem S1056x1024 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1024x32 .f32) (harg23 : arg23.IsWhole) (arg24 : Memref sig .tc .vmem S32x1024 .bf16) (harg24 : arg24.IsWhole) (arg25 : Memref sig .tc .vmem S1024x32 .f32) (harg25 : arg25.IsWhole) :
    k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 = (do
      init0 i arg10 harg10 arg22 harg22 arg23 harg23 arg25 harg25
      init1 i arg4 harg4 arg19 harg19 arg20 harg20 arg21 harg21
      init2 i arg2 harg2 arg5 harg5 arg23 harg23
      main arg2 harg2 arg3 harg3 arg5 harg5 arg6 harg6 arg11 harg11 arg19 harg19 arg20 harg20 arg21 harg21
      fin3 i arg16 harg16 arg23 harg23 arg24 harg24
      fin4 i arg6 harg6 arg7 harg7 arg8 harg8 arg9 harg9 arg12 harg12 arg13 harg13 arg14 harg14 arg15 harg15 arg19 harg19 arg20 harg20 arg22 harg22 arg24 harg24 arg25 harg25
      pure (Scalar.andi (Scalar.cmpi .eq (BitVec.ofNat 32 (i 0).val) 4#32) (Scalar.cmpi .eq (BitVec.ofNat 32 (i 1).val) 7#32))) := by
  rw [k0_part20_eq_skeleton]
  unfold k0_part20_skel
  rw [part7_stages]
  simp only [Prog.bind_assoc]
  congr 1; funext _; congr 1; funext _; congr 1; funext _
  unfold fin3 fin4
  simp only [dite_bind]
  rfl

/-- The printed body is its stages. -/
theorem body_stages (i : grid0.Coords) (arg2 : Memref sig .tc .vmem S1024x2048 .bf16) (harg2 : arg2.IsWhole) (arg3 : Memref sig .tc .vmem S1024x2048 .fp8e4m3) (harg3 : arg3.IsWhole) (arg4 : Memref sig .tc .vmem S1x1024 .f32) (harg4 : arg4.IsWhole) (arg5 : Memref sig .tc .vmem S32x2048 .bf16) (harg5 : arg5.IsWhole) (arg6 : Memref sig .tc .vmem S1024x32 .bf16) (harg6 : arg6.IsWhole) (arg7 : Memref sig .tc .vmem S32x1024 .bf16) (harg7 : arg7.IsWhole) (arg8 : Memref sig .tc .vmem S1x1024 .f32) (harg8 : arg8.IsWhole) (arg9 : Memref sig .tc .vmem S1024x1024 .fp8e5m2) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1024x1024 .bf16) (harg12 : arg12.IsWhole) (arg13 : Memref sig .tc .vmem S1056x1024 .bf16) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1024x32 .bf16) (harg16 : arg16.IsWhole) (arg17 : Memref sig .tc .vmem S1024x32 .bf16) (harg17 : arg17.IsWhole) (arg18 : Memref sig .tc .vmem S32x1024 .bf16) (harg18 : arg18.IsWhole) (arg19 : Memref sig .tc .vmem S1056x1024 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1024x32 .f32) (harg23 : arg23.IsWhole) (arg24 : Memref sig .tc .vmem S32x1024 .bf16) (harg24 : arg24.IsWhole) (arg25 : Memref sig .tc .vmem S1024x32 .f32) (harg25 : arg25.IsWhole) :
    cc0_dora_fwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 = (do
      init0 i arg10 harg10 arg22 harg22 arg23 harg23 arg25 harg25
      init1 i arg4 harg4 arg19 harg19 arg20 harg20 arg21 harg21
      init2 i arg2 harg2 arg5 harg5 arg23 harg23
      main arg2 harg2 arg3 harg3 arg5 harg5 arg6 harg6 arg11 harg11 arg19 harg19 arg20 harg20 arg21 harg21
      fin3 i arg16 harg16 arg23 harg23 arg24 harg24
      fin4 i arg6 harg6 arg7 harg7 arg8 harg8 arg9 harg9 arg12 harg12 arg13 harg13 arg14 harg14 arg15 harg15 arg19 harg19 arg20 harg20 arg22 harg22 arg24 harg24 arg25 harg25
      fin5 i arg17 harg17 arg18 harg18 arg25 harg25) := by
  rw [cc0_dora_fwd_eq_skeleton]
  unfold cc0_dora_fwd_skel
  rw [part20_stages]
  simp only [Prog.bind_assoc]
  congr 1

end Cert.FwdIdeal.Front

end
-- ==== Proof.Front.Point.lean ====
/-
  Hand-written, untrusted. WHAT THE STAGES LEAVE, 4: the ending of a row of blocks (four strips of `last`), and one whole grid point.
-/
module

public import proofs.«01_k».proof.Proof.Front.MainSpec
public import proofs.«01_k».proof.Proof.Front.Ending
public import proofs.«01_k».proof.Proof.Front.Stages

@[expose] public section

set_option maxRecDepth 16384

noncomputable section

namespace Cert.FwdIdeal.Front

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The five results of a row of blocks after the four strips of the ending. -/
def endZ (z : Vec F S1056x1024 .f32) (zo : Vec F S1024x1024 .bf16) : Vec F S1024x1024 .bf16 :=
  lastZ 3 z (lastZ 2 z (lastZ 1 z (lastZ 0 z zo)))
def endD (q : Vec F S1024x128 .f32) (z : Vec F S1056x1024 .f32) (ys : Vec F S1024x128 .f32) (y : Vec F S1024x1024 .fp8e5m2) (dm : Vec F S1x1024 .f32) : Vec F S1x1024 .f32 :=
  lastD (k0_pay3 q) 3 z ys y (lastD (k0_pay3 q) 2 z ys y (lastD (k0_pay3 q) 1 z ys y (lastD (k0_pay3 q) 0 z ys y dm)))
def endG (q : Vec F S1024x128 .f32) (m : Vec F S1x1024 .f32) (z : Vec F S1056x1024 .f32) (ys : Vec F S1024x128 .f32) (y : Vec F S1024x1024 .fp8e5m2) (bt : Vec F S32x1024 .bf16) (gk : Vec F S1056x1024 .bf16) : Vec F S1056x1024 .bf16 :=
  lastG (k0_pay3 q) (k0_pay4 m) (k0_pay5 q m) 3 z ys y bt (lastG (k0_pay3 q) (k0_pay4 m) (k0_pay5 q m) 2 z ys y bt (lastG (k0_pay3 q) (k0_pay4 m) (k0_pay5 q m) 1 z ys y bt (lastG (k0_pay3 q) (k0_pay4 m) (k0_pay5 q m) 0 z ys y bt gk)))
def endB (q : Vec F S1024x128 .f32) (m : Vec F S1x1024 .f32) (ys : Vec F S1024x128 .f32) (y : Vec F S1024x1024 .fp8e5m2) (b : Vec F S1024x32 .bf16) (gb : Vec F S1024x32 .f32) : Vec F S1024x32 .f32 :=
  lastB (k0_pay5 q m) 3 ys y b (lastB (k0_pay5 q m) 2 ys y b (lastB (k0_pay5 q m) 1 ys y b (lastB (k0_pay5 q m) 0 ys y b gb)))
def endL (q : Vec F S1024x128 .f32) (m : Vec F S1x1024 .f32) (z : Vec F S1056x1024 .f32) (ys : Vec F S1024x128 .f32) (y : Vec F S1024x1024 .fp8e5m2) (xt : Vec F S32x1024 .bf16) (dl : Vec F S1024x32 .bf16) : Vec F S1024x32 .bf16 :=
  lastL (k0_pay3 q) (k0_pay4 m) (k0_pay5 q m) 3 z ys y xt (lastL (k0_pay3 q) (k0_pay4 m) (k0_pay5 q m) 2 z ys y xt (lastL (k0_pay3 q) (k0_pay4 m) (k0_pay5 q m) 1 z ys y xt (lastL (k0_pay3 q) (k0_pay4 m) (k0_pay5 q m) 0 z ys y xt dl)))

/-- The ending of a row of blocks. -/
theorem fin4_spec (c : Dev nD) (i : grid0.Coords) (arg6 : Memref sig .tc .vmem S1024x32 .bf16) (harg6 : arg6.IsWhole) (arg7 : Memref sig .tc .vmem S32x1024 .bf16) (harg7 : arg7.IsWhole) (arg8 : Memref sig .tc .vmem S1x1024 .f32) (harg8 : arg8.IsWhole) (arg9 : Memref sig .tc .vmem S1024x1024 .fp8e5m2) (harg9 : arg9.IsWhole) (arg12 : Memref sig .tc .vmem S1024x1024 .bf16) (harg12 : arg12.IsWhole) (arg13 : Memref sig .tc .vmem S1056x1024 .bf16) (harg13 : arg13.IsWhole) (arg14 : Memref sig .tc .vmem S1x1024 .f32) (harg14 : arg14.IsWhole) (arg15 : Memref sig .tc .vmem S1024x32 .bf16) (harg15 : arg15.IsWhole) (arg19 : Memref sig .tc .vmem S1056x1024 .f32) (harg19 : arg19.IsWhole) (arg20 : Memref sig .tc .vmem S1024x128 .f32) (harg20 : arg20.IsWhole) (arg22 : Memref sig .tc .vmem S1024x128 .f32) (harg22 : arg22.IsWhole) (arg24 : Memref sig .tc .vmem S32x1024 .bf16) (harg24 : arg24.IsWhole) (arg25 : Memref sig .tc .vmem S1024x32 .f32) (harg25 : arg25.IsWhole)
    (b : Vec F S1024x32 .bf16) (bt : Vec F S32x1024 .bf16) (m : Vec F S1x1024 .f32) (y : Vec F S1024x1024 .fp8e5m2) (zo : Vec F S1024x1024 .bf16) (gk : Vec F S1056x1024 .bf16) (dm : Vec F S1x1024 .f32) (dl : Vec F S1024x32 .bf16) (z : Vec F S1056x1024 .f32) (q : Vec F S1024x128 .f32) (ys : Vec F S1024x128 .f32) (xt : Vec F S32x1024 .bf16) (gb : Vec F S1024x32 .f32)
    (E : Set ℕ) (Q : PUnit → sProp 𝕄) :
    iprop(owns (c : Thread nD τ) arg6 fullShare b ∗ owns (c : Thread nD τ) arg7 fullShare bt ∗ owns (c : Thread nD τ) arg8 fullShare m ∗ owns (c : Thread nD τ) arg9 fullShare y ∗ owns (c : Thread nD τ) arg12 fullShare zo ∗ owns (c : Thread nD τ) arg13 fullShare gk ∗ owns (c : Thread nD τ) arg14 fullShare dm ∗ owns (c : Thread nD τ) arg15 fullShare dl ∗ owns (c : Thread nD τ) arg19 fullShare z ∗ owns (c : Thread nD τ) arg20 fullShare q ∗ owns (c : Thread nD τ) arg22 fullShare ys ∗ owns (c : Thread nD τ) arg24 fullShare xt ∗ owns (c : Thread nD τ) arg25 fullShare gb
      ∗ (iprop(owns (c : Thread nD τ) arg6 fullShare b ∗ owns (c : Thread nD τ) arg7 fullShare bt ∗ owns (c : Thread nD τ) arg8 fullShare m ∗ owns (c : Thread nD τ) arg9 fullShare y ∗ owns (c : Thread nD τ) arg12 fullShare (if k0_cond5 i = 1#1 then endZ z zo else zo) ∗ owns (c : Thread nD τ) arg13 fullShare (if k0_cond5 i = 1#1 then endG q m z ys y bt gk else gk) ∗ owns (c : Thread nD τ) arg14 fullShare (if k0_cond5 i = 1#1 then endD q z ys y dm else dm) ∗ owns (c : Thread nD τ) arg15 fullShare (if k0_cond5 i = 1#1 then endL q m z ys y xt dl else dl) ∗ owns (c : Thread nD τ) arg19 fullShare z ∗ owns (c : Thread nD τ) arg20 fullShare q ∗ owns (c : Thread nD τ) arg22 fullShare ys ∗ owns (c : Thread nD τ) arg24 fullShare xt ∗ owns (c : Thread nD τ) arg25 fullShare (if k0_cond5 i = 1#1 then endB q m ys y b gb else gb)) -∗ Q ⟨⟩))
      ⊢ wp frame (wpE (defs₀ (F := F)) Variants.none c none) E (fin4 i arg6 harg6 arg7 harg7 arg8 harg8 arg9 harg9 arg12 harg12 arg13 harg13 arg14 harg14 arg15 harg15 arg19 harg19 arg20 harg20 arg22 harg22 arg24 harg24 arg25 harg25) Q := by
  by_cases h : k0_cond5 i = 1#1
  · rw [if_pos h, if_pos h, if_pos h, if_pos h, if_pos h]
    unfold fin4
    rw [dif_pos h]
    iintro ⟨H6, H7, H8, H9, H12, H13, H14, H15, H19, H20, H22, H24, H25, Hk⟩
    rw [wp_bind]
    iapply (load_full c arg20 harg20 q hz _ _ E _)
    isplitl [H20]; · iexact H20
    iintro H20
    rw [wp_bind]
    iapply (load_full c arg8 harg8 m hz _ _ E _)
    isplitl [H8]; · iexact H8
    iintro H8
    rw [wp_bind]
    iapply (last_spec c (k0_pay3 q) (k0_pay4 m) (k0_pay5 q m) 0 arg6 harg6 arg7 harg7 arg9 harg9 arg12 harg12 arg13 harg13 arg14 harg14 arg15 harg15 arg19 harg19 arg22 harg22 arg24 harg24 arg25 harg25)
    isplitl [H6]; · iexact H6
    isplitl [H7]; · iexact H7
    isplitl [H9]; · iexact H9
    isplitl [H12]; · iexact H12
    isplitl [H13]; · iexact H13
    isplitl [H14]; · iexact H14
    isplitl [H15]; · iexact H15
    isplitl [H19]; · iexact H19
    isplitl [H22]; · iexact H22
    isplitl [H24]; · iexact H24
    isplitl [H25]; · iexact H25
    iintro ⟨H6, H7, H9, H12, H13, H14, H15, H19, H22, H24, H25⟩
    rw [wp_bind]
    iapply (last_spec c (k0_pay3 q) (k0_pay4 m) (k0_pay5 q m) 1 arg6 harg6 arg7 harg7 arg9 harg9 arg12 harg12 arg13 harg13 arg14 harg14 arg15 harg15 arg19 harg19 arg22 harg22 arg24 harg24 arg25 harg25)
    isplitl [H6]; · iexact H6
    isplitl [H7]; · iexact H7
    isplitl [H9]; · iexact H9
    isplitl [H12]; · iexact H12
    isplitl [H13]; · iexact H13
    isplitl [H14]; · iexact H14
    isplitl [H15]; · iexact H15
    isplitl [H19]; · iexact H19
    isplitl [H22]; · iexact H22
    isplitl [H24]; · iexact H24
    isplitl [H25]; · iexact H25
    iintro ⟨H6, H7, H9, H12, H13, H14, H15, H19, H22, H24, H25⟩
    rw [wp_bind]
    iapply (last_spec c (k0_pay3 q) (k0_pay4 m) (k0_pay5 q m) 2 arg6 harg6 arg7 harg7 arg9 harg9 arg12 harg12 arg13 harg13 arg14 harg14 arg15 harg15 arg19 harg19 arg22 harg22 arg24 harg24 arg25 harg25)
    isplitl [H6]; · iexact H6
    isplitl [H7]; · iexact H7
    isplitl [H9]; · iexact H9
    isplitl [H12]; · iexact H12
    isplitl [H13]; · iexact H13
    isplitl [H14]; · iexact H14
    isplitl [H15]; · iexact H15
    isplitl [H19]; · iexact H19
    isplitl [H22]; · iexact H22
    isplitl [H24]; · iexact H24
    isplitl [H25]; · iexact H25
    iintro ⟨H6, H7, H9, H12, H13, H14, H15, H19, H22, H24, H25⟩
    iapply (last_spec c (k0_pay3 q) (k0_pay4 m) (k0_pay5 q m) 3 arg6 harg6 arg7 harg7 arg9 harg9 arg12 harg12 arg13 harg13 arg14 harg14 arg15 harg15 arg19 harg19 arg22 harg22 arg24 harg24 arg25 harg25)
    isplitl [H6]; · iexact H6
    isplitl [H7]; · iexact H7
    isplitl [H9]; · iexact H9
    isplitl [H12]; · iexact H12
    isplitl [H13]; · iexact H13
    isplitl [H14]; · iexact H14
    isplitl [H15]; · iexact H15
    isplitl [H19]; · iexact H19
    isplitl [H22]; · iexact H22
    isplitl [H24]; · iexact H24
    isplitl [H25]; · iexact H25
    iintro ⟨H6, H7, H9, H12, H13, H14, H15, H19, H22, H24, H25⟩
    iapply Hk
    isplitl [H6]; · iexact H6
    isplitl [H7]; · iexact H7
    isplitl [H8]; · iexact H8
    isplitl [H9]; · iexact H9
    isplitl [H12]; · iexact H12
    isplitl [H13]; · iexact H13
    isplitl [H14]; · iexact H14
    isplitl [H15]; · iexact H15
    isplitl [H19]; · iexact H19
    isplitl [H20]; · iexact H20
    isplitl [H22]; · iexact H22
    isplitl [H24]; · iexact H24
    iexact H25
  · rw [if_neg h, if_neg h, if_neg h, if_neg h, if_neg h]
    unfold fin4
    rw [dif_neg h]
    iintro ⟨H6, H7, H8, H9, H12, H13, H14, H15, H19, H20, H22, H24, H25, Hk⟩
    sl_step
    iapply Hk
    isplitl [H6]; · iexact H6
    isplitl [H7]; · iexact H7
    isplitl [H8]; · iexact H8
    isplitl [H9]; · iexact H9
    isplitl [H12]; · iexact H12
    isplitl [H13]; · iexact H13
    isplitl [H14]; · iexact H14
    isplitl [H15]; · iexact H15
    isplitl [H19]; · iexact H19
    isplitl [H20]; · iexact H20
    isplitl [H22]; · iexact H22
    isplitl [H24]; · iexact H24
    iexact H25

/-! ## One grid point -/

/-- The column buffers, the accumulators and the partial sums of squares as the point uses them. -/
def stYs (i : grid0.Coords) (yr : Vec F S1x1024 .f32) (ys : Vec F S1024x128 .f32) : Vec F S1024x128 .f32 :=
  if cond0_0 i then k0_pay45 yr else ys
def stXa (i : grid0.Coords) (x : Vec F S1024x2048 .bf16) (a : Vec F S32x2048 .bf16) (xa : Vec F S1024x32 .f32) : Vec F S1024x32 .f32 :=
  if cond0_2 i then k0_pay51 (if cond0_0 i then k0_pay46 (F := F) else xa) x a else if cond0_0 i then k0_pay46 (F := F) else xa
def stGb0 (i : grid0.Coords) (gb : Vec F S1024x32 .f32) : Vec F S1024x32 .f32 :=
  if cond0_0 i then k0_pay47 (F := F) else gb
def stSc (i : grid0.Coords) (ws : Vec F S1x1024 .f32) (sc : Vec F S1024x128 .f32) : Vec F S1024x128 .f32 :=
  if cond0_1 i then k0_pay48 ws else sc
def stV (i : grid0.Coords) (w : Vec F S1024x2048 .fp8e4m3) (ws : Vec F S1x1024 .f32) (a : Vec F S32x2048 .bf16) (b : Vec F S1024x32 .bf16) (v : Vec F S1024x2048 .bf16) (sc : Vec F S1024x128 .f32) : Vec F S1024x2048 .bf16 :=
  mainV a w b (stSc i ws sc) v
def stQ (i : grid0.Coords) (w : Vec F S1024x2048 .fp8e4m3) (ws : Vec F S1x1024 .f32) (a : Vec F S32x2048 .bf16) (b : Vec F S1024x32 .bf16) (q : Vec F S1024x128 .f32) (sc : Vec F S1024x128 .f32) : Vec F S1024x128 .f32 :=
  mainQ a w b (stSc i ws sc) (if cond0_1 i then k0_pay49 (F := F) else q)
def stZ (i : grid0.Coords) (x : Vec F S1024x2048 .bf16) (w : Vec F S1024x2048 .fp8e4m3) (ws : Vec F S1x1024 .f32) (a : Vec F S32x2048 .bf16) (b : Vec F S1024x32 .bf16) (z : Vec F S1056x1024 .f32) (sc : Vec F S1024x128 .f32) : Vec F S1056x1024 .f32 :=
  mainZ a x w b (stSc i ws sc) (if cond0_1 i then k0_pay50 (F := F) else z)

/-- What the point leaves for the next, and in the results; `q`, `z`, `ys`, `xa`, `xt` here are what it uses. -/
def stXo (i : grid0.Coords) (xo : Vec F S1024x32 .bf16) (xa : Vec F S1024x32 .f32) : Vec F S1024x32 .bf16 :=
  if k0_cond4 i = 1#1 then k0_pay205 xa else xo
def stXt (i : grid0.Coords) (xa : Vec F S1024x32 .f32) (xt : Vec F S32x1024 .bf16) : Vec F S32x1024 .bf16 :=
  if k0_cond4 i = 1#1 then k0_pay206 xa else xt
def stZo (i : grid0.Coords) (zo : Vec F S1024x1024 .bf16) (z : Vec F S1056x1024 .f32) : Vec F S1024x1024 .bf16 :=
  if k0_cond5 i = 1#1 then endZ z zo else zo
def stGk (i : grid0.Coords) (bt : Vec F S32x1024 .bf16) (m : Vec F S1x1024 .f32) (y : Vec F S1024x1024 .fp8e5m2) (gk : Vec F S1056x1024 .bf16) (z : Vec F S1056x1024 .f32) (q : Vec F S1024x128 .f32) (ys : Vec F S1024x128 .f32) : Vec F S1056x1024 .bf16 :=
  if k0_cond5 i = 1#1 then endG q m z ys y bt gk else gk
def stDm (i : grid0.Coords) (y : Vec F S1024x1024 .fp8e5m2) (dm : Vec F S1x1024 .f32) (z : Vec F S1056x1024 .f32) (q : Vec F S1024x128 .f32) (ys : Vec F S1024x128 .f32) : Vec F S1x1024 .f32 :=
  if k0_cond5 i = 1#1 then endD q z ys y dm else dm
def stDl (i : grid0.Coords) (m : Vec F S1x1024 .f32) (y : Vec F S1024x1024 .fp8e5m2) (dl : Vec F S1024x32 .bf16) (z : Vec F S1056x1024 .f32) (q : Vec F S1024x128 .f32) (ys : Vec F S1024x128 .f32) (xt : Vec F S32x1024 .bf16) : Vec F S1024x32 .bf16 :=
  if k0_cond5 i = 1#1 then endL q m z ys y xt dl else dl
def stGb (i : grid0.Coords) (b : Vec F S1024x32 .bf16) (m : Vec F S1x1024 .f32) (y : Vec F S1024x1024 .fp8e5m2) (q : Vec F S1024x128 .f32) (ys : Vec F S1024x128 .f32) (gb : Vec F S1024x32 .f32) : Vec F S1024x32 .f32 :=
  if k0_cond5 i = 1#1 then endB q m ys y b (stGb0 i gb) else stGb0 i gb
def stGo (i : grid0.Coords) (go : Vec F S1024x32 .bf16) (gb : Vec F S1024x32 .f32) : Vec F S1024x32 .bf16 :=
  if k0_cond6 i = 1#1 then k0_pay1 gb else go
def stGt (i : grid0.Coords) (gt : Vec F S32x1024 .bf16) (gb : Vec F S1024x32 .f32) : Vec F S32x1024 .bf16 :=
  if k0_cond6 i = 1#1 then k0_pay2 gb else gt

set_option maxHeartbeats 1000000 in
/-- One grid point. -/
theorem point_spec (c : Dev nD) (i : grid0.Coords) (arg2 : Memref sig .tc .vmem S1024x2048 .bf16) (harg2 : arg2.IsWhole) (arg3 : Memref sig .tc .vmem S1024x2048 .fp8e4m3) (harg3 : arg3.IsWhole) (arg4 : Memref sig .tc .vmem S1x1024 .f32) (harg4 : arg4.IsWhole) (arg5 : Memref sig .tc .vmem S32x2048 .bf16) (harg5 : arg5.IsWhole) (arg6 : Memref sig .tc .vmem S1024x32 .bf16) (harg6 : arg6.IsWhole) (arg7 : Memref sig .tc .vmem S32x1024 .bf16) (harg7 : arg7.IsWhole) (arg8 : Memref sig .tc .vmem S1x1024 .f32) (harg8 : arg8.IsWhole) (arg9 : Memref sig .tc .vmem S1024x1024 .fp8e5m2) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1024x1024 .bf16) (harg12 : arg12.IsWhole) (arg13 : Memref sig .tc .vmem S1056x1024 .bf16) (harg13 : arg13.IsWhole) (arg14 : Memref sig .tc .vmem S1x1024 .f32) (harg14 : arg14.IsWhole) (arg15 : Memref sig .tc .vmem S1024x32 .bf16) (harg15 : arg15.IsWhole) (arg16 : Memref sig .tc .vmem S1024x32 .bf16) (harg16 : arg16.IsWhole) (arg17 : Memref sig .tc .vmem S1024x32 .bf16) (harg17 : arg17.IsWhole) (arg18 : Memref sig .tc .vmem S32x1024 .bf16) (harg18 : arg18.IsWhole) (arg19 : Memref sig .tc .vmem S1056x1024 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1024x32 .f32) (harg23 : arg23.IsWhole) (arg24 : Memref sig .tc .vmem S32x1024 .bf16) (harg24 : arg24.IsWhole) (arg25 : Memref sig .tc .vmem S1024x32 .f32) (harg25 : arg25.IsWhole)
    (x : Vec F S1024x2048 .bf16) (w : Vec F S1024x2048 .fp8e4m3) (ws : Vec F S1x1024 .f32) (a : Vec F S32x2048 .bf16) (b : Vec F S1024x32 .bf16) (bt : Vec F S32x1024 .bf16) (m : Vec F S1x1024 .f32) (y : Vec F S1024x1024 .fp8e5m2) (yr : Vec F S1x1024 .f32) (v : Vec F S1024x2048 .bf16) (zo : Vec F S1024x1024 .bf16) (gk : Vec F S1056x1024 .bf16) (dm : Vec F S1x1024 .f32) (dl : Vec F S1024x32 .bf16) (xo : Vec F S1024x32 .bf16) (go : Vec F S1024x32 .bf16) (gt : Vec F S32x1024 .bf16) (z : Vec F S1056x1024 .f32) (q : Vec F S1024x128 .f32) (sc : Vec F S1024x128 .f32) (ys : Vec F S1024x128 .f32) (xa : Vec F S1024x32 .f32) (xt : Vec F S32x1024 .bf16) (gb : Vec F S1024x32 .f32)
    (E : Set ℕ) (Q : PUnit → sProp 𝕄) :
    iprop(owns (c : Thread nD τ) arg2 fullShare x ∗ owns (c : Thread nD τ) arg3 fullShare w ∗ owns (c : Thread nD τ) arg4 fullShare ws ∗ owns (c : Thread nD τ) arg5 fullShare a ∗ owns (c : Thread nD τ) arg6 fullShare b ∗ owns (c : Thread nD τ) arg7 fullShare bt ∗ owns (c : Thread nD τ) arg8 fullShare m ∗ owns (c : Thread nD τ) arg9 fullShare y ∗ owns (c : Thread nD τ) arg10 fullShare yr ∗ owns (c : Thread nD τ) arg11 fullShare v ∗ owns (c : Thread nD τ) arg12 fullShare zo ∗ owns (c : Thread nD τ) arg13 fullShare gk ∗ owns (c : Thread nD τ) arg14 fullShare dm ∗ owns (c : Thread nD τ) arg15 fullShare dl ∗ owns (c : Thread nD τ) arg16 fullShare xo ∗ owns (c : Thread nD τ) arg17 fullShare go ∗ owns (c : Thread nD τ) arg18 fullShare gt ∗ owns (c : Thread nD τ) arg19 fullShare z ∗ owns (c : Thread nD τ) arg20 fullShare q ∗ owns (c : Thread nD τ) arg21 fullShare sc ∗ owns (c : Thread nD τ) arg22 fullShare ys ∗ owns (c : Thread nD τ) arg23 fullShare xa ∗ owns (c : Thread nD τ) arg24 fullShare xt ∗ owns (c : Thread nD τ) arg25 fullShare gb
      ∗ (iprop(owns (c : Thread nD τ) arg2 fullShare x ∗ owns (c : Thread nD τ) arg3 fullShare w ∗ owns (c : Thread nD τ) arg4 fullShare ws ∗ owns (c : Thread nD τ) arg5 fullShare a ∗ owns (c : Thread nD τ) arg6 fullShare b ∗ owns (c : Thread nD τ) arg7 fullShare bt ∗ owns (c : Thread nD τ) arg8 fullShare m ∗ owns (c : Thread nD τ) arg9 fullShare y ∗ owns (c : Thread nD τ) arg10 fullShare yr ∗ owns (c : Thread nD τ) arg11 fullShare (stV i w ws a b v sc) ∗ owns (c : Thread nD τ) arg12 fullShare (stZo i zo (stZ i x w ws a b z sc)) ∗ owns (c : Thread nD τ) arg13 fullShare (stGk i bt m y gk (stZ i x w ws a b z sc) (stQ i w ws a b q sc) (stYs i yr ys)) ∗ owns (c : Thread nD τ) arg14 fullShare (stDm i y dm (stZ i x w ws a b z sc) (stQ i w ws a b q sc) (stYs i yr ys)) ∗ owns (c : Thread nD τ) arg15 fullShare (stDl i m y dl (stZ i x w ws a b z sc) (stQ i w ws a b q sc) (stYs i yr ys) (stXt i (stXa i x a xa) xt)) ∗ owns (c : Thread nD τ) arg16 fullShare (stXo i xo (stXa i x a xa)) ∗ owns (c : Thread nD τ) arg17 fullShare (stGo i go (stGb i b m y (stQ i w ws a b q sc) (stYs i yr ys) gb)) ∗ owns (c : Thread nD τ) arg18 fullShare (stGt i gt (stGb i b m y (stQ i w ws a b q sc) (stYs i yr ys) gb)) ∗ owns (c : Thread nD τ) arg19 fullShare (stZ i x w ws a b z sc) ∗ owns (c : Thread nD τ) arg20 fullShare (stQ i w ws a b q sc) ∗ owns (c : Thread nD τ) arg21 fullShare (stSc i ws sc) ∗ owns (c : Thread nD τ) arg22 fullShare (stYs i yr ys) ∗ owns (c : Thread nD τ) arg23 fullShare (stXa i x a xa) ∗ owns (c : Thread nD τ) arg24 fullShare (stXt i (stXa i x a xa) xt) ∗ owns (c : Thread nD τ) arg25 fullShare (stGb i b m y (stQ i w ws a b q sc) (stYs i yr ys) gb)) -∗ Q ⟨⟩))
      ⊢ wp frame (wpE (defs₀ (F := F)) Variants.none c none) E (cc0_dora_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) Q := by
  rw [body_stages]
  iintro ⟨H2, H3, H4, H5, H6, H7, H8, H9, H10, H11, H12, H13, H14, H15, H16, H17, H18, H19, H20, H21, H22, H23, H24, H25, Hk⟩
  rw [wp_bind]
  iapply (init0_spec c i arg10 harg10 arg22 harg22 arg23 harg23 arg25 harg25)
  isplitl [H10]; · iexact H10
  isplitl [H22]; · iexact H22
  isplitl [H23]; · iexact H23
  isplitl [H25]; · iexact H25
  iintro ⟨H10, H22, H23, H25⟩
  rw [wp_bind]
  iapply (init1_spec c i arg4 harg4 arg19 harg19 arg20 harg20 arg21 harg21)
  isplitl [H4]; · iexact H4
  isplitl [H19]; · iexact H19
  isplitl [H20]; · iexact H20
  isplitl [H21]; · iexact H21
  iintro ⟨H4, H19, H20, H21⟩
  rw [wp_bind]
  iapply (init2_spec c i arg2 harg2 arg5 harg5 arg23 harg23)
  isplitl [H2]; · iexact H2
  isplitl [H5]; · iexact H5
  isplitl [H23]; · iexact H23
  iintro ⟨H2, H5, H23⟩
  rw [wp_bind]
  iapply (main_spec c arg2 harg2 arg3 harg3 arg5 harg5 arg6 harg6 arg11 harg11 arg19 harg19 arg20 harg20 arg21 harg21)
  isplitl [H2]; · iexact H2
  isplitl [H3]; · iexact H3
  isplitl [H5]; · iexact H5
  isplitl [H6]; · iexact H6
  isplitl [H11]; · iexact H11
  isplitl [H19]; · iexact H19
  isplitl [H20]; · iexact H20
  isplitl [H21]; · iexact H21
  iintro ⟨H2, H3, H5, H6, H11, H19, H20, H21⟩
  rw [wp_bind]
  iapply (fin3_spec c i arg16 harg16 arg23 harg23 arg24 harg24)
  isplitl [H16]; · iexact H16
  isplitl [H23]; · iexact H23
  isplitl [H24]; · iexact H24
  iintro ⟨H16, H23, H24⟩
  rw [wp_bind]
  iapply (fin4_spec c i arg6 harg6 arg7 harg7 arg8 harg8 arg9 harg9 arg12 harg12 arg13 harg13 arg14 harg14 arg15 harg15 arg19 harg19 arg20 harg20 arg22 harg22 arg24 harg24 arg25 harg25)
  isplitl [H6]; · iexact H6
  isplitl [H7]; · iexact H7
  isplitl [H8]; · iexact H8
  isplitl [H9]; · iexact H9
  isplitl [H12]; · iexact H12
  isplitl [H13]; · iexact H13
  isplitl [H14]; · iexact H14
  isplitl [H15]; · iexact H15
  isplitl [H19]; · iexact H19
  isplitl [H20]; · iexact H20
  isplitl [H22]; · iexact H22
  isplitl [H24]; · iexact H24
  isplitl [H25]; · iexact H25
  iintro ⟨H6, H7, H8, H9, H12, H13, H14, H15, H19, H20, H22, H24, H25⟩
  iapply (fin5_spec c i arg17 harg17 arg18 harg18 arg25 harg25)
  isplitl [H17]; · iexact H17
  isplitl [H18]; · iexact H18
  isplitl [H25]; · iexact H25
  iintro ⟨H17, H18, H25⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

end Cert.FwdIdeal.Front

end
-- ==== Proof.Front.State.lean ====
/-
  Hand-written, untrusted. THE STATE OF THE FIRST CALL BETWEEN GRID POINTS: what each scratch holds after `n` points, as recursions over the
  points, and what each result's buffer holds after a point. The stores of a point cover each result it leaves, so what was there before
  does not matter.
-/
module

public import proofs.«01_k».proof.Proof.Front.Point

@[expose] public section

set_option maxRecDepth 16384

noncomputable section

namespace Cert.FwdIdeal.Front

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Stores that cover a buffer -/

section Cover
variable {α : Type} {s : Shape}

theorem put_in (x x' : s.Idx → α) (off size : Fin s.rank → ℕ) (w : ((a : Fin s.rank) → Fin (size a)) → α) (y : s.Idx)
    (h : ∀ a, off a ≤ (y a).val ∧ (y a).val < off a + size a) : VecWindow.put x off size w y = VecWindow.put x' off size w y := by
  unfold VecWindow.put; rw [dif_pos h, dif_pos h]

theorem put_of (x x' : s.Idx → α) (off size : Fin s.rank → ℕ) (w : ((a : Fin s.rank) → Fin (size a)) → α) (y : s.Idx)
    (h : x y = x' y) : VecWindow.put x off size w y = VecWindow.put x' off size w y := by
  unfold VecWindow.put; rw [h]

/-- Four strips of 256 columns cover 1024 columns. -/
theorem cols4 {R : ℕ} (x x' : (⟨2, ![R, 1024]⟩ : Shape).Idx → α) (w : Fin 4 → ((a : Fin 2) → Fin ((![R, 256] : Fin 2 → ℕ) a)) → α) :
    VecWindow.put (VecWindow.put (VecWindow.put (VecWindow.put x ![0, 256 * (0 : Fin 4).val] ![R, 256] (w 0)) ![0, 256 * (1 : Fin 4).val] ![R, 256] (w 1)) ![0, 256 * (2 : Fin 4).val] ![R, 256] (w 2)) ![0, 256 * (3 : Fin 4).val] ![R, 256] (w 3)
      = VecWindow.put (VecWindow.put (VecWindow.put (VecWindow.put x' ![0, 256 * (0 : Fin 4).val] ![R, 256] (w 0)) ![0, 256 * (1 : Fin 4).val] ![R, 256] (w 1)) ![0, 256 * (2 : Fin 4).val] ![R, 256] (w 2)) ![0, 256 * (3 : Fin 4).val] ![R, 256] (w 3) := by
  funext y
  have h0 : (y 0).val < R := (y 0).isLt
  have h1 : (y 1).val < 1024 := (y 1).isLt
  have key : ∀ k : Fin 4, (y 1).val / 256 = k.val → ∀ a, (![0, 256 * k.val] : Fin 2 → ℕ) a ≤ (y a).val ∧ (y a).val < (![0, 256 * k.val] : Fin 2 → ℕ) a + (![R, 256] : Fin 2 → ℕ) a := fun k hk a => by
    match a with
    | ⟨0, _⟩ => show 0 ≤ (y 0).val ∧ (y 0).val < 0 + R; omega
    | ⟨1, _⟩ => show 256 * k.val ≤ (y 1).val ∧ (y 1).val < 256 * k.val + 256; omega
  by_cases e3 : (y 1).val / 256 = 3
  · exact put_in _ _ _ _ _ _ (key 3 e3)
  refine put_of _ _ _ _ _ _ ?_
  by_cases e2 : (y 1).val / 256 = 2
  · exact put_in _ _ _ _ _ _ (key 2 e2)
  refine put_of _ _ _ _ _ _ ?_
  by_cases e1 : (y 1).val / 256 = 1
  · exact put_in _ _ _ _ _ _ (key 1 e1)
  refine put_of _ _ _ _ _ _ ?_
  exact put_in _ _ _ _ _ _ (key 0 (by show _ = 0; omega))

/-- Four strips of 256 rows cover 1024 rows. -/
theorem rows4 {R : ℕ} (x x' : (⟨2, ![1024, R]⟩ : Shape).Idx → α) (w : Fin 4 → ((a : Fin 2) → Fin ((![256, R] : Fin 2 → ℕ) a)) → α) :
    VecWindow.put (VecWindow.put (VecWindow.put (VecWindow.put x ![256 * (0 : Fin 4).val, 0] ![256, R] (w 0)) ![256 * (1 : Fin 4).val, 0] ![256, R] (w 1)) ![256 * (2 : Fin 4).val, 0] ![256, R] (w 2)) ![256 * (3 : Fin 4).val, 0] ![256, R] (w 3)
      = VecWindow.put (VecWindow.put (VecWindow.put (VecWindow.put x' ![256 * (0 : Fin 4).val, 0] ![256, R] (w 0)) ![256 * (1 : Fin 4).val, 0] ![256, R] (w 1)) ![256 * (2 : Fin 4).val, 0] ![256, R] (w 2)) ![256 * (3 : Fin 4).val, 0] ![256, R] (w 3) := by
  funext y
  have h0 : (y 0).val < 1024 := (y 0).isLt
  have h1 : (y 1).val < R := (y 1).isLt
  have key : ∀ k : Fin 4, (y 0).val / 256 = k.val → ∀ a, (![256 * k.val, 0] : Fin 2 → ℕ) a ≤ (y a).val ∧ (y a).val < (![256 * k.val, 0] : Fin 2 → ℕ) a + (![256, R] : Fin 2 → ℕ) a := fun k hk a => by
    match a with
    | ⟨0, _⟩ => show 256 * k.val ≤ (y 0).val ∧ (y 0).val < 256 * k.val + 256; omega
    | ⟨1, _⟩ => show 0 ≤ (y 1).val ∧ (y 1).val < 0 + R; omega
  by_cases e3 : (y 0).val / 256 = 3
  · exact put_in _ _ _ _ _ _ (key 3 e3)
  refine put_of _ _ _ _ _ _ ?_
  by_cases e2 : (y 0).val / 256 = 2
  · exact put_in _ _ _ _ _ _ (key 2 e2)
  refine put_of _ _ _ _ _ _ ?_
  by_cases e1 : (y 0).val / 256 = 1
  · exact put_in _ _ _ _ _ _ (key 1 e1)
  refine put_of _ _ _ _ _ _ ?_
  exact put_in _ _ _ _ _ _ (key 0 (by show _ = 0; omega))

end Cover

variable {F : FTy → Type} [FloatOps F]

local notation "𝕄" => MT nD τ sig Unit (Elt F) ℕ (UR sig nD τ) ℕ

theorem mainV_any (a : Vec F S32x2048 .bf16) (w : Vec F S1024x2048 .fp8e4m3) (b : Vec F S1024x32 .bf16) (sc : Vec F S1024x128 .f32) (v v' : Vec F S1024x2048 .bf16) :
    mainV a w b sc v = mainV a w b sc v' := rows4 v v' (fun s => stripVal a w b sc s)

theorem endZ_any (z : Vec F S1056x1024 .f32) (zo zo' : Vec F S1024x1024 .bf16) : endZ z zo = endZ z zo' :=
  cols4 zo zo' (fun s => k0_pay35 (topZ z s))

theorem endD_any (q : Vec F S1024x128 .f32) (z : Vec F S1056x1024 .f32) (ys : Vec F S1024x128 .f32) (y : Vec F S1024x1024 .fp8e5m2) (dm dm' : Vec F S1x1024 .f32) :
    endD q z ys y dm = endD q z ys y dm' := cols4 dm dm' (fun s => dmS (k0_pay3 q) s z ys y)

theorem endL_any (q : Vec F S1024x128 .f32) (m : Vec F S1x1024 .f32) (z : Vec F S1056x1024 .f32) (ys : Vec F S1024x128 .f32) (y : Vec F S1024x1024 .fp8e5m2) (xt : Vec F S32x1024 .bf16) (dl dl' : Vec F S1024x32 .bf16) :
    endL q m z ys y xt dl = endL q m z ys y xt dl' :=
  rows4 dl dl' (fun s => fdlb (gS (k0_pay5 q m) s ys y) (kS (k0_pay3 q) (k0_pay4 m) s z ys y) xt (botZ z s))

/-- Each strip of `lastG` covers its 256 columns of all 1056 rows. -/
theorem lastG_any (n mm k : FVec F S1x1024 .f32) (s : Fin 4) (z : Vec F S1056x1024 .f32) (ys : Vec F S1024x128 .f32) (y : Vec F S1024x1024 .fp8e5m2) (bt : Vec F S32x1024 .bf16) (gk gk' : Vec F S1056x1024 .bf16)
    (i : S1056x1024.Idx) (h : (i 1).val / 256 = s.val ∨ gk i = gk' i) : lastG n mm k s z ys y bt gk i = lastG n mm k s z ys y bt gk' i := by
  have h0 : (i 0).val < 1056 := (i 0).isLt
  unfold lastG
  rcases h with h | h
  · by_cases e : (i 0).val < 1024
    · refine put_of _ _ _ _ _ _ (put_in _ _ _ _ _ _ fun a => ?_)
      match a with
      | ⟨0, _⟩ => show 0 ≤ (i 0).val ∧ (i 0).val < 0 + 1024; omega
      | ⟨1, _⟩ => show 256 * s.val ≤ (i 1).val ∧ (i 1).val < 256 * s.val + 256; omega
    · refine put_in _ _ _ _ _ _ fun a => ?_
      match a with
      | ⟨0, _⟩ => show 1024 ≤ (i 0).val ∧ (i 0).val < 1024 + 32; omega
      | ⟨1, _⟩ => show 256 * s.val ≤ (i 1).val ∧ (i 1).val < 256 * s.val + 256; omega
  · exact put_of _ _ _ _ _ _ (put_of _ _ _ _ _ _ h)

theorem endG_any (q : Vec F S1024x128 .f32) (m : Vec F S1x1024 .f32) (z : Vec F S1056x1024 .f32) (ys : Vec F S1024x128 .f32) (y : Vec F S1024x1024 .fp8e5m2) (bt : Vec F S32x1024 .bf16) (gk gk' : Vec F S1056x1024 .bf16) :
    endG q m z ys y bt gk = endG q m z ys y bt gk' := by
  funext i
  have h1 : (i 1).val < 1024 := (i 1).isLt
  unfold endG
  by_cases e3 : (i 1).val / 256 = 3
  · exact lastG_any _ _ _ _ _ _ _ _ _ _ _ (.inl e3)
  refine lastG_any _ _ _ _ _ _ _ _ _ _ _ (.inr ?_)
  by_cases e2 : (i 1).val / 256 = 2
  · exact lastG_any _ _ _ _ _ _ _ _ _ _ _ (.inl e2)
  refine lastG_any _ _ _ _ _ _ _ _ _ _ _ (.inr ?_)
  by_cases e1 : (i 1).val / 256 = 1
  · exact lastG_any _ _ _ _ _ _ _ _ _ _ _ (.inl e1)
  refine lastG_any _ _ _ _ _ _ _ _ _ _ _ (.inr ?_)
  exact lastG_any _ _ _ _ _ _ _ _ _ _ _ (.inl (by show _ = 0; omega))

/-! ## The scratches after `n` points -/

/-- The `n`-th grid point. -/
def pt (n : ℕ) : Fin cfg0.N := ⟨n % 40, by show n % 40 < grid0.N; rw [N_0]; omega⟩

theorem pt_val (t : Fin cfg0.N) : pt t.val = t := Fin.ext (Nat.mod_eq_of_lt (Nat.lt_of_lt_of_eq t.isLt N_0))

variable (m : (ℓ : Loc nD τ sig) → Buf (Elt F) ℓ) (c : Dev nD)

/-- The column of weight scales; the column of gradient scales. -/
def SC : ℕ → Vec F S1024x128 .f32
  | 0 => k0_pay49
  | n + 1 => stSc (grid0.coords (pt n)) (iblk m c 2 (pt n)) (SC n)
def YS : ℕ → Vec F S1024x128 .f32
  | 0 => k0_pay49
  | n + 1 => stYs (grid0.coords (pt n)) (iblk m c 8 (pt n)) (YS n)
/-- The partial products of the adapter, their transpose, the partial sums of squares, the partial products. -/
def XA : ℕ → Vec F S1024x32 .f32
  | 0 => k0_pay46
  | n + 1 => stXa (grid0.coords (pt n)) (iblk m c 0 (pt n)) (iblk m c 3 (pt n)) (XA n)
def XT : ℕ → Vec F S32x1024 .bf16
  | 0 => k0_pay206 (k0_pay46 (F := F))
  | n + 1 => stXt (grid0.coords (pt n)) (XA m c (n + 1)) (XT n)
def QQ : ℕ → Vec F S1024x128 .f32
  | 0 => k0_pay49
  | n + 1 => stQ (grid0.coords (pt n)) (iblk m c 1 (pt n)) (iblk m c 2 (pt n)) (iblk m c 3 (pt n)) (iblk m c 4 (pt n)) (QQ n) (SC m c n)
def ZZ : ℕ → Vec F S1056x1024 .f32
  | 0 => k0_pay50
  | n + 1 => stZ (grid0.coords (pt n)) (iblk m c 0 (pt n)) (iblk m c 1 (pt n)) (iblk m c 2 (pt n)) (iblk m c 3 (pt n)) (iblk m c 4 (pt n)) (ZZ n) (SC m c n)
/-- The partial product of the second adapter's gradient. -/
def GB : ℕ → Vec F S1024x32 .f32
  | 0 => k0_pay47
  | n + 1 => stGb (grid0.coords (pt n)) (iblk m c 4 (pt n)) (iblk m c 6 (pt n)) (iblk m c 7 (pt n)) (QQ m c (n + 1)) (YS m c (n + 1)) (GB n)

theorem SC_succ (t : Fin cfg0.N) : SC m c (t.val + 1) = stSc (grid0.coords t) (iblk m c 2 t) (SC m c t.val) := by rw [SC, pt_val]
theorem YS_succ (t : Fin cfg0.N) : YS m c (t.val + 1) = stYs (grid0.coords t) (iblk m c 8 t) (YS m c t.val) := by rw [YS, pt_val]
theorem XA_succ (t : Fin cfg0.N) : XA m c (t.val + 1) = stXa (grid0.coords t) (iblk m c 0 t) (iblk m c 3 t) (XA m c t.val) := by rw [XA, pt_val]
theorem XT_succ (t : Fin cfg0.N) : XT m c (t.val + 1) = stXt (grid0.coords t) (XA m c (t.val + 1)) (XT m c t.val) := by rw [XT, pt_val]
theorem QQ_succ (t : Fin cfg0.N) : QQ m c (t.val + 1) = stQ (grid0.coords t) (iblk m c 1 t) (iblk m c 2 t) (iblk m c 3 t) (iblk m c 4 t) (QQ m c t.val) (SC m c t.val) := by rw [QQ, pt_val]
theorem ZZ_succ (t : Fin cfg0.N) : ZZ m c (t.val + 1) = stZ (grid0.coords t) (iblk m c 0 t) (iblk m c 1 t) (iblk m c 2 t) (iblk m c 3 t) (iblk m c 4 t) (ZZ m c t.val) (SC m c t.val) := by rw [ZZ, pt_val]
theorem GB_succ (t : Fin cfg0.N) : GB m c (t.val + 1) = stGb (grid0.coords t) (iblk m c 4 t) (iblk m c 6 t) (iblk m c 7 t) (QQ m c (t.val + 1)) (YS m c (t.val + 1)) (GB m c t.val) := by rw [GB, pt_val]

/-- What is known of the scratches after `n` points: all but one from the first point on, the transposed adapter product from the end of the first
    row of blocks on. -/
def Inv (n : ℕ) (z : Vec F S1056x1024 .f32) (q sc ys : Vec F S1024x128 .f32) (xa : Vec F S1024x32 .f32) (xt : Vec F S32x1024 .bf16) (gb : Vec F S1024x32 .f32) : Prop :=
  (n ≠ 0 → z = ZZ m c n ∧ q = QQ m c n ∧ sc = SC m c n ∧ ys = YS m c n ∧ xa = XA m c n ∧ gb = GB m c n) ∧ (8 ≤ n → xt = XT m c n)

/-- A point leaves the scratches as the recursions say. -/
theorem step (t : Fin cfg0.N) {z : Vec F S1056x1024 .f32} {q sc ys : Vec F S1024x128 .f32} {xa : Vec F S1024x32 .f32} {xt : Vec F S32x1024 .bf16} {gb : Vec F S1024x32 .f32}
    (h : Inv m c t.val z q sc ys xa xt gb) :
    stSc (grid0.coords t) (iblk m c 2 t) sc = SC m c (t.val + 1) ∧ stYs (grid0.coords t) (iblk m c 8 t) ys = YS m c (t.val + 1)
      ∧ stXa (grid0.coords t) (iblk m c 0 t) (iblk m c 3 t) xa = XA m c (t.val + 1)
      ∧ stQ (grid0.coords t) (iblk m c 1 t) (iblk m c 2 t) (iblk m c 3 t) (iblk m c 4 t) q sc = QQ m c (t.val + 1)
      ∧ stZ (grid0.coords t) (iblk m c 0 t) (iblk m c 1 t) (iblk m c 2 t) (iblk m c 3 t) (iblk m c 4 t) z sc = ZZ m c (t.val + 1)
      ∧ stGb (grid0.coords t) (iblk m c 4 t) (iblk m c 6 t) (iblk m c 7 t) (QQ m c (t.val + 1)) (YS m c (t.val + 1)) gb = GB m c (t.val + 1)
      ∧ (7 ≤ t.val → stXt (grid0.coords t) (XA m c (t.val + 1)) xt = XT m c (t.val + 1)) := by
  have ht : t.val < 40 := Nat.lt_of_lt_of_eq t.isLt N_0
  refine ⟨?_, ?_, ?_, ?_, ?_, ?_, ?_⟩
  all_goals first | rw [GB_succ] | rw [SC_succ] | rw [YS_succ] | rw [XA_succ m c t] | rw [QQ_succ] | rw [ZZ_succ] | skip
  rotate_right 1
  · intro h7
    rw [XT_succ]
    by_cases e : t.val = 7
    · have h3 := (hcond0_3 t).mpr (by omega)
      unfold stXt; rw [if_pos h3, if_pos h3, XA_succ]
    · rw [h.2 (by omega), XA_succ]
  all_goals by_cases e : t.val = 0
  all_goals first
    | (have h0 := (hcond0_0 t).mpr (by omega)
       have h1 := (hcond0_1 t).mpr (by omega)
       simp only [stSc, stYs, stXa, stQ, stZ, stGb, stGb0, if_pos h0, if_pos h1]
       done)
    | (obtain ⟨h1, h2, h3, h4, h5, h6⟩ := h.1 e
       first | rw [h3] | skip
       first | rw [h1] | rw [h2] | rw [h4] | rw [h5] | rw [h6] | skip
       done)

/-! ## The results' buffers after a point -/

def outV (t : Fin cfg0.N) : Vec F S1024x2048 .bf16 := mainV (iblk m c 3 t) (iblk m c 1 t) (iblk m c 4 t) (SC m c (t.val + 1)) (iblk m c 9 t)
def outZ (t : Fin cfg0.N) : Vec F S1024x1024 .bf16 := endZ (ZZ m c (t.val + 1)) (iblk m c 10 t)
def outG (t : Fin cfg0.N) : Vec F S1056x1024 .bf16 := endG (QQ m c (t.val + 1)) (iblk m c 6 t) (ZZ m c (t.val + 1)) (YS m c (t.val + 1)) (iblk m c 7 t) (iblk m c 5 t) (iblk m c 11 t)
def outD (t : Fin cfg0.N) : Vec F S1x1024 .f32 := endD (QQ m c (t.val + 1)) (ZZ m c (t.val + 1)) (YS m c (t.val + 1)) (iblk m c 7 t) (iblk m c 12 t)
def outL (t : Fin cfg0.N) : Vec F S1024x32 .bf16 := endL (QQ m c (t.val + 1)) (iblk m c 6 t) (ZZ m c (t.val + 1)) (YS m c (t.val + 1)) (iblk m c 7 t) (XT m c (t.val + 1)) (iblk m c 13 t)
/-- The adapter product is stored at the end of the first row of blocks and stays. -/
def outX : Vec F S1024x32 .bf16 := k0_pay205 (XA m c 8)
def outB (t : Fin cfg0.N) : Vec F S1024x32 .bf16 := k0_pay1 (GB m c (t.val + 1))
def outT (t : Fin cfg0.N) : Vec F S32x1024 .bf16 := k0_pay2 (GB m c (t.val + 1))

end Cert.FwdIdeal.Front

end
-- ==== Proof.Front.Run.lean ====
/-
  Hand-written, untrusted. THE RUN OF THE FIRST CALL: the proof data over the recursions of State.lean, the body obligation from the
  specification of a point, the launch, and the frame.
-/
module

public import proofs.«01_k».proof.Proof.Front.State
public import Idealize.ShloMosaic.Lib.Pipeline.TableIdle
public import Idealize.ShloMosaic.Lib.Claim

@[expose] public section

set_option maxRecDepth 16384

noncomputable section

namespace Cert.FwdIdeal.Front

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratches before point `n`: at contents of which `Inv` is known; and the generator register. -/
def PhiS (c : Dev nD) (n : ℕ) : sProp 𝕄 :=
  iprop(∃ z q sc ys xa xt gb, ⌜Inv m c n z q sc ys xa xt gb⌝ ∗ owns (c : Thread nD τ) scM0_0 fullShare z ∗ owns (c : Thread nD τ) scM0_1 fullShare q ∗ owns (c : Thread nD τ) scM0_2 fullShare sc ∗ owns (c : Thread nD τ) scM0_3 fullShare ys ∗ owns (c : Thread nD τ) scM0_4 fullShare xa ∗ owns (c : Thread nD τ) scM0_5 fullShare xt ∗ owns (c : Thread nD τ) scM0_6 fullShare gb ∗ (∃ r, prngReg c r))

/-- The proof data: the arrays as the region finds them; after a point each input's buffer at its block and each result's as State.lean says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outV m c t
    | ⟨10, _⟩ => outZ m c t
    | ⟨11, _⟩ => outG m c t
    | ⟨12, _⟩ => outD m c t
    | ⟨13, _⟩ => outL m c t
    | ⟨14, _⟩ => outX m c
    | ⟨15, _⟩ => outB m c t
    | ⟨16, _⟩ => outT m c t
    | ⟨_ + 17, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outV m c t := by dsimp only [dats]
theorem after0_10 (c : Dev nD) (t : Fin cfg0.N) : (dats m 0 c).after 10 t = outZ m c t := by dsimp only [dats]
theorem after0_11 (c : Dev nD) (t : Fin cfg0.N) : (dats m 0 c).after 11 t = outG m c t := by dsimp only [dats]
theorem after0_12 (c : Dev nD) (t : Fin cfg0.N) : (dats m 0 c).after 12 t = outD m c t := by dsimp only [dats]
theorem after0_13 (c : Dev nD) (t : Fin cfg0.N) : (dats m 0 c).after 13 t = outL m c t := by dsimp only [dats]
theorem after0_14 (c : Dev nD) (t : Fin cfg0.N) : (dats m 0 c).after 14 t = outX m c := by dsimp only [dats]
theorem after0_15 (c : Dev nD) (t : Fin cfg0.N) : (dats m 0 c).after 15 t = outB m c t := by dsimp only [dats]
theorem after0_16 (c : Dev nD) (t : Fin cfg0.N) : (dats m 0 c).after 16 t = outT m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What a result's buffer must hold after a point: at an idle point that does not write it back what it held, else what the proof data says. -/
theorem leave_of {c : Dev nD} (D : Dat τ (Elt F) Unit ℕ (UR sig nD τ) ℕ cfg0 c) (w : Fin cfg0.W) (t : Fin cfg0.N) (d : (cfg0.win w).block.Idx → Elt F (cfg0.win w).elt) (X : (cfg0.win w).block.Idx → Elt F (cfg0.win w).elt)
    (h : cfg0.idle w (grid0.coords t) = true → (cfg0.win w).flush t = false → X = D.before w t d)
    (h' : cfg0.idle w (grid0.coords t) = false ∨ (cfg0.win w).flush t = true → X = D.after w t) :
    (owns (c : Thread nD τ) ((cfg0.win w).stage (cfg0.slots t w)) fullShare X : sProp 𝕄) ⊢ D.leavesExact w t := by
  unfold Dat.leavesExact
  show _ ⊢ (match cfg0.idle w (grid0.coords t) with
    | true => _
    | false => _ : sProp 𝕄)
  cases hi : cfg0.idle w (grid0.coords t)
  · rw [h' (.inl hi)]
  · cases hf : (cfg0.win w).flush t
    · rw [h hi hf]
      dsimp only
      iintro H
      iexists d
      iexact H
    · rw [h' (.inr hf)]

theorem idle_row (t : Fin cfg0.N) : (!(k0_cond5 (grid0.coords t) == 1#1)) = true ↔ ¬ t.val % 8 = 7 := by
  rw [← hcond0_4 t]; simp only [Bool.not_eq_true', beq_eq_false_iff_ne]
theorem idle_first (t : Fin cfg0.N) : (!(k0_cond4 (grid0.coords t) == 1#1)) = true ↔ ¬ t.val % 40 = 7 := by
  rw [← hcond0_3 t]; simp only [Bool.not_eq_true', beq_eq_false_iff_ne]
theorem idle_last (t : Fin cfg0.N) : (!(k0_cond6 (grid0.coords t) == 1#1)) = true ↔ ¬ t.val % 40 = 39 := by
  rw [← hcond0_5 t]; simp only [Bool.not_eq_true', beq_eq_false_iff_ne]

theorem leave10 (c : Dev nD) (t : Fin cfg0.N) (d) :
    (owns (c : Thread nD τ) (ms0_10 t) fullShare (stZo (grid0.coords t) ((dats m 0 c).before 10 t d) (ZZ m c (t.val + 1))) : sProp 𝕄) ⊢ (dats m 0 c).leavesExact 10 t := by
  refine leave_of (dats m 0 c) 10 t d _ (fun hi hf => ?_) (fun h => ?_)
  · have hc : ¬ cond0_4 (grid0.coords t) := fun h => (idle_row t).mp hi ((hcond0_4 t).mp h)
    exact if_neg hc
  · have hc : cond0_4 (grid0.coords t) := by
      rcases h with h | h
      · by_contra hc
        have h2 := (idle_row t).mpr (fun e => hc ((hcond0_4 t).mpr e))
        exact Bool.false_ne_true (h.symm.trans h2)
      · exact (hcond0_4 t).mpr ((flush0_10 t).mp h)
    rw [after0_10]
    exact (if_pos hc).trans (endZ_any _ _ _)

theorem leave11 (c : Dev nD) (t : Fin cfg0.N) (d) :
    (owns (c : Thread nD τ) (ms0_11 t) fullShare (stGk (grid0.coords t) (iblk m c 5 t) (iblk m c 6 t) (iblk m c 7 t) ((dats m 0 c).before 11 t d) (ZZ m c (t.val + 1)) (QQ m c (t.val + 1)) (YS m c (t.val + 1))) : sProp 𝕄) ⊢ (dats m 0 c).leavesExact 11 t := by
  refine leave_of (dats m 0 c) 11 t d _ (fun hi hf => ?_) (fun h => ?_)
  · have hc : ¬ cond0_4 (grid0.coords t) := fun h => (idle_row t).mp hi ((hcond0_4 t).mp h)
    exact if_neg hc
  · have hc : cond0_4 (grid0.coords t) := by
      rcases h with h | h
      · by_contra hc
        have h2 := (idle_row t).mpr (fun e => hc ((hcond0_4 t).mpr e))
        exact Bool.false_ne_true (h.symm.trans h2)
      · exact (hcond0_4 t).mpr ((flush0_11 t).mp h)
    rw [after0_11]
    exact (if_pos hc).trans (endG_any _ _ _ _ _ _ _ _)

theorem leave12 (c : Dev nD) (t : Fin cfg0.N) (d) :
    (owns (c : Thread nD τ) (ms0_12 t) fullShare (stDm (grid0.coords t) (iblk m c 7 t) ((dats m 0 c).before 12 t d) (ZZ m c (t.val + 1)) (QQ m c (t.val + 1)) (YS m c (t.val + 1))) : sProp 𝕄) ⊢ (dats m 0 c).leavesExact 12 t := by
  refine leave_of (dats m 0 c) 12 t d _ (fun hi hf => ?_) (fun h => ?_)
  · have hc : ¬ cond0_4 (grid0.coords t) := fun h => (idle_row t).mp hi ((hcond0_4 t).mp h)
    exact if_neg hc
  · have hc : cond0_4 (grid0.coords t) := by
      rcases h with h | h
      · by_contra hc
        have h2 := (idle_row t).mpr (fun e => hc ((hcond0_4 t).mpr e))
        exact Bool.false_ne_true (h.symm.trans h2)
      · exact (hcond0_4 t).mpr ((flush0_12 t).mp h)
    rw [after0_12]
    exact (if_pos hc).trans (endD_any _ _ _ _ _ _)

theorem leave13 (c : Dev nD) (t : Fin cfg0.N) (d) (xt : Vec F S32x1024 .bf16) (hx : 7 ≤ t.val → xt = XT m c (t.val + 1)) :
    (owns (c : Thread nD τ) (ms0_13 t) fullShare (stDl (grid0.coords t) (iblk m c 6 t) (iblk m c 7 t) ((dats m 0 c).before 13 t d) (ZZ m c (t.val + 1)) (QQ m c (t.val + 1)) (YS m c (t.val + 1)) xt) : sProp 𝕄) ⊢ (dats m 0 c).leavesExact 13 t := by
  refine leave_of (dats m 0 c) 13 t d _ (fun hi hf => ?_) (fun h => ?_)
  · have hc : ¬ cond0_4 (grid0.coords t) := fun h => (idle_row t).mp hi ((hcond0_4 t).mp h)
    exact if_neg hc
  · have hc : cond0_4 (grid0.coords t) := by
      rcases h with h | h
      · by_contra hc
        have h2 := (idle_row t).mpr (fun e => hc ((hcond0_4 t).mpr e))
        exact Bool.false_ne_true (h.symm.trans h2)
      · exact (hcond0_4 t).mpr ((flush0_13 t).mp h)
    have h7 := (hcond0_4 t).mp hc
    rw [after0_13, hx (by omega)]
    exact (if_pos hc).trans (endL_any _ _ _ _ _ _ _ _)

/-- At the last point the adapter product's buffer holds what point 7 stored. -/
theorem before14 (c : Dev nD) (t : Fin cfg0.N) (ht : t.val = 39) (d) : (dats m 0 c).before 14 t d = outX m c := by
  have h40 : cfg0.N = 40 := N_0
  rw [Dat.before_idle_run (dats m 0 c) 14 (fun _ => rfl) d 31 t (by omega) (fun j h1 h2 => ⟨(idle_first j).mpr (by omega), by
    have := (flush0_14 j).not.mpr (by omega); exact Bool.eq_false_iff.mpr this⟩)]
  unfold Dat.before
  rw [if_neg (by exact Bool.false_ne_true), if_neg (by show ¬ (t.val - 31 = 0); omega)]
  dsimp only
  rw [if_neg (by rw [flush0_14]; dsimp only; omega)]
  have hi : idle0 14 (grid0.coords (⟨t.val - 31 - 1, by omega⟩ : Fin cfg0.N)) = false := by
    have := (idle_first (⟨t.val - 31 - 1, by omega⟩ : Fin cfg0.N)).not.mpr (by dsimp only; omega)
    exact Bool.eq_false_iff.mpr this
  rw [hi]
  dsimp only
  unfold Dat.kept
  rw [after0_14]
  rfl

theorem leave14 (c : Dev nD) (t : Fin cfg0.N) (d) :
    (owns (c : Thread nD τ) (ms0_14 t) fullShare (stXo (grid0.coords t) ((dats m 0 c).before 14 t d) (XA m c (t.val + 1))) : sProp 𝕄) ⊢ (dats m 0 c).leavesExact 14 t := by
  have h40 : t.val < 40 := Nat.lt_of_lt_of_eq t.isLt N_0
  refine leave_of (dats m 0 c) 14 t d _ (fun hi hf => ?_) (fun h => ?_)
  · have hc : ¬ cond0_3 (grid0.coords t) := fun h => (idle_first t).mp hi ((hcond0_3 t).mp h)
    exact if_neg hc
  · rw [after0_14]
    by_cases hc : cond0_3 (grid0.coords t)
    · have h7 : t.val = 7 := by have := (hcond0_3 t).mp hc; omega
      refine (if_pos hc).trans ?_
      unfold outX; rw [h7]
    · rcases h with h | h
      · have h2 := (idle_first t).mpr (fun e => hc ((hcond0_3 t).mpr e))
        exact absurd (h.symm.trans h2) Bool.false_ne_true
      · refine (if_neg hc).trans (before14 m c t ?_ d)
        have := (flush0_14 t).mp h; omega

theorem leave15 (c : Dev nD) (t : Fin cfg0.N) (d) :
    (owns (c : Thread nD τ) (ms0_15 t) fullShare (stGo (grid0.coords t) ((dats m 0 c).before 15 t d) (GB m c (t.val + 1))) : sProp 𝕄) ⊢ (dats m 0 c).leavesExact 15 t := by
  refine leave_of (dats m 0 c) 15 t d _ (fun hi hf => ?_) (fun h => ?_)
  · have hc : ¬ cond0_5 (grid0.coords t) := fun h => (idle_last t).mp hi ((hcond0_5 t).mp h)
    exact if_neg hc
  · have hc : cond0_5 (grid0.coords t) := by
      rcases h with h | h
      · by_contra hc
        have h2 := (idle_last t).mpr (fun e => hc ((hcond0_5 t).mpr e))
        exact Bool.false_ne_true (h.symm.trans h2)
      · exact (hcond0_5 t).mpr ((flush0_15 t).mp h)
    rw [after0_15]
    exact (if_pos hc).trans (rfl)

theorem leave16 (c : Dev nD) (t : Fin cfg0.N) (d) :
    (owns (c : Thread nD τ) (ms0_16 t) fullShare (stGt (grid0.coords t) ((dats m 0 c).before 16 t d) (GB m c (t.val + 1))) : sProp 𝕄) ⊢ (dats m 0 c).leavesExact 16 t := by
  refine leave_of (dats m 0 c) 16 t d _ (fun hi hf => ?_) (fun h => ?_)
  · have hc : ¬ cond0_5 (grid0.coords t) := fun h => (idle_last t).mp hi ((hcond0_5 t).mp h)
    exact if_neg hc
  · have hc : cond0_5 (grid0.coords t) := by
      rcases h with h | h
      · by_contra hc
        have h2 := (idle_last t).mpr (fun e => hc ((hcond0_5 t).mpr e))
        exact Bool.false_ne_true (h.symm.trans h2)
      · exact (hcond0_5 t).mpr ((flush0_16 t).mp h)
    rw [after0_16]
    exact (if_pos hc).trans (rfl)

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)))
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl, Phi_eq, Phi_eq, Fin.val_castSucc, Fin.val_succ,
    after0_0, after0_1, after0_2, after0_3, after0_4, after0_5, after0_6, after0_7, after0_8, after0_9]
  unfold PhiS
  iintro ⟨⟨%z, %q, %sc, %ys, %xa, %xt, %gb, %hinv, HS0, HS1, HS2, HS3, HS4, HS5, HS6, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨e1, e2, e3, e4, e5, e6, e7⟩ := step m c t hinv
  iapply (point_spec c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) ((dats m 0 c).before 10 t d10) ((dats m 0 c).before 11 t d11) ((dats m 0 c).before 12 t d12) ((dats m 0 c).before 13 t d13) ((dats m 0 c).before 14 t d14) ((dats m 0 c).before 15 t d15) ((dats m 0 c).before 16 t d16) z q sc ys xa xt gb Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  rw [e3, e4, e5, e1, e2, e6]
  iintro ⟨H0, H1, H2, H3, H4, H5, H6, H7, H8, H9, H10, H11, H12, H13, H14, H15, H16, HS0, HS1, HS2, HS3, HS4, HS5, HS6⟩
  isplitl [HS0 HS1 HS2 HS3 HS4 HS5 HS6 Hg]
  · iexists (ZZ m c (t.val + 1)), (QQ m c (t.val + 1)), (SC m c (t.val + 1)), (YS m c (t.val + 1)), (XA m c (t.val + 1)), (stXt (grid0.coords t) (XA m c (t.val + 1)) xt), (GB m c (t.val + 1))
    isplitr
    · ipureintro; exact ⟨fun _ => ⟨rfl, rfl, rfl, rfl, rfl, rfl⟩, fun h => e7 (by omega)⟩
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [show outV m c t = stV (grid0.coords t) (iblk m c 1 t) (iblk m c 2 t) (iblk m c 3 t) (iblk m c 4 t) ((dats m 0 c).before 9 t d9) sc from by
      unfold outV stV; rw [e1]; exact mainV_any _ _ _ _ _ _]
    iexact H9
  isplitl [H10]; · iapply (leave10 m c t d10); iexact H10
  isplitl [H11]; · iapply (leave11 m c t d11); iexact H11
  isplitl [H12]; · iapply (leave12 m c t d12); iexact H12
  isplitl [H13]; · iapply (leave13 m c t d13 _ e7); iexact H13
  isplitl [H14]; · iapply (leave14 m c t d14); iexact H14
  isplitl [H15]; · iapply (leave15 m c t d15); iexact H15
  iapply (leave16 m c t d16); iexact H16

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨⟨%z, H0⟩, ⟨%q, H1⟩, ⟨%sc, H2⟩, ⟨%ys, H3⟩, ⟨%xa, H4⟩, ⟨%xt, H5⟩, ⟨%gb, H6⟩⟩, Hg⟩
  iexists z, q, sc, ys, xa, xt, gb
  isplitr
  · ipureintro; exact ⟨fun h => absurd rfl h, fun h => absurd h (by omega)⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hg

theorem hout (c : Dev nD) : (dats m 0 c).Φ (Fin.last cfg0.N) ⊢ Pipeline.ΦA spec0 c := by
  rw [Phi_eq, PhiA0_eq]
  unfold PhiS
  iintro ⟨%z, %q, %sc, %ys, %xa, %xt, %gb, %hinv, H0, H1, H2, H3, H4, H5, H6, Hg⟩
  isplitl [H0 H1 H2 H3 H4 H5 H6]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  iexact Hg

set_option backward.isDefEq.respectTransparency.types false in
/-- THE LAUNCH: every array ends as the proof data says, and every counter at zero. -/
theorem run_main_quiescent : θ_run defs (onTc (τ := τ) (Cert.FwdIdeal.main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ Cert.FwdIdeal.main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (Cert.FwdIdeal.main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (Cert.FwdIdeal.main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME of the first call. -/
theorem frame : θ_run defs (onTc (τ := τ) (Cert.FwdIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FwdIdeal.Front

end
-- ==== Proof.Front.Transfer.lean ====
/-
  Hand-written, untrusted. THE FRAME OF THE COMPILED FIRST CALL: no rule is applied between `Fwd` and `FwdIdeal`, so the two print the same
  program, and the frame of the one, proved at any values, is the frame of the other.
-/
module

public import proofs.«01_k».proof.Defs
public import proofs.«01_k».proof.Proof.Gen.Fwd
public import proofs.«01_k».proof.Proof.Front.Run

@[expose] public section

set_option maxRecDepth 65536
set_option maxHeartbeats 4000000

noncomputable section

namespace Cert.Proof

open Idealize.ShloMosaic Idealize.SL.Sem

variable {F : FTy → Type} [FloatOps F]

theorem defs0_eq : Cert.Fwd.defs₀ (F := F) = Cert.FwdIdeal.defs₀ (F := F) := by
  unfold Cert.Fwd.defs₀ Cert.FwdIdeal.defs₀
  refine congrArg _ (funext fun l => ?_)
  match l with
  | ⟨0, _⟩ =>
    funext x
    obtain ⟨t, s⟩ := x
    dsimp only
    rfl

theorem main_eq : Cert.Fwd.main (F := F) = Cert.FwdIdeal.main (F := F) := rfl

theorem defs_eq : Cert.Fwd.defs (F := F) = Cert.FwdIdeal.defs (F := F) := by
  unfold Cert.Fwd.defs Cert.FwdIdeal.defs
  exact congrArg (Pipeline.defs Cert.Fwd.pcfgs) defs0_eq

theorem frame_fwdIdeal : quiescent_FwdIdeal := fun m ρ _ => Cert.FwdIdeal.Front.frame (F := Ideal) m ρ

theorem frame_fwd : quiescent_Fwd := fun m ρ _ => by
  rw [defs_eq, main_eq]
  exact Cert.FwdIdeal.Front.frame (F := Bits) m ρ

end Cert.Proof

end
-- ==== Proof.Front.Pay.lean ====
/-
  Hand-written, untrusted. THE PAYLOADS OF THE FIRST CALL, read at an index over the extended reals.
-/
module

public import proofs.«01_k».proof.Proof.Front.State
public import Idealize.ShloMosaic.Lib.Pointwise

@[expose] public section

set_option maxRecDepth 16384

noncomputable section

namespace Cert.FwdIdeal.Front

open Cert.FwdIdeal Cert.FwdIdeal.Gen
open Idealize.ShloMosaic Idealize.ShloMosaic.TcCoe

theorem pay1_apply (g : Vec Ideal S1024x32 .f32) (r : Fin 1024) (l : Fin 32) : k0_pay1 (F := Ideal) g (ix2 r l) = g (ix2 r l) := by
  pointwise! [k0_pay1]
theorem pay2_apply (g : Vec Ideal S1024x32 .f32) (r : Fin 1024) (l : Fin 32) : k0_pay2 (F := Ideal) g (ix2 l r) = g (ix2 r l) := by
  pointwise! [k0_pay2]
theorem pay205_apply (g : Vec Ideal S1024x32 .f32) (r : Fin 1024) (l : Fin 32) : k0_pay205 (F := Ideal) g (ix2 r l) = g (ix2 r l) := by
  pointwise! [k0_pay205]
theorem pay206_apply (g : Vec Ideal S1024x32 .f32) (r : Fin 1024) (l : Fin 32) : k0_pay206 (F := Ideal) g (ix2 l r) = g (ix2 r l) := by
  pointwise! [k0_pay206]
theorem pay45_apply (y : Vec Ideal S1x1024 .f32) (r : Fin 1024) (l : Fin 128) : k0_pay45 (F := Ideal) y (ix2 r l) = y (ix2 0 r) := by
  pointwise! [k0_pay45]
theorem pay48_apply (y : Vec Ideal S1x1024 .f32) (r : Fin 1024) (l : Fin 128) : k0_pay48 (F := Ideal) y (ix2 r l) = y (ix2 0 r) := by
  pointwise! [k0_pay48]
theorem pay46_apply (j : S1024x32.Idx) : k0_pay46 (F := Ideal) j = 0 := by pointwise! [k0_pay46]
theorem pay47_apply (j : S1024x32.Idx) : k0_pay47 (F := Ideal) j = 0 := by pointwise! [k0_pay47]
theorem pay49_apply (j : S1024x128.Idx) : k0_pay49 (F := Ideal) j = 0 := by pointwise! [k0_pay49]
theorem pay50_apply (j : S1056x1024.Idx) : k0_pay50 (F := Ideal) j = 0 := by pointwise! [k0_pay50]
theorem pay51_apply (z : Vec Ideal S1024x32 .f32) (x : Vec Ideal S1024x2048 .bf16) (a : Vec Ideal S32x2048 .bf16) (r : Fin 1024) (l : Fin 32) :
    k0_pay51 (F := Ideal) z x a (ix2 r l) = z (ix2 r l) + ∑ k : Fin 2048, x (ix2 r k) * a (ix2 l k) := by
  pointwise! [k0_pay51]
theorem pay52_top (a : Vec Ideal S32x2048 .bf16) (x : Vec Ideal S1024x2048 .bf16) (r : Fin 1024) (l : Fin 2048) :
    k0_pay52 (F := Ideal) a x (ix2 ⟨r.val, by omega⟩ l) = x (ix2 r l) := by
  pointwise! [k0_pay52]
theorem pay52_bot (a : Vec Ideal S32x2048 .bf16) (x : Vec Ideal S1024x2048 .bf16) (r : Fin 32) (l : Fin 2048) :
    k0_pay52 (F := Ideal) a x (ix2 ⟨1024 + r.val, by omega⟩ l) = a (ix2 r l) := by
  pointwise! [k0_pay52]
theorem pay92_apply (a : Vec Ideal S32x2048 .bf16) (b : Vec Ideal S256x32 .bf16) (r : Fin 256) (l : Fin 2048) :
    k0_pay92 (F := Ideal) a b (ix2 r l) = ∑ k : Fin 32, b (ix2 r k) * a (ix2 k l) := by
  pointwise! [k0_pay92]
theorem pay35_apply (z : Vec Ideal S1024x256 .f32) (j : S1024x256.Idx) : k0_pay35 (F := Ideal) z j = z j := by
  pointwise! [k0_pay35]
theorem pay36_apply (ys : Vec Ideal S1024x128 .f32) (y : Vec Ideal S1024x256 .fp8e5m2) (r : Fin 1024) (l : Fin 256) :
    k0_pay36 (F := Ideal) ys y (ix2 r l) = y (ix2 r l) * ys (ix2 r ⟨l.val % 128, by omega⟩) := by
  pointwise! [k0_pay36]
  refine congrArg _ ?_
  split
  · exact congrArg (fun k => ys (ix2 r k)) (Fin.ext (by dsimp only; omega))
  · exact congrArg (fun k => ys (ix2 r k)) (Fin.ext (by dsimp only; omega))
theorem pay37_apply (z : Vec Ideal S1024x256 .f32) (ys : Vec Ideal S1024x128 .f32) (y : Vec Ideal S1024x256 .fp8e5m2) (l : Fin 256) :
    k0_pay37 (F := Ideal) z ys y (ix2 0 l) = ∑ r : Fin 1024, k0_pay36 (F := Ideal) ys y (ix2 r l) * z (ix2 r l) := by
  pointwise! [k0_pay37]
theorem pay14_apply (g : FVec Ideal S1024x256 .bf16) (z : Vec Ideal S1024x32 .f32) (b : Vec Ideal S256x32 .bf16) (r : Fin 1024) (l : Fin 32) :
    k0_pay14 (F := Ideal) g z b (ix2 r l) = z (ix2 r l) + ∑ k : Fin 256, g (ix2 r k) * b (ix2 k l) := by
  pointwise! [k0_pay14]

/-- The norm from its square, one where it is not above zero. -/
def nrm (s : EReal) : EReal := if 0 < Ideal.sqrt s then Ideal.sqrt s else 1

theorem pay3_apply (q : Vec Ideal S1024x128 .f32) (r : Fin 1024) :
    k0_pay3 (F := Ideal) q (ix2 0 r) = nrm (∑ l : Fin 128, q (ix2 r l)) := by
  pointwise! [k0_pay3, nrm]
theorem pay4_apply (m : Vec Ideal S1x1024 .f32) (j : S1x1024.Idx) : k0_pay4 (F := Ideal) m j = m j := by
  pointwise! [k0_pay4]
theorem pay5_apply (q : Vec Ideal S1024x128 .f32) (m : Vec Ideal S1x1024 .f32) (r : Fin 1024) :
    k0_pay5 (F := Ideal) q m (ix2 0 r) = Ideal.div (m (ix2 0 r)) (k0_pay3 (F := Ideal) q (ix2 0 r)) := by
  pointwise! [k0_pay5, pay4_apply]

theorem nrow_apply (n : FVec Ideal S1x1024 .f32) (s : Fin 4) (l : Fin 256) : nrow n s (ix2 0 l) = n (ix2 0 ⟨256 * s.val + l.val, by omega⟩) := by
  pointwise! [nrow]
theorem fg_apply (c : FVec Ideal S1x1024 .f32) (s : Fin 4) (ys : Vec Ideal S1024x128 .f32) (y : Vec Ideal S1024x256 .fp8e5m2) (r : Fin 1024) (l : Fin 256) :
    fg c s ys y (ix2 r l) = k0_pay36 (F := Ideal) ys y (ix2 r l) * nrow c s (ix2 0 l) := by
  pointwise! [fg]
theorem fdm_apply (n : FVec Ideal S1x1024 .f32) (s : Fin 4) (z : Vec Ideal S1024x256 .f32) (ys : Vec Ideal S1024x128 .f32) (y : Vec Ideal S1024x256 .fp8e5m2) (l : Fin 256) :
    fdm n s z ys y (ix2 0 l) = Ideal.div (k0_pay37 (F := Ideal) z ys y (ix2 0 l)) (nrow n s (ix2 0 l)) := by
  pointwise! [fdm]
theorem fk_apply (n m : FVec Ideal S1x1024 .f32) (s : Fin 4) (dm : FVec Ideal S1x256 .f32) (l : Fin 256) :
    fk n m s dm (ix2 0 l) = Ideal.div (nrow m s (ix2 0 l) * dm (ix2 0 l)) (nrow n s (ix2 0 l) * nrow n s (ix2 0 l)) := by
  pointwise! [fk]
theorem fkb_apply (k : FVec Ideal S1x256 .f32) (bt : Vec Ideal S32x256 .bf16) (r : Fin 32) (l : Fin 256) :
    fkb k bt (ix2 r l) = bt (ix2 r l) * k (ix2 0 l) := by
  pointwise! [fkb]
theorem fdlb_apply (g : FVec Ideal S1024x256 .bf16) (k : FVec Ideal S1x256 .f32) (xt : Vec Ideal S32x1024 .bf16) (zb : Vec Ideal S32x256 .f32) (l : Fin 256) (r : Fin 32) :
    fdlb g k xt zb (ix2 l r) = (∑ t : Fin 1024, xt (ix2 r t) * g (ix2 t l)) - k (ix2 0 l) * zb (ix2 r l) := by
  pointwise! [fdlb]
theorem zadd_apply (xa : FVec Ideal S1056x2048 .bf16) (vb : FVec Ideal S256x2048 .bf16) (z : Vec Ideal S1056x256 .f32) (r : Fin 1056) (l : Fin 256) :
    zadd xa vb z (ix2 r l) = z (ix2 r l) + ∑ k : Fin 2048, xa (ix2 r k) * vb (ix2 l k) := by
  pointwise! [zadd]
theorem vt_apply (ba : FVec Ideal S256x2048 .f32) (sc : Vec Ideal S256x128 .f32) (j : Fin 16) (w : Vec Ideal S256x128 .fp8e4m3) (r : Fin 256) (l : Fin 128) :
    vt ba sc j w (ix2 r l) = w (ix2 r l) * sc (ix2 r l) + ba (ix2 r ⟨128 * j.val + l.val, by omega⟩) := by
  pointwise! [vt]

end Cert.FwdIdeal.Front

end
-- ==== Proof.Front.MainVal.lean ====
/-
  Hand-written, untrusted. WHAT A BLOCK OF THE MAIN PRODUCT LEAVES, read at an index over the extended reals: the four strips together.
-/
module

public import proofs.«01_k».proof.Proof.Front.Pay

@[expose] public section

set_option maxRecDepth 16384

noncomputable section

namespace Cert.FwdIdeal.Front

open Cert.FwdIdeal Cert.FwdIdeal.Gen
open Idealize.ShloMosaic Idealize.ShloMosaic.TcCoe

section Put
variable {α : Type} {R C s0 s1 : ℕ} (x : (⟨2, ![R, C]⟩ : Shape).Idx → α) (o0 o1 : ℕ) (w : ((a : Fin 2) → Fin ((![s0, s1] : Fin 2 → ℕ) a)) → α)

/-- A put block read inside, and outside. -/
theorem put2_in (r : Fin R) (c : Fin C) (p : Fin s0) (q : Fin s1) (hr : r.val = o0 + p.val) (hc : c.val = o1 + q.val) :
    VecWindow.put x ![o0, o1] ![s0, s1] w (ix2 r c) = w (ix2 p q) := by
  have h : ∀ a : Fin 2, (![o0, o1] : Fin 2 → ℕ) a ≤ ((ix2 r c : (⟨2, ![R, C]⟩ : Shape).Idx) a).val ∧ ((ix2 r c : (⟨2, ![R, C]⟩ : Shape).Idx) a).val < (![o0, o1] : Fin 2 → ℕ) a + (![s0, s1] : Fin 2 → ℕ) a := fun a => by
    match a with
    | ⟨0, _⟩ => show o0 ≤ r.val ∧ r.val < o0 + s0; omega
    | ⟨1, _⟩ => show o1 ≤ c.val ∧ c.val < o1 + s1; omega
  unfold VecWindow.put
  rw [dif_pos h]
  refine congrArg w (funext fun a => Fin.ext ?_)
  match a with
  | ⟨0, _⟩ => show r.val - o0 = p.val; omega
  | ⟨1, _⟩ => show c.val - o1 = q.val; omega

theorem put2_out (r : Fin R) (c : Fin C) (h : ¬ (o0 ≤ r.val ∧ r.val < o0 + s0) ∨ ¬ (o1 ≤ c.val ∧ c.val < o1 + s1)) :
    VecWindow.put x ![o0, o1] ![s0, s1] w (ix2 r c) = x (ix2 r c) := by
  unfold VecWindow.put
  rw [dif_neg]
  intro hh
  have h0 : o0 ≤ r.val ∧ r.val < o0 + s0 := hh 0
  have h1 : o1 ≤ c.val ∧ c.val < o1 + s1 := hh 1
  rcases h with h | h
  · exact h h0
  · exact h h1
end Put

/-- The adapted weight of a block: code times scale plus the adapter's product. -/
def vB (w : Vec Ideal S1024x2048 .fp8e4m3) (sc : Vec Ideal S1024x128 .f32) (b : Vec Ideal S1024x32 .bf16) (a : Vec Ideal S32x2048 .bf16) (r : Fin 1024) (l : Fin 2048) : EReal :=
  w (ix2 r l) * sc (ix2 r ⟨l.val % 128, by omega⟩) + ∑ k : Fin 32, b (ix2 r k) * a (ix2 k l)

theorem rowB_apply (b : Vec Ideal S1024x32 .bf16) (s : Fin 4) (r : Fin 256) (k : Fin 32) : rowB b s (ix2 r k) = b (ix2 ⟨256 * s.val + r.val, by omega⟩ k) := by
  pointwise! [rowB]
theorem rowN_apply (q : Vec Ideal S1024x128 .f32) (s : Fin 4) (r : Fin 256) (k : Fin 128) : rowN q s (ix2 r k) = q (ix2 ⟨256 * s.val + r.val, by omega⟩ k) := by
  pointwise! [rowN]
theorem colZ_apply (z : Vec Ideal S1056x1024 .f32) (s : Fin 4) (r : Fin 1056) (k : Fin 256) : colZ z s (ix2 r k) = z (ix2 r ⟨256 * s.val + k.val, by omega⟩) := by
  pointwise! [colZ]
theorem tile_apply (w : Vec Ideal S1024x2048 .fp8e4m3) (s : Fin 4) (k : Nat) (hk : k + 128 ≤ 2048) (r : Fin 256) (l : Fin 128) :
    tile w s k hk (ix2 r l) = w (ix2 ⟨256 * s.val + r.val, by omega⟩ ⟨k + l.val, by omega⟩) := by
  pointwise! [tile]

/-- A tile of a strip is the tile of the adapted weight. -/
theorem vt_strip (a : Vec Ideal S32x2048 .bf16) (w : Vec Ideal S1024x2048 .fp8e4m3) (b : Vec Ideal S1024x32 .bf16) (sc : Vec Ideal S1024x128 .f32) (s : Fin 4)
    (j : Fin 16) (k : Nat) (hk : k + 128 ≤ 2048) (e : k = 128 * j.val) (r : Fin 256) (l : Fin 128) :
    vt (k0_pay92 a (rowB b s)) (rowN sc s) j (tile w s k hk) (ix2 r l) = vB w sc b a ⟨256 * s.val + r.val, by omega⟩ ⟨128 * j.val + l.val, by omega⟩ := by
  subst e
  rw [vt_apply, tile_apply, rowN_apply, pay92_apply]
  unfold vB
  refine congrArg₂ _ (congrArg _ ?_) (Finset.sum_congr rfl fun k _ => by rw [rowB_apply])
  exact congrArg (fun k => sc (ix2 _ k)) (Fin.ext (by dsimp only; omega))

theorem stripVal_apply (a : Vec Ideal S32x2048 .bf16) (w : Vec Ideal S1024x2048 .fp8e4m3) (b : Vec Ideal S1024x32 .bf16) (sc : Vec Ideal S1024x128 .f32) (s : Fin 4) (r : Fin 256) (l : Fin 2048) :
    stripVal a w b sc s (ix2 r l) = vB w sc b a ⟨256 * s.val + r.val, by omega⟩ l := by
  have e : stripVal a w b sc s (ix2 r l)
      = truncf (F := Ideal) .bf16 (vt (k0_pay92 a (rowB b s)) (rowN sc s) ⟨l.val / 128, by omega⟩ (tile w s (128 * (l.val / 128)) (by omega))) bitsLt_bf16_f32 (ix2 r ⟨l.val % 128, by omega⟩) := by
    unfold stripVal vcat
    refine concatenate_ofFn_apply (t := S256x2048) (s₁ := S256x128) (1 : Fin 2)
      (fun j : Fin 16 => truncf (F := Ideal) .bf16 (vt (k0_pay92 a (rowB b s)) (rowN sc s) j (tile w s (128 * j.val) (by omega))) bitsLt_bf16_f32)
      _ rfl 128 rfl (ix2 r l) ⟨l.val / 128, by omega⟩ rfl (ix2 r ⟨l.val % 128, by omega⟩) rfl (fun b hb => ?_)
    match b with
    | ⟨0, _⟩ => rfl
    | ⟨1, _⟩ => exact absurd rfl hb
  rw [e]
  refine (vt_strip a w b sc s ⟨l.val / 128, by omega⟩ _ _ rfl r ⟨l.val % 128, by omega⟩).trans ?_
  exact congrArg (vB w sc b a _) (Fin.ext (by dsimp only; omega))

/-- Sixteen terms added one after another are their sum. -/
theorem sum16 (f : Fin 16 → EReal) (p : EReal) :
    p + f 0 + f 1 + f 2 + f 3 + f 4 + f 5 + f 6 + f 7 + f 8 + f 9 + f 10 + f 11 + f 12 + f 13 + f 14 + f 15 = p + ∑ j : Fin 16, f j := by
  rw [show (∑ j : Fin 16, f j) = ∑ j : Fin (8 + 8), f j from rfl, Fin.sum_univ_add, Fin.sum_univ_eight, Fin.sum_univ_eight]
  simp only [← add_assoc]
  rfl

theorem stripQ_apply (a : Vec Ideal S32x2048 .bf16) (w : Vec Ideal S1024x2048 .fp8e4m3) (b : Vec Ideal S1024x32 .bf16) (sc : Vec Ideal S1024x128 .f32) (s : Fin 4) (q : Vec Ideal S1024x128 .f32) (r : Fin 1024) (l : Fin 128) :
    stripQ a w b sc s q (ix2 r l) = q (ix2 r l) + if r.val / 256 = s.val then ∑ j : Fin 16, vB w sc b a r ⟨128 * j.val + l.val, by omega⟩ * vB w sc b a r ⟨128 * j.val + l.val, by omega⟩ else 0 := by
  unfold stripQ
  by_cases h : r.val / 256 = s.val
  · rw [if_pos h, put2_in _ _ _ _ r l ⟨r.val - 256 * s.val, by omega⟩ l (by dsimp only; omega) (by omega)]
    unfold sqs
    pointwise
    rw [rowN_apply]
    rw [vt_strip a w b sc s 0 0 _ rfl, vt_strip a w b sc s 1 128 _ rfl, vt_strip a w b sc s 2 256 _ rfl, vt_strip a w b sc s 3 384 _ rfl, vt_strip a w b sc s 4 512 _ rfl, vt_strip a w b sc s 5 640 _ rfl, vt_strip a w b sc s 6 768 _ rfl, vt_strip a w b sc s 7 896 _ rfl, vt_strip a w b sc s 8 1024 _ rfl, vt_strip a w b sc s 9 1152 _ rfl, vt_strip a w b sc s 10 1280 _ rfl, vt_strip a w b sc s 11 1408 _ rfl, vt_strip a w b sc s 12 1536 _ rfl, vt_strip a w b sc s 13 1664 _ rfl, vt_strip a w b sc s 14 1792 _ rfl, vt_strip a w b sc s 15 1920 _ rfl]
    have e : (⟨256 * s.val + (r.val - 256 * s.val), by omega⟩ : Fin 1024) = r := Fin.ext (by dsimp only; omega)
    rw [e]
    exact sum16 (fun j : Fin 16 => vB w sc b a r ⟨128 * j.val + l.val, by omega⟩ * vB w sc b a r ⟨128 * j.val + l.val, by omega⟩) (q (ix2 r l))
  · rw [if_neg h, put2_out _ _ _ _ r l (.inl (by omega)), add_zero]

theorem stripV_apply (a : Vec Ideal S32x2048 .bf16) (w : Vec Ideal S1024x2048 .fp8e4m3) (b : Vec Ideal S1024x32 .bf16) (sc : Vec Ideal S1024x128 .f32) (s : Fin 4) (v : Vec Ideal S1024x2048 .bf16) (r : Fin 1024) (l : Fin 2048) :
    stripV a w b sc s v (ix2 r l) = if r.val / 256 = s.val then vB w sc b a r l else v (ix2 r l) := by
  unfold stripV
  by_cases h : r.val / 256 = s.val
  · rw [if_pos h, put2_in _ _ _ _ r l ⟨r.val - 256 * s.val, by omega⟩ l (by dsimp only; omega) (by omega), stripVal_apply]
    exact congrArg (fun k => vB w sc b a k l) (Fin.ext (by dsimp only; omega))
  · rw [if_neg h, put2_out _ _ _ _ r l (.inl (by omega))]

theorem stripZ_apply (a : Vec Ideal S32x2048 .bf16) (xa : FVec Ideal S1056x2048 .bf16) (w : Vec Ideal S1024x2048 .fp8e4m3) (b : Vec Ideal S1024x32 .bf16) (sc : Vec Ideal S1024x128 .f32) (s : Fin 4) (z : Vec Ideal S1056x1024 .f32) (t : Fin 1056) (r : Fin 1024) :
    stripZ a xa w b sc s z (ix2 t r) = z (ix2 t r) + if r.val / 256 = s.val then ∑ k : Fin 2048, xa (ix2 t k) * vB w sc b a r k else 0 := by
  unfold stripZ
  by_cases h : r.val / 256 = s.val
  · rw [if_pos h, put2_in _ _ _ _ t r t ⟨r.val - 256 * s.val, by omega⟩ (by omega) (by dsimp only; omega), zadd_apply, colZ_apply]
    have e : (⟨256 * s.val + (r.val - 256 * s.val), by omega⟩ : Fin 1024) = r := Fin.ext (by dsimp only; omega)
    dsimp only
    rw [e]
    refine congrArg _ (Finset.sum_congr rfl fun k _ => ?_)
    rw [stripVal_apply]
    dsimp only
    rw [e]
  · rw [if_neg h, put2_out _ _ _ _ t r (.inr (by omega)), add_zero]

/-- One of the four strips holds a row. -/
theorem four (n : ℕ) (h : n < 1024) (x q : EReal) :
    q + (if n / 256 = (0 : Fin 4).val then x else 0) + (if n / 256 = (1 : Fin 4).val then x else 0) + (if n / 256 = (2 : Fin 4).val then x else 0) + (if n / 256 = (3 : Fin 4).val then x else 0) = q + x := by
  have h4 : n / 256 = 0 ∨ n / 256 = 1 ∨ n / 256 = 2 ∨ n / 256 = 3 := by omega
  rcases h4 with h | h | h | h <;> rw [h] <;> simp

theorem mainV_apply (a : Vec Ideal S32x2048 .bf16) (w : Vec Ideal S1024x2048 .fp8e4m3) (b : Vec Ideal S1024x32 .bf16) (sc : Vec Ideal S1024x128 .f32) (v : Vec Ideal S1024x2048 .bf16) (r : Fin 1024) (l : Fin 2048) :
    mainV a w b sc v (ix2 r l) = vB w sc b a r l := by
  have h4 : r.val / 256 = 0 ∨ r.val / 256 = 1 ∨ r.val / 256 = 2 ∨ r.val / 256 = 3 := by omega
  unfold mainV
  simp only [stripV_apply]
  rcases h4 with h | h | h | h <;> rw [h] <;> simp

theorem mainQ_apply (a : Vec Ideal S32x2048 .bf16) (w : Vec Ideal S1024x2048 .fp8e4m3) (b : Vec Ideal S1024x32 .bf16) (sc : Vec Ideal S1024x128 .f32) (q : Vec Ideal S1024x128 .f32) (r : Fin 1024) (l : Fin 128) :
    mainQ a w b sc q (ix2 r l) = q (ix2 r l) + ∑ j : Fin 16, vB w sc b a r ⟨128 * j.val + l.val, by omega⟩ * vB w sc b a r ⟨128 * j.val + l.val, by omega⟩ := by
  unfold mainQ
  simp only [stripQ_apply]
  exact four r.val r.isLt _ _

theorem mainZ_apply (a : Vec Ideal S32x2048 .bf16) (x : Vec Ideal S1024x2048 .bf16) (w : Vec Ideal S1024x2048 .fp8e4m3) (b : Vec Ideal S1024x32 .bf16) (sc : Vec Ideal S1024x128 .f32) (z : Vec Ideal S1056x1024 .f32) (t : Fin 1056) (r : Fin 1024) :
    mainZ a x w b sc z (ix2 t r) = z (ix2 t r) + ∑ k : Fin 2048, k0_pay52 (F := Ideal) a x (ix2 t k) * vB w sc b a r k := by
  unfold mainZ
  simp only [stripZ_apply]
  exact four r.val r.isLt _ _

end Cert.FwdIdeal.Front

end
-- ==== Proof.Front.EndVal.lean ====
/-
  Hand-written, untrusted. WHAT THE ENDING OF A ROW OF BLOCKS LEAVES, read at an index over the extended reals: the four strips together.
-/
module

public import proofs.«01_k».proof.Proof.Front.MainVal

@[expose] public section

set_option maxRecDepth 16384

noncomputable section

namespace Cert.FwdIdeal.Front

open Cert.FwdIdeal Cert.FwdIdeal.Gen
open Idealize.ShloMosaic Idealize.ShloMosaic.TcCoe

/-! ## Sums cut into blocks -/

/-- A function on `Fin n` as one on the naturals. -/
def nf {n : ℕ} (f : Fin n → EReal) (i : ℕ) : EReal := if h : i < n then f ⟨i, h⟩ else 0

theorem nf_of {n : ℕ} (f : Fin n → EReal) (i : ℕ) (k : Fin n) (h : k.val = i) : nf f i = f k := by
  subst h; unfold nf; rw [dif_pos k.isLt]

theorem sum_nf {n : ℕ} (f : Fin n → EReal) : ∑ i ∈ Finset.range n, nf f i = ∑ i : Fin n, f i := by
  rw [Finset.sum_range]; exact Finset.sum_congr rfl fun i _ => nf_of f i.val i rfl

/-- A sum over `n` blocks of `B` is a sum over `B n`. -/
theorem sum_blocks (B : ℕ) (f : ℕ → EReal) (n : ℕ) : ∑ b ∈ Finset.range n, ∑ l : Fin B, f (B * b + l.val) = ∑ i ∈ Finset.range (B * n), f i := by
  induction n with
  | zero => simp
  | succ n ih => rw [Finset.sum_range_succ, ih, Nat.mul_succ, Finset.sum_range_add, Finset.sum_range (fun x => f (B * n + x))]

/-- The four strips of 1024. -/
theorem sum4 (f : Fin 1024 → EReal) (p : EReal) :
    p + (∑ l : Fin 256, f ⟨256 * (0 : Fin 4).val + l.val, by omega⟩) + (∑ l : Fin 256, f ⟨256 * (1 : Fin 4).val + l.val, by omega⟩)
      + (∑ l : Fin 256, f ⟨256 * (2 : Fin 4).val + l.val, by omega⟩) + (∑ l : Fin 256, f ⟨256 * (3 : Fin 4).val + l.val, by omega⟩) = p + ∑ r : Fin 1024, f r := by
  have e := sum_blocks 256 (nf f) 4
  rw [show 256 * 4 = 1024 from rfl, sum_nf, Finset.sum_range_succ, Finset.sum_range_succ, Finset.sum_range_succ, Finset.sum_range_one] at e
  rw [← e, ← add_assoc, ← add_assoc, ← add_assoc]
  congr 1

/-- One of the four strips holds a row or column. -/
theorem pick (n : ℕ) (h : n < 1024) (x q : EReal) :
    (if n / 256 = (3 : Fin 4).val then x else if n / 256 = (2 : Fin 4).val then x else if n / 256 = (1 : Fin 4).val then x else if n / 256 = (0 : Fin 4).val then x else q) = x := by
  have h4 : n / 256 = 0 ∨ n / 256 = 1 ∨ n / 256 = 2 ∨ n / 256 = 3 := by omega
  rcases h4 with h | h | h | h <;> rw [h] <;> simp

/-! ## Parts of the buffers -/

theorem topZ_apply (z : Vec Ideal S1056x1024 .f32) (s : Fin 4) (r : Fin 1024) (k : Fin 256) : topZ z s (ix2 r k) = z (ix2 ⟨r.val, by omega⟩ ⟨256 * s.val + k.val, by omega⟩) := by
  pointwise! [topZ]
theorem botZ_apply (z : Vec Ideal S1056x1024 .f32) (s : Fin 4) (r : Fin 32) (k : Fin 256) : botZ z s (ix2 r k) = z (ix2 ⟨1024 + r.val, by omega⟩ ⟨256 * s.val + k.val, by omega⟩) := by
  pointwise! [botZ]
theorem colC_apply (z : Vec Ideal S1024x1024 .fp8e5m2) (s : Fin 4) (r : Fin 1024) (k : Fin 256) : colC z s (ix2 r k) = z (ix2 r ⟨256 * s.val + k.val, by omega⟩) := by
  pointwise! [colC]
theorem colT_apply (z : Vec Ideal S32x1024 .bf16) (s : Fin 4) (r : Fin 32) (k : Fin 256) : colT z s (ix2 r k) = z (ix2 r ⟨256 * s.val + k.val, by omega⟩) := by
  pointwise! [colT]

/-! ## The quantities of a column `r` of the row of blocks -/

/-- The gradient, the norm, the gradient of the magnitude, `g`, `k`. -/
def eY (ys : Vec Ideal S1024x128 .f32) (y : Vec Ideal S1024x1024 .fp8e5m2) (t r : Fin 1024) : EReal := y (ix2 t r) * ys (ix2 t ⟨r.val % 128, by omega⟩)
def eN (q : Vec Ideal S1024x128 .f32) (r : Fin 1024) : EReal := nrm (∑ l : Fin 128, q (ix2 r l))
def eD (q : Vec Ideal S1024x128 .f32) (z : Vec Ideal S1056x1024 .f32) (ys : Vec Ideal S1024x128 .f32) (y : Vec Ideal S1024x1024 .fp8e5m2) (r : Fin 1024) : EReal :=
  Ideal.div (∑ t : Fin 1024, eY ys y t r * z (ix2 ⟨t.val, by omega⟩ r)) (eN q r)
def eG (q : Vec Ideal S1024x128 .f32) (m : Vec Ideal S1x1024 .f32) (ys : Vec Ideal S1024x128 .f32) (y : Vec Ideal S1024x1024 .fp8e5m2) (t r : Fin 1024) : EReal :=
  eY ys y t r * Ideal.div (m (ix2 0 r)) (eN q r)
def eK (q : Vec Ideal S1024x128 .f32) (m : Vec Ideal S1x1024 .f32) (z : Vec Ideal S1056x1024 .f32) (ys : Vec Ideal S1024x128 .f32) (y : Vec Ideal S1024x1024 .fp8e5m2) (r : Fin 1024) : EReal :=
  Ideal.div (m (ix2 0 r) * eD q z ys y r) (eN q r * eN q r)

section Strips
variable (q : Vec Ideal S1024x128 .f32) (m : Vec Ideal S1x1024 .f32) (z : Vec Ideal S1056x1024 .f32) (ys : Vec Ideal S1024x128 .f32) (y : Vec Ideal S1024x1024 .fp8e5m2) (s : Fin 4)

theorem y_strip (t : Fin 1024) (l : Fin 256) : k0_pay36 (F := Ideal) ys (colC y s) (ix2 t l) = eY ys y t ⟨256 * s.val + l.val, by omega⟩ := by
  rw [pay36_apply, colC_apply]
  unfold eY
  refine congrArg _ (congrArg (fun k => ys (ix2 t k)) (Fin.ext ?_))
  dsimp only; omega

theorem dmS_apply (l : Fin 256) : dmS (k0_pay3 q) s z ys y (ix2 0 l) = eD q z ys y ⟨256 * s.val + l.val, by omega⟩ := by
  unfold dmS eD eN
  rw [fdm_apply, pay37_apply, nrow_apply, pay3_apply]
  refine congrArg (fun k => Ideal.div k _) (Finset.sum_congr rfl fun t _ => ?_)
  rw [y_strip, topZ_apply]

theorem gS_apply (t : Fin 1024) (l : Fin 256) : gS (k0_pay5 q m) s ys y (ix2 t l) = eG q m ys y t ⟨256 * s.val + l.val, by omega⟩ := by
  unfold gS eG eN
  rw [fg_apply, nrow_apply, pay5_apply, pay3_apply, y_strip]

theorem kS_apply (l : Fin 256) : kS (k0_pay3 q) (k0_pay4 m) s z ys y (ix2 0 l) = eK q m z ys y ⟨256 * s.val + l.val, by omega⟩ := by
  unfold kS eK
  rw [fk_apply, dmS_apply, nrow_apply, nrow_apply, pay4_apply, pay3_apply]
  rfl

theorem lastZ_apply (zo : Vec Ideal S1024x1024 .bf16) (t r : Fin 1024) :
    lastZ s z zo (ix2 t r) = if r.val / 256 = s.val then z (ix2 ⟨t.val, by omega⟩ r) else zo (ix2 t r) := by
  unfold lastZ
  by_cases h : r.val / 256 = s.val
  · rw [if_pos h, put2_in _ _ _ _ t r t ⟨r.val - 256 * s.val, by omega⟩ (by omega) (by dsimp only; omega), pay35_apply, topZ_apply]
    exact congrArg (fun k => z (ix2 _ k)) (Fin.ext (by dsimp only; omega))
  · rw [if_neg h, put2_out _ _ _ _ t r (.inr (by omega))]

theorem lastD_apply (dm : Vec Ideal S1x1024 .f32) (r : Fin 1024) :
    lastD (k0_pay3 q) s z ys y dm (ix2 0 r) = if r.val / 256 = s.val then eD q z ys y r else dm (ix2 0 r) := by
  unfold lastD
  by_cases h : r.val / 256 = s.val
  · rw [if_pos h, put2_in _ _ _ _ 0 r 0 ⟨r.val - 256 * s.val, by omega⟩ (by omega) (by dsimp only; omega), dmS_apply]
    exact congrArg (eD q z ys y) (Fin.ext (by dsimp only; omega))
  · rw [if_neg h, put2_out _ _ _ _ 0 r (.inr (by omega))]

theorem lastG_top (bt : Vec Ideal S32x1024 .bf16) (gk : Vec Ideal S1056x1024 .bf16) (t r : Fin 1024) :
    lastG (k0_pay3 q) (k0_pay4 m) (k0_pay5 q m) s z ys y bt gk (ix2 ⟨t.val, by omega⟩ r) = if r.val / 256 = s.val then eG q m ys y t r else gk (ix2 ⟨t.val, by omega⟩ r) := by
  unfold lastG
  rw [put2_out _ _ _ _ _ r (.inl (by dsimp only; omega))]
  by_cases h : r.val / 256 = s.val
  · rw [if_pos h, put2_in _ _ _ _ _ r t ⟨r.val - 256 * s.val, by omega⟩ (by dsimp only; omega) (by dsimp only; omega), gS_apply]
    exact congrArg (eG q m ys y t) (Fin.ext (by dsimp only; omega))
  · rw [if_neg h, put2_out _ _ _ _ _ r (.inr (by omega))]

theorem lastG_bot (bt : Vec Ideal S32x1024 .bf16) (gk : Vec Ideal S1056x1024 .bf16) (k : Fin 32) (r : Fin 1024) :
    lastG (k0_pay3 q) (k0_pay4 m) (k0_pay5 q m) s z ys y bt gk (ix2 ⟨1024 + k.val, by omega⟩ r) = if r.val / 256 = s.val then bt (ix2 k r) * eK q m z ys y r else gk (ix2 ⟨1024 + k.val, by omega⟩ r) := by
  unfold lastG
  by_cases h : r.val / 256 = s.val
  · rw [if_pos h, put2_in _ _ _ _ _ r k ⟨r.val - 256 * s.val, by omega⟩ rfl (by dsimp only; omega), fkb_apply, kS_apply, colT_apply]
    have e : (⟨256 * s.val + (r.val - 256 * s.val), by omega⟩ : Fin 1024) = r := Fin.ext (by dsimp only; omega)
    dsimp only
    rw [e]
  · rw [if_neg h, put2_out _ _ _ _ _ r (.inr (by omega)), put2_out _ _ _ _ _ r (.inl (by dsimp only; omega))]

theorem lastL_apply (xt : Vec Ideal S32x1024 .bf16) (dl : Vec Ideal S1024x32 .bf16) (r : Fin 1024) (k : Fin 32) :
    lastL (k0_pay3 q) (k0_pay4 m) (k0_pay5 q m) s z ys y xt dl (ix2 r k)
      = if r.val / 256 = s.val then (∑ t : Fin 1024, xt (ix2 k t) * eG q m ys y t r) - eK q m z ys y r * z (ix2 ⟨1024 + k.val, by omega⟩ r) else dl (ix2 r k) := by
  unfold lastL
  by_cases h : r.val / 256 = s.val
  · rw [if_pos h, put2_in _ _ _ _ r k ⟨r.val - 256 * s.val, by omega⟩ k (by dsimp only; omega) (by omega), fdlb_apply, kS_apply, botZ_apply]
    have e : (⟨256 * s.val + (r.val - 256 * s.val), by omega⟩ : Fin 1024) = r := Fin.ext (by dsimp only; omega)
    dsimp only
    rw [e]
    refine congrArg (fun k => k - _) (Finset.sum_congr rfl fun t _ => ?_)
    rw [gS_apply]
    dsimp only
    rw [e]
  · rw [if_neg h, put2_out _ _ _ _ r k (.inl (by omega))]

theorem lastB_apply (b : Vec Ideal S1024x32 .bf16) (gb : Vec Ideal S1024x32 .f32) (t : Fin 1024) (k : Fin 32) :
    lastB (k0_pay5 q m) s ys y b gb (ix2 t k) = gb (ix2 t k) + ∑ l : Fin 256, eG q m ys y t ⟨256 * s.val + l.val, by omega⟩ * b (ix2 ⟨256 * s.val + l.val, by omega⟩ k) := by
  unfold lastB
  rw [pay14_apply]
  refine congrArg _ (Finset.sum_congr rfl fun l _ => ?_)
  rw [gS_apply, rowB_apply]
end Strips

/-! ## The four strips together -/

section Ends
variable (q : Vec Ideal S1024x128 .f32) (m : Vec Ideal S1x1024 .f32) (z : Vec Ideal S1056x1024 .f32) (ys : Vec Ideal S1024x128 .f32) (y : Vec Ideal S1024x1024 .fp8e5m2)

theorem endZ_apply (zo : Vec Ideal S1024x1024 .bf16) (t r : Fin 1024) : endZ z zo (ix2 t r) = z (ix2 ⟨t.val, by omega⟩ r) := by
  unfold endZ
  simp only [lastZ_apply]
  exact pick r.val r.isLt _ _

theorem endD_apply (dm : Vec Ideal S1x1024 .f32) (r : Fin 1024) : endD q z ys y dm (ix2 0 r) = eD q z ys y r := by
  unfold endD
  simp only [lastD_apply]
  exact pick r.val r.isLt _ _

theorem endG_top (bt : Vec Ideal S32x1024 .bf16) (gk : Vec Ideal S1056x1024 .bf16) (t r : Fin 1024) :
    endG q m z ys y bt gk (ix2 ⟨t.val, by omega⟩ r) = eG q m ys y t r := by
  unfold endG
  simp only [lastG_top]
  exact pick r.val r.isLt _ _

theorem endG_bot (bt : Vec Ideal S32x1024 .bf16) (gk : Vec Ideal S1056x1024 .bf16) (k : Fin 32) (r : Fin 1024) :
    endG q m z ys y bt gk (ix2 ⟨1024 + k.val, by omega⟩ r) = bt (ix2 k r) * eK q m z ys y r := by
  unfold endG
  simp only [lastG_bot]
  exact pick r.val r.isLt _ _

theorem endL_apply (xt : Vec Ideal S32x1024 .bf16) (dl : Vec Ideal S1024x32 .bf16) (r : Fin 1024) (k : Fin 32) :
    endL q m z ys y xt dl (ix2 r k) = (∑ t : Fin 1024, xt (ix2 k t) * eG q m ys y t r) - eK q m z ys y r * z (ix2 ⟨1024 + k.val, by omega⟩ r) := by
  unfold endL
  simp only [lastL_apply]
  exact pick r.val r.isLt _ _

theorem endB_apply (b : Vec Ideal S1024x32 .bf16) (gb : Vec Ideal S1024x32 .f32) (t : Fin 1024) (k : Fin 32) :
    endB q m ys y b gb (ix2 t k) = gb (ix2 t k) + ∑ r : Fin 1024, eG q m ys y t r * b (ix2 r k) := by
  unfold endB
  simp only [lastB_apply]
  exact sum4 (fun r => eG q m ys y t r * b (ix2 r k)) _
end Ends

end Cert.FwdIdeal.Front

end
-- ==== Proof.Front.Spec.lean ====
/-
  Hand-written, untrusted. THE MATHEMATICS OF THE FIRST CALL over the extended reals, as functions of the eight arguments read at plain
  indices: the adapted weight, its row norms, the forward product, and what the backward pass makes of them. Both the kernel and the
  reference are proved equal to these functions.
-/
module

public import proofs.«01_k».proof.Proof.Front.EndVal

@[expose] public section

noncomputable section

namespace Cert.FwdIdeal.Front

open Cert.FwdIdeal Idealize.ShloMosaic

/-- The arguments: `X` the tokens, `W` the weight's codes, `S` their row scales, `A` and `B` the adapter's factors, `M` the magnitudes,
    `Y` the gradient's codes, `D` their row scales. -/
structure In where
  X : Fin 1024 → Fin 16384 → EReal
  W : Fin 5120 → Fin 16384 → EReal
  S : Fin 5120 → EReal
  A : Fin 32 → Fin 16384 → EReal
  B : Fin 5120 → Fin 32 → EReal
  M : Fin 5120 → EReal
  Y : Fin 1024 → Fin 5120 → EReal
  D : Fin 1024 → EReal

namespace In
variable (I : In)

/-- The adapted weight and the norms of its rows, with 1 in place of 0. -/
def v (o : Fin 5120) (i : Fin 16384) : EReal := I.W o i * I.S o + ∑ k : Fin 32, I.B o k * I.A k i
def n (o : Fin 5120) : EReal := nrm (∑ i : Fin 16384, I.v o i * I.v o i)
/-- The product of the tokens by the adapted weight. -/
def z (t : Fin 1024) (o : Fin 5120) : EReal := ∑ i : Fin 16384, I.X t i * I.v o i
/-- The gradient, the magnitudes' gradient, the gradient times `M / n`, the correction for the norm. -/
def y (t : Fin 1024) (o : Fin 5120) : EReal := I.Y t o * I.D t
def dm (o : Fin 5120) : EReal := Ideal.div (∑ t : Fin 1024, I.y t o * I.z t o) (I.n o)
def g (t : Fin 1024) (o : Fin 5120) : EReal := I.y t o * Ideal.div (I.M o) (I.n o)
def k (o : Fin 5120) : EReal := Ideal.div (I.M o * I.dm o) (I.n o * I.n o)
/-- The adapter's products. -/
def xa (t : Fin 1024) (j : Fin 32) : EReal := ∑ i : Fin 16384, I.X t i * I.A j i
def gb (t : Fin 1024) (j : Fin 32) : EReal := ∑ o : Fin 5120, I.g t o * I.B o j
def va (j : Fin 32) (o : Fin 5120) : EReal := ∑ i : Fin 16384, I.A j i * I.v o i
/-- The gradient of the adapter's second factor. -/
def dl (o : Fin 5120) (j : Fin 32) : EReal := (∑ t : Fin 1024, I.xa t j * I.g t o) - I.k o * I.va j o

/-- The tokens over the adapter's first factor. -/
def cat (t : Fin 1056) (i : Fin 16384) : EReal := if h : t.val < 1024 then I.X ⟨t.val, h⟩ i else I.A ⟨t.val - 1024, by omega⟩ i

/-! The eight results, as arrays. -/

def rV : S5120x16384.Idx → EReal := fun j => I.v (j 0) (j 1)
def rZ : S1024x5120.Idx → EReal := fun j => I.z (j 0) (j 1)
/-- `g` over the rows of `B * k`. -/
def rG : S1056x5120.Idx → EReal := fun j =>
  if h : (j 0).val < 1024 then I.g ⟨(j 0).val, h⟩ (j 1) else I.B (j 1) ⟨(j 0).val - 1024, Nat.sub_lt_left_of_lt_add (Nat.le_of_not_lt h) (j 0).isLt⟩ * I.k (j 1)
def rD : S1x5120.Idx → EReal := fun j => I.dm (j 1)
def rL : S5120x32.Idx → EReal := fun j => I.dl (j 0) (j 1)
def rX : S1024x32.Idx → EReal := fun j => I.xa (j 0) (j 1)
def rB : S1024x32.Idx → EReal := fun j => I.gb (j 0) (j 1)
def rT : S32x1024.Idx → EReal := fun j => I.gb (j 1) (j 0)

theorem rG_top (t : Fin 1024) (o : Fin 5120) : I.rG (ix2 ⟨t.val, by omega⟩ o) = I.g t o := dif_pos t.isLt
theorem rG_bot (j : Fin 32) (o : Fin 5120) : I.rG (ix2 ⟨1024 + j.val, by omega⟩ o) = I.B o j * I.k o :=
  (dif_neg (by show ¬ 1024 + j.val < 1024; omega)).trans (congrArg (fun j => I.B o j * I.k o) (Fin.ext (by show 1024 + j.val - 1024 = j.val; omega)))

/-- A row of the joined array is one of the first 1024 or one of the last 32. -/
theorem row_cases (r : Fin 1056) : (∃ t : Fin 1024, r = ⟨t.val, by omega⟩) ∨ ∃ j : Fin 32, r = ⟨1024 + j.val, by omega⟩ := by
  by_cases h : r.val < 1024
  · exact .inl ⟨⟨r.val, h⟩, rfl⟩
  · exact .inr ⟨⟨r.val - 1024, by omega⟩, Fin.ext (by dsimp only; omega)⟩

end In

end Cert.FwdIdeal.Front

end
-- ==== Proof.Front.Sums.lean ====
/-
  Hand-written, untrusted. WHAT THE SCRATCHES HOLD over the extended reals: after `n` points, the sums over the blocks seen so far; at the
  end of a row of blocks, the sums over whole rows.
-/
module

public import proofs.«01_k».proof.Proof.Front.Spec
public import proofs.«01_k».proof.Proof.Front.Run

@[expose] public section

set_option maxRecDepth 16384

noncomputable section

namespace Cert.FwdIdeal.Front

open Cert.FwdIdeal Cert.FwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments as the call finds them. -/
def KIn : In where
  X t i := (V m c main_v0 : Vec Ideal S1024x16384 .bf16) (ix2 t i)
  W o i := (V m c main_arg1 : Vec Ideal S5120x16384 .fp8e4m3) (ix2 o i)
  S o := (V m c main_v2 : Vec Ideal S1x5120 .f32) (ix2 0 o)
  A j i := (V m c main_arg3 : Vec Ideal S32x16384 .bf16) (ix2 j i)
  B o j := (V m c main_arg4 : Vec Ideal S5120x32 .bf16) (ix2 o j)
  M o := (V m c main_v4 : Vec Ideal S1x5120 .f32) (ix2 0 o)
  Y t o := (V m c main_v1 : Vec Ideal S1024x5120 .fp8e5m2) (ix2 t o)
  D t := (V m c main_v5 : Vec Ideal S1x1024 .f32) (ix2 0 t)

/-! ## Where the blocks stand -/

theorem lt40 (t : Fin cfg0.N) : t.val < 40 := Nat.lt_of_lt_of_eq t.isLt N_0

/-- Row `r` of the row of blocks at point `n`; column `l` of the block. -/
def oF (n : ℕ) (r : Fin 1024) : Fin 5120 := ⟨(1024 * (n / 8) + r.val) % 5120, Nat.mod_lt _ (by decide)⟩
def iF (n : ℕ) (l : Fin 2048) : Fin 16384 := ⟨2048 * (n % 8) + l.val, by omega⟩

theorem oF_val (n : ℕ) (h : n < 40) (r : Fin 1024) : (oF n r).val = 1024 * (n / 8) + r.val :=
  Nat.mod_eq_of_lt (by omega)

theorem oF_succ (n : ℕ) (h : (n + 1) % 8 ≠ 0) (r : Fin 1024) : oF (n + 1) r = oF n r :=
  Fin.ext (by show (1024 * ((n + 1) / 8) + r.val) % 5120 = (1024 * (n / 8) + r.val) % 5120; rw [show (n + 1) / 8 = n / 8 by omega])

theorem idx_in : ∀ t : Fin cfg0.N, (win0_0.index t 0 = 0 ∧ win0_0.index t 1 = t.val % 8) ∧ (win0_1.index t 0 = t.val / 8 ∧ win0_1.index t 1 = t.val % 8)
    ∧ (win0_2.index t 0 = 0 ∧ win0_2.index t 1 = t.val / 8) ∧ (win0_3.index t 0 = 0 ∧ win0_3.index t 1 = t.val % 8)
    ∧ (win0_4.index t 0 = t.val / 8 ∧ win0_4.index t 1 = 0) ∧ (win0_5.index t 0 = 0 ∧ win0_5.index t 1 = t.val / 8)
    ∧ (win0_6.index t 0 = 0 ∧ win0_6.index t 1 = t.val / 8) ∧ (win0_7.index t 0 = 0 ∧ win0_7.index t 1 = t.val / 8)
    ∧ (win0_8.index t 0 = 0 ∧ win0_8.index t 1 = 0) :=
  (by decide +kernel : ∀ t : Fin grid0.N, (win0_0.index t 0 = 0 ∧ win0_0.index t 1 = t.val % 8) ∧ (win0_1.index t 0 = t.val / 8 ∧ win0_1.index t 1 = t.val % 8)
    ∧ (win0_2.index t 0 = 0 ∧ win0_2.index t 1 = t.val / 8) ∧ (win0_3.index t 0 = 0 ∧ win0_3.index t 1 = t.val % 8)
    ∧ (win0_4.index t 0 = t.val / 8 ∧ win0_4.index t 1 = 0) ∧ (win0_5.index t 0 = 0 ∧ win0_5.index t 1 = t.val / 8)
    ∧ (win0_6.index t 0 = 0 ∧ win0_6.index t 1 = t.val / 8) ∧ (win0_7.index t 0 = 0 ∧ win0_7.index t 1 = t.val / 8)
    ∧ (win0_8.index t 0 = 0 ∧ win0_8.index t 1 = 0))

theorem iblk0 (t : Fin cfg0.N) (r : Fin 1024) (l : Fin 2048) : (iblk m c 0 t : Vec Ideal S1024x2048 .bf16) (ix2 r l) = (KIn m c).X r (iF t.val l) := by
  obtain ⟨⟨h0, h1⟩, -⟩ := idx_in t
  unfold iblk
  rw [View.read_apply]
  show V m c main_v0 _ = V m c main_v0 _
  refine congrArg _ (funext fun a => Fin.ext ?_)
  match a with
  | ⟨0, _⟩ => show win0_0.index t 0 * 1024 + 1 * r.val = r.val; rw [h0]; omega
  | ⟨1, _⟩ => show win0_0.index t 1 * 2048 + 1 * l.val = 2048 * (t.val % 8) + l.val; rw [h1]; omega

theorem iblk1 (t : Fin cfg0.N) (r : Fin 1024) (l : Fin 2048) : (iblk m c 1 t : Vec Ideal S1024x2048 .fp8e4m3) (ix2 r l) = (KIn m c).W (oF t.val r) (iF t.val l) := by
  obtain ⟨-, ⟨h0, h1⟩, -⟩ := idx_in t
  unfold iblk
  rw [View.read_apply]
  show V m c main_arg1 _ = V m c main_arg1 _
  refine congrArg _ (funext fun a => Fin.ext ?_)
  match a with
  | ⟨0, _⟩ => show win0_1.index t 0 * 1024 + 1 * r.val = (oF t.val r).val; rw [h0, oF_val _ (lt40 t)]; omega
  | ⟨1, _⟩ => show win0_1.index t 1 * 2048 + 1 * l.val = 2048 * (t.val % 8) + l.val; rw [h1]; omega

theorem iblk2 (t : Fin cfg0.N) (r : Fin 1024) : (iblk m c 2 t : Vec Ideal S1x1024 .f32) (ix2 0 r) = (KIn m c).S (oF t.val r) := by
  obtain ⟨-, -, ⟨h0, h1⟩, -⟩ := idx_in t
  unfold iblk
  rw [View.read_apply]
  show V m c main_v2 _ = V m c main_v2 _
  refine congrArg _ (funext fun a => Fin.ext ?_)
  match a with
  | ⟨0, _⟩ => show win0_2.index t 0 * 1 + 1 * 0 = 0; rw [h0]
  | ⟨1, _⟩ => show win0_2.index t 1 * 1024 + 1 * r.val = (oF t.val r).val; rw [h1, oF_val _ (lt40 t)]; omega

theorem iblk3 (t : Fin cfg0.N) (j : Fin 32) (l : Fin 2048) : (iblk m c 3 t : Vec Ideal S32x2048 .bf16) (ix2 j l) = (KIn m c).A j (iF t.val l) := by
  obtain ⟨-, -, -, ⟨h0, h1⟩, -⟩ := idx_in t
  unfold iblk
  rw [View.read_apply]
  show V m c main_arg3 _ = V m c main_arg3 _
  refine congrArg _ (funext fun a => Fin.ext ?_)
  match a with
  | ⟨0, _⟩ => show win0_3.index t 0 * 32 + 1 * j.val = j.val; rw [h0]; omega
  | ⟨1, _⟩ => show win0_3.index t 1 * 2048 + 1 * l.val = 2048 * (t.val % 8) + l.val; rw [h1]; omega

theorem iblk4 (t : Fin cfg0.N) (r : Fin 1024) (j : Fin 32) : (iblk m c 4 t : Vec Ideal S1024x32 .bf16) (ix2 r j) = (KIn m c).B (oF t.val r) j := by
  obtain ⟨-, -, -, -, ⟨h0, h1⟩, -⟩ := idx_in t
  unfold iblk
  rw [View.read_apply]
  show V m c main_arg4 _ = V m c main_arg4 _
  refine congrArg _ (funext fun a => Fin.ext ?_)
  match a with
  | ⟨0, _⟩ => show win0_4.index t 0 * 1024 + 1 * r.val = (oF t.val r).val; rw [h0, oF_val _ (lt40 t)]; omega
  | ⟨1, _⟩ => show win0_4.index t 1 * 32 + 1 * j.val = j.val; rw [h1]; omega

theorem iblk5 (t : Fin cfg0.N) (j : Fin 32) (r : Fin 1024) : (iblk m c 5 t : Vec Ideal S32x1024 .bf16) (ix2 j r) = (V m c main_v3 : Vec Ideal S32x5120 .bf16) (ix2 j (oF t.val r)) := by
  obtain ⟨-, -, -, -, -, ⟨h0, h1⟩, -⟩ := idx_in t
  unfold iblk
  rw [View.read_apply]
  show V m c main_v3 _ = V m c main_v3 _
  refine congrArg _ (funext fun a => Fin.ext ?_)
  match a with
  | ⟨0, _⟩ => show win0_5.index t 0 * 32 + 1 * j.val = j.val; rw [h0]; omega
  | ⟨1, _⟩ => show win0_5.index t 1 * 1024 + 1 * r.val = (oF t.val r).val; rw [h1, oF_val _ (lt40 t)]; omega

theorem iblk6 (t : Fin cfg0.N) (r : Fin 1024) : (iblk m c 6 t : Vec Ideal S1x1024 .f32) (ix2 0 r) = (KIn m c).M (oF t.val r) := by
  obtain ⟨-, -, -, -, -, -, ⟨h0, h1⟩, -⟩ := idx_in t
  unfold iblk
  rw [View.read_apply]
  show V m c main_v4 _ = V m c main_v4 _
  refine congrArg _ (funext fun a => Fin.ext ?_)
  match a with
  | ⟨0, _⟩ => show win0_6.index t 0 * 1 + 1 * 0 = 0; rw [h0]
  | ⟨1, _⟩ => show win0_6.index t 1 * 1024 + 1 * r.val = (oF t.val r).val; rw [h1, oF_val _ (lt40 t)]; omega

theorem iblk7 (t : Fin cfg0.N) (s r : Fin 1024) : (iblk m c 7 t : Vec Ideal S1024x1024 .fp8e5m2) (ix2 s r) = (KIn m c).Y s (oF t.val r) := by
  obtain ⟨-, -, -, -, -, -, -, ⟨h0, h1⟩, -⟩ := idx_in t
  unfold iblk
  rw [View.read_apply]
  show V m c main_v1 _ = V m c main_v1 _
  refine congrArg _ (funext fun a => Fin.ext ?_)
  match a with
  | ⟨0, _⟩ => show win0_7.index t 0 * 1024 + 1 * s.val = s.val; rw [h0]; omega
  | ⟨1, _⟩ => show win0_7.index t 1 * 1024 + 1 * r.val = (oF t.val r).val; rw [h1, oF_val _ (lt40 t)]; omega

theorem iblk8 (t : Fin cfg0.N) (s : Fin 1024) : (iblk m c 8 t : Vec Ideal S1x1024 .f32) (ix2 0 s) = (KIn m c).D s := by
  obtain ⟨-, -, -, -, -, -, -, -, h0, h1⟩ := idx_in t
  unfold iblk
  rw [View.read_apply]
  show V m c main_v5 _ = V m c main_v5 _
  refine congrArg _ (funext fun a => Fin.ext ?_)
  match a with
  | ⟨0, _⟩ => show win0_8.index t 0 * 1 + 1 * 0 = 0; rw [h0]
  | ⟨1, _⟩ => show win0_8.index t 1 * 1024 + 1 * s.val = s.val; rw [h1]; omega

/-! ## The scratches -/

/-- The `n`-th point. -/
abbrev tt (n : ℕ) (h : n < 40) : Fin cfg0.N := ⟨n, Nat.lt_of_lt_of_eq h N_0.symm⟩

/-- The scales of the row of blocks, and of the gradient's rows. -/
theorem SC_at (n : ℕ) (h : n < 40) (r : Fin 1024) (l : Fin 128) : SC m c (n + 1) (ix2 r l) = (KIn m c).S (oF n r) := by
  induction n with
  | zero =>
    rw [show SC m c (0 + 1) = _ from SC_succ m c (tt 0 h)]
    unfold stSc
    rw [if_pos ((hcond0_1 (tt 0 h)).mpr rfl), pay48_apply, iblk2]
  | succ n ih =>
    rw [show SC m c (n + 1 + 1) = _ from SC_succ m c (tt (n + 1) h)]
    unfold stSc
    by_cases e : (n + 1) % 8 = 0
    · rw [if_pos ((hcond0_1 (tt (n + 1) h)).mpr e), pay48_apply, iblk2]
    · rw [if_neg (fun h' => e ((hcond0_1 (tt (n + 1) h)).mp h')), oF_succ n e]
      exact ih (by omega)

theorem YS_at (n : ℕ) (h : n < 40) (r : Fin 1024) (l : Fin 128) : YS m c (n + 1) (ix2 r l) = (KIn m c).D r := by
  induction n with
  | zero =>
    rw [show YS m c (0 + 1) = _ from YS_succ m c (tt 0 h)]
    unfold stYs
    rw [if_pos ((hcond0_0 (tt 0 h)).mpr rfl), pay45_apply, iblk8]
  | succ n ih =>
    rw [show YS m c (n + 1 + 1) = _ from YS_succ m c (tt (n + 1) h)]
    unfold stYs
    rw [if_neg (fun h' => by have := (hcond0_0 (tt (n + 1) h)).mp h'; dsimp only at this; omega)]
    exact ih (by omega)

/-- The block of the adapted weight. -/
theorem vB_at (n : ℕ) (h : n < 40) (r : Fin 1024) (l : Fin 2048) :
    vB (iblk m c 1 (tt n h)) (SC m c (n + 1)) (iblk m c 4 (tt n h)) (iblk m c 3 (tt n h)) r l = (KIn m c).v (oF n r) (iF n l) := by
  unfold vB In.v
  rw [iblk1, SC_at m c n h]
  exact congrArg _ (Finset.sum_congr rfl fun k _ => by rw [iblk4, iblk3])

theorem cat_at (n : ℕ) (h : n < 40) (t : Fin 1056) (l : Fin 2048) :
    k0_pay52 (F := Ideal) (iblk m c 3 (tt n h)) (iblk m c 0 (tt n h)) (ix2 t l) = (KIn m c).cat t (iF n l) := by
  unfold In.cat
  by_cases e : t.val < 1024
  · rw [dif_pos e]
    exact (pay52_top (iblk m c 3 (tt n h)) (iblk m c 0 (tt n h)) ⟨t.val, e⟩ l).trans (iblk0 m c (tt n h) _ _)
  · rw [dif_neg e]
    have e' : t = ⟨1024 + (⟨t.val - 1024, by omega⟩ : Fin 32).val, by dsimp only; omega⟩ := Fin.ext (by dsimp only; omega)
    rw [congrArg (fun t => k0_pay52 (F := Ideal) (iblk m c 3 (tt n h)) (iblk m c 0 (tt n h)) (ix2 t l)) e']
    exact (pay52_bot (iblk m c 3 (tt n h)) (iblk m c 0 (tt n h)) ⟨t.val - 1024, by omega⟩ l).trans (iblk3 m c (tt n h) _ _)

theorem nf_iF (f : Fin 16384 → EReal) (n : ℕ) (l : Fin 2048) : f (iF n l) = nf f (2048 * (n % 8) + l.val) := (nf_of f _ _ rfl).symm

/-- The sums over the blocks of a row seen so far. -/
theorem QQ_at (n : ℕ) (h : n < 40) (r : Fin 1024) (l : Fin 128) : QQ m c (n + 1) (ix2 r l)
    = ∑ b ∈ Finset.range (n % 8 + 1), ∑ j : Fin 16, nf (fun i => (KIn m c).v (oF n r) i * (KIn m c).v (oF n r) i) (2048 * b + (128 * j.val + l.val)) := by
  have key : ∀ (n : ℕ) (h : n < 40) (q : Vec Ideal S1024x128 .f32),
      mainQ (iblk m c 3 (tt n h)) (iblk m c 1 (tt n h)) (iblk m c 4 (tt n h)) (SC m c (n + 1)) q (ix2 r l)
        = q (ix2 r l) + ∑ j : Fin 16, nf (fun i => (KIn m c).v (oF n r) i * (KIn m c).v (oF n r) i) (2048 * (n % 8) + (128 * j.val + l.val)) := fun n h q => by
    rw [mainQ_apply]
    refine congrArg _ (Finset.sum_congr rfl fun j _ => ?_)
    rw [vB_at]
    exact nf_iF (fun i => (KIn m c).v (oF n r) i * (KIn m c).v (oF n r) i) n ⟨128 * j.val + l.val, by omega⟩
  induction n with
  | zero =>
    rw [show QQ m c (0 + 1) = _ from QQ_succ m c (tt 0 h)]
    unfold stQ
    rw [show stSc (grid0.coords (tt 0 h)) (iblk m c 2 (tt 0 h)) (SC m c (tt 0 h).val) = SC m c (0 + 1) from (SC_succ m c (tt 0 h)).symm, key,
      if_pos ((hcond0_1 (tt 0 h)).mpr rfl), pay49_apply, zero_add, Finset.sum_range_one]
  | succ n ih =>
    rw [show QQ m c (n + 1 + 1) = _ from QQ_succ m c (tt (n + 1) h)]
    unfold stQ
    rw [show stSc (grid0.coords (tt (n + 1) h)) (iblk m c 2 (tt (n + 1) h)) (SC m c (tt (n + 1) h).val) = SC m c (n + 1 + 1) from (SC_succ m c (tt (n + 1) h)).symm, key]
    by_cases e : (n + 1) % 8 = 0
    · rw [if_pos ((hcond0_1 (tt (n + 1) h)).mpr e), pay49_apply, zero_add, e, Finset.sum_range_one]
    · rw [if_neg (fun h' => e ((hcond0_1 (tt (n + 1) h)).mp h')), Finset.sum_range_succ, oF_succ n e]
      refine congrArg (· + _) ?_
      rw [show (n + 1) % 8 = n % 8 + 1 by omega]
      exact ih (by omega)

theorem ZZ_at (n : ℕ) (h : n < 40) (t : Fin 1056) (r : Fin 1024) : ZZ m c (n + 1) (ix2 t r)
    = ∑ b ∈ Finset.range (n % 8 + 1), ∑ l : Fin 2048, nf (fun i => (KIn m c).cat t i * (KIn m c).v (oF n r) i) (2048 * b + l.val) := by
  have key : ∀ (n : ℕ) (h : n < 40) (z : Vec Ideal S1056x1024 .f32),
      mainZ (iblk m c 3 (tt n h)) (iblk m c 0 (tt n h)) (iblk m c 1 (tt n h)) (iblk m c 4 (tt n h)) (SC m c (n + 1)) z (ix2 t r)
        = z (ix2 t r) + ∑ l : Fin 2048, nf (fun i => (KIn m c).cat t i * (KIn m c).v (oF n r) i) (2048 * (n % 8) + l.val) := fun n h z => by
    rw [mainZ_apply]
    refine congrArg _ (Finset.sum_congr rfl fun l _ => ?_)
    rw [vB_at, cat_at]
    exact nf_iF (fun i => (KIn m c).cat t i * (KIn m c).v (oF n r) i) n l
  induction n with
  | zero =>
    rw [show ZZ m c (0 + 1) = _ from ZZ_succ m c (tt 0 h)]
    unfold stZ
    rw [show stSc (grid0.coords (tt 0 h)) (iblk m c 2 (tt 0 h)) (SC m c (tt 0 h).val) = SC m c (0 + 1) from (SC_succ m c (tt 0 h)).symm, key,
      if_pos ((hcond0_1 (tt 0 h)).mpr rfl), pay50_apply, zero_add, Finset.sum_range_one]
  | succ n ih =>
    rw [show ZZ m c (n + 1 + 1) = _ from ZZ_succ m c (tt (n + 1) h)]
    unfold stZ
    rw [show stSc (grid0.coords (tt (n + 1) h)) (iblk m c 2 (tt (n + 1) h)) (SC m c (tt (n + 1) h).val) = SC m c (n + 1 + 1) from (SC_succ m c (tt (n + 1) h)).symm, key]
    by_cases e : (n + 1) % 8 = 0
    · rw [if_pos ((hcond0_1 (tt (n + 1) h)).mpr e), pay50_apply, zero_add, e, Finset.sum_range_one]
    · rw [if_neg (fun h' => e ((hcond0_1 (tt (n + 1) h)).mp h')), Finset.sum_range_succ, oF_succ n e]
      refine congrArg (· + _) ?_
      rw [show (n + 1) % 8 = n % 8 + 1 by omega]
      exact ih (by omega)

/-- A sum of all eight blocks of a row is the sum over the row. -/
theorem row_sum (f : Fin 16384 → EReal) : (∑ b ∈ Finset.range 8, ∑ l : Fin 2048, nf f (2048 * b + l.val)) = ∑ i : Fin 16384, f i :=
  (sum_blocks 2048 (nf f) 8).trans (sum_nf f)

theorem ZZ_end (n : ℕ) (h : n < 40) (e : n % 8 = 7) (t : Fin 1056) (r : Fin 1024) :
    ZZ m c (n + 1) (ix2 t r) = ∑ i : Fin 16384, (KIn m c).cat t i * (KIn m c).v (oF n r) i := by
  rw [ZZ_at m c n h, e]
  exact row_sum (fun i => (KIn m c).cat t i * (KIn m c).v (oF n r) i)

theorem ZZ_top (n : ℕ) (h : n < 40) (e : n % 8 = 7) (t r : Fin 1024) : ZZ m c (n + 1) (ix2 ⟨t.val, by omega⟩ r) = (KIn m c).z t (oF n r) := by
  rw [ZZ_end m c n h e]
  exact Finset.sum_congr rfl fun i _ => by rw [show (KIn m c).cat ⟨t.val, _⟩ i = (KIn m c).X t i from dif_pos t.isLt]

theorem ZZ_bot (n : ℕ) (h : n < 40) (e : n % 8 = 7) (j : Fin 32) (r : Fin 1024) :
    ZZ m c (n + 1) (ix2 ⟨1024 + j.val, by omega⟩ r) = (KIn m c).va j (oF n r) := by
  rw [ZZ_end m c n h e]
  refine Finset.sum_congr rfl fun i _ => congrArg (· * _) ?_
  refine (dif_neg (by dsimp only; omega)).trans (congrArg (fun k => (KIn m c).A k i) (Fin.ext ?_))
  dsimp only; omega

theorem QQ_end (n : ℕ) (h : n < 40) (e : n % 8 = 7) (r : Fin 1024) : eN (QQ m c (n + 1)) r = (KIn m c).n (oF n r) := by
  unfold eN In.n
  refine congrArg nrm ?_
  rw [Finset.sum_congr rfl fun l _ => QQ_at m c n h r l, e, Finset.sum_comm]
  refine Eq.trans (Finset.sum_congr rfl fun b _ => ?_) (row_sum (fun i => (KIn m c).v (oF n r) i * (KIn m c).v (oF n r) i))
  rw [Finset.sum_comm]
  have s := sum_blocks 128 (fun i => nf (fun i => (KIn m c).v (oF n r) i * (KIn m c).v (oF n r) i) (2048 * b + i)) 16
  rw [Finset.sum_range, Finset.sum_range] at s
  exact s

/-! ## The adapter's product -/

theorem XA_at (n : ℕ) (h : n < 8) (t : Fin 1024) (j : Fin 32) : XA m c (n + 1) (ix2 t j)
    = ∑ b ∈ Finset.range (n + 1), ∑ l : Fin 2048, nf (fun i => (KIn m c).X t i * (KIn m c).A j i) (2048 * b + l.val) := by
  have key : ∀ (n : ℕ) (h : n < 8) (xa : Vec Ideal S1024x32 .f32),
      k0_pay51 (F := Ideal) xa (iblk m c 0 (tt n (by omega))) (iblk m c 3 (tt n (by omega))) (ix2 t j)
        = xa (ix2 t j) + ∑ l : Fin 2048, nf (fun i => (KIn m c).X t i * (KIn m c).A j i) (2048 * n + l.val) := fun n h xa => by
    rw [pay51_apply]
    refine congrArg _ (Finset.sum_congr rfl fun l _ => ?_)
    rw [iblk0, iblk3]
    refine (nf_iF (fun i => (KIn m c).X t i * (KIn m c).A j i) n l).trans ?_
    rw [Nat.mod_eq_of_lt h]
  induction n with
  | zero =>
    rw [show XA m c (0 + 1) = _ from XA_succ m c (tt 0 (by omega))]
    unfold stXa
    rw [if_pos ((hcond0_2 (tt 0 (by omega))).mpr h), if_pos ((hcond0_0 (tt 0 (by omega))).mpr rfl), key 0 h, pay46_apply, zero_add, Finset.sum_range_one]
  | succ n ih =>
    rw [show XA m c (n + 1 + 1) = _ from XA_succ m c (tt (n + 1) (by omega))]
    unfold stXa
    rw [if_pos ((hcond0_2 (tt (n + 1) (by omega))).mpr h),
      if_neg (fun h' => by have := (hcond0_0 (tt (n + 1) (by omega))).mp h'; dsimp only at this; omega), key (n + 1) h, Finset.sum_range_succ]
    exact congrArg (· + _) (ih (by omega) key)

theorem XA_end (t : Fin 1024) (j : Fin 32) : XA m c 8 (ix2 t j) = (KIn m c).xa t j :=
  (XA_at m c 7 (by omega) t j).trans (row_sum (fun i => (KIn m c).X t i * (KIn m c).A j i))

theorem XT_at (n : ℕ) (h7 : 7 ≤ n) (h : n < 40) : XT m c (n + 1) = k0_pay206 (XA m c 8) := by
  induction n, h7 using Nat.le_induction with
  | base =>
    rw [show XT m c (7 + 1) = _ from XT_succ m c (tt 7 h)]
    unfold stXt
    exact if_pos ((hcond0_3 (tt 7 h)).mpr rfl)
  | succ n hn ih =>
    rw [show XT m c (n + 1 + 1) = _ from XT_succ m c (tt (n + 1) h)]
    unfold stXt
    exact (if_neg (fun h' => by have := (hcond0_3 (tt (n + 1) h)).mp h'; dsimp only at this; omega)).trans (ih (by omega))

theorem XT_end (n : ℕ) (h7 : 7 ≤ n) (h : n < 40) (j : Fin 32) (t : Fin 1024) : XT m c (n + 1) (ix2 j t) = (KIn m c).xa t j := by
  rw [XT_at m c n h7 h, pay206_apply, XA_end]

/-! ## The ending of a row of blocks -/

section End
variable (n : ℕ) (h : n < 40) (e : n % 8 = 7)

theorem eY_at (t r : Fin 1024) : eY (YS m c (n + 1)) (iblk m c 7 (tt n h)) t r = (KIn m c).y t (oF n r) := by
  unfold eY In.y
  rw [iblk7, YS_at m c n h]

include e in
theorem eD_at (r : Fin 1024) : eD (QQ m c (n + 1)) (ZZ m c (n + 1)) (YS m c (n + 1)) (iblk m c 7 (tt n h)) r = (KIn m c).dm (oF n r) := by
  unfold eD In.dm
  rw [QQ_end m c n h e]
  exact congrArg (fun s => Ideal.div s ((KIn m c).n (oF n r))) (Finset.sum_congr rfl fun t _ => congrArg₂ (· * ·) (eY_at m c n h t r) (ZZ_top m c n h e t r))

include e in
theorem eG_at (t r : Fin 1024) : eG (QQ m c (n + 1)) (iblk m c 6 (tt n h)) (YS m c (n + 1)) (iblk m c 7 (tt n h)) t r = (KIn m c).g t (oF n r) := by
  unfold eG In.g
  rw [QQ_end m c n h e, eY_at m c n h, iblk6]

include e in
theorem eK_at (r : Fin 1024) : eK (QQ m c (n + 1)) (iblk m c 6 (tt n h)) (ZZ m c (n + 1)) (YS m c (n + 1)) (iblk m c 7 (tt n h)) r = (KIn m c).k (oF n r) := by
  unfold eK In.k
  rw [QQ_end m c n h e, eD_at m c n h e, iblk6]
end End

/-- The sums over the rows of blocks that are finished. -/
theorem GB_at (n : ℕ) (h : n < 40) (t : Fin 1024) (j : Fin 32) : GB m c (n + 1) (ix2 t j)
    = ∑ b ∈ Finset.range ((n + 1) / 8), ∑ r : Fin 1024, nf (fun o => (KIn m c).g t o * (KIn m c).B o j) (1024 * b + r.val) := by
  induction n with
  | zero =>
    rw [show GB m c (0 + 1) = _ from GB_succ m c (tt 0 h)]
    unfold stGb stGb0
    rw [if_neg (fun h' => by have := (hcond0_4 (tt 0 h)).mp h'; dsimp only at this; omega), if_pos ((hcond0_0 (tt 0 h)).mpr rfl), pay47_apply]
    rfl
  | succ n ih =>
    rw [show GB m c (n + 1 + 1) = _ from GB_succ m c (tt (n + 1) h)]
    unfold stGb stGb0
    rw [if_neg (c := cond0_0 _) (fun h' => by have := (hcond0_0 (tt (n + 1) h)).mp h'; dsimp only at this; omega)]
    by_cases e : (n + 1) % 8 = 7
    · refine (congrFun (if_pos ((hcond0_4 (tt (n + 1) h)).mpr e)) _).trans ?_
      rw [endB_apply, show (n + 1 + 1) / 8 = (n + 1) / 8 + 1 by omega, Finset.sum_range_succ]
      refine congrArg₂ (· + ·) (ih (by omega)) (Finset.sum_congr rfl fun r _ => ?_)
      rw [eG_at m c (n + 1) h e, iblk4]
      exact (nf_of (fun o => (KIn m c).g t o * (KIn m c).B o j) _ _ (oF_val (n + 1) h r)).symm
    · refine (congrFun (if_neg (fun h' => e ((hcond0_4 (tt (n + 1) h)).mp h'))) _).trans ?_
      rw [show (n + 1 + 1) / 8 = (n + 1) / 8 by omega]
      exact ih (by omega)

theorem GB_end (t : Fin 1024) (j : Fin 32) : GB m c 40 (ix2 t j) = (KIn m c).gb t j :=
  (GB_at m c 39 (by omega) t j).trans ((sum_blocks 1024 (nf (fun o => (KIn m c).g t o * (KIn m c).B o j)) 5).trans (sum_nf _))

end Cert.FwdIdeal.Front

end
-- ==== Proof.Front.FrontVal.lean ====
/-
  Hand-written, untrusted. THE RESULT ARRAYS OF THE FIRST CALL over the extended reals: each is the function `Spec.lean` states of the
  arguments. The blocks written back tile each array.
-/
module

public import proofs.«01_k».proof.Proof.Front.Sums

@[expose] public section

set_option maxRecDepth 16384

noncomputable section

namespace Cert.FwdIdeal.Front

open Cert.FwdIdeal Cert.FwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx_out : ∀ t : Fin cfg0.N, (win0_9.index t 0 = t.val / 8 ∧ win0_9.index t 1 = t.val % 8) ∧ (win0_10.index t 0 = 0 ∧ win0_10.index t 1 = t.val / 8)
    ∧ (win0_11.index t 0 = 0 ∧ win0_11.index t 1 = t.val / 8) ∧ (win0_12.index t 0 = 0 ∧ win0_12.index t 1 = t.val / 8)
    ∧ (win0_13.index t 0 = t.val / 8 ∧ win0_13.index t 1 = 0) ∧ (win0_14.index t 0 = 0 ∧ win0_14.index t 1 = 0)
    ∧ (win0_15.index t 0 = 0 ∧ win0_15.index t 1 = 0) ∧ (win0_16.index t 0 = 0 ∧ win0_16.index t 1 = 0) :=
  (by decide +kernel : ∀ t : Fin grid0.N, (win0_9.index t 0 = t.val / 8 ∧ win0_9.index t 1 = t.val % 8) ∧ (win0_10.index t 0 = 0 ∧ win0_10.index t 1 = t.val / 8)
    ∧ (win0_11.index t 0 = 0 ∧ win0_11.index t 1 = t.val / 8) ∧ (win0_12.index t 0 = 0 ∧ win0_12.index t 1 = t.val / 8)
    ∧ (win0_13.index t 0 = t.val / 8 ∧ win0_13.index t 1 = 0) ∧ (win0_14.index t 0 = 0 ∧ win0_14.index t 1 = 0)
    ∧ (win0_15.index t 0 = 0 ∧ win0_15.index t 1 = 0) ∧ (win0_16.index t 0 = 0 ∧ win0_16.index t 1 = 0))

/-! ## What a block of a result array reads -/

theorem emb9 (n : ℕ) (h : n < 40) (r : Fin 1024) (l : Fin 2048) :
    ((cfg0.win 9).blk (tt n h)).view.emb (ix2 r l) = (ix2 (oF n r) (iF n l) : S5120x16384.Idx) := by
  obtain ⟨⟨h0, h1⟩, -⟩ := idx_out (tt n h)
  funext a; apply Fin.ext
  match a with
  | ⟨0, _⟩ => show win0_9.index (tt n h) 0 * 1024 + 1 * r.val = (oF n r).val; rw [h0, oF_val n h]; dsimp only; omega
  | ⟨1, _⟩ => show win0_9.index (tt n h) 1 * 2048 + 1 * l.val = 2048 * (n % 8) + l.val; rw [h1]; dsimp only; omega
theorem rd9 (G : S5120x16384.Idx → EReal) (n : ℕ) (h : n < 40) (r : Fin 1024) (l : Fin 2048) :
    ((cfg0.win 9).blk (tt n h)).view.read (Elt Ideal) G (ix2 r l) = G (ix2 (oF n r) (iF n l)) := by
  rw [View.read_apply]
  exact congrArg G (emb9 n h r l)
theorem emb10 (n : ℕ) (h : n < 40) (r : Fin 1024) (l : Fin 1024) :
    ((cfg0.win 10).blk (tt n h)).view.emb (ix2 r l) = (ix2 r (oF n l) : S1024x5120.Idx) := by
  obtain ⟨-, ⟨h0, h1⟩, -⟩ := idx_out (tt n h)
  funext a; apply Fin.ext
  match a with
  | ⟨0, _⟩ => show win0_10.index (tt n h) 0 * 1024 + 1 * r.val = r.val; rw [h0]; omega
  | ⟨1, _⟩ => show win0_10.index (tt n h) 1 * 1024 + 1 * l.val = (oF n l).val; rw [h1, oF_val n h]; dsimp only; omega
theorem rd10 (G : S1024x5120.Idx → EReal) (n : ℕ) (h : n < 40) (r : Fin 1024) (l : Fin 1024) :
    ((cfg0.win 10).blk (tt n h)).view.read (Elt Ideal) G (ix2 r l) = G (ix2 r (oF n l)) := by
  rw [View.read_apply]
  exact congrArg G (emb10 n h r l)
theorem emb11 (n : ℕ) (h : n < 40) (r : Fin 1056) (l : Fin 1024) :
    ((cfg0.win 11).blk (tt n h)).view.emb (ix2 r l) = (ix2 r (oF n l) : S1056x5120.Idx) := by
  obtain ⟨-, -, ⟨h0, h1⟩, -⟩ := idx_out (tt n h)
  funext a; apply Fin.ext
  match a with
  | ⟨0, _⟩ => show win0_11.index (tt n h) 0 * 1056 + 1 * r.val = r.val; rw [h0]; omega
  | ⟨1, _⟩ => show win0_11.index (tt n h) 1 * 1024 + 1 * l.val = (oF n l).val; rw [h1, oF_val n h]; dsimp only; omega
theorem rd11 (G : S1056x5120.Idx → EReal) (n : ℕ) (h : n < 40) (r : Fin 1056) (l : Fin 1024) :
    ((cfg0.win 11).blk (tt n h)).view.read (Elt Ideal) G (ix2 r l) = G (ix2 r (oF n l)) := by
  rw [View.read_apply]
  exact congrArg G (emb11 n h r l)
theorem emb12 (n : ℕ) (h : n < 40) (r : Fin 1) (l : Fin 1024) :
    ((cfg0.win 12).blk (tt n h)).view.emb (ix2 r l) = (ix2 r (oF n l) : S1x5120.Idx) := by
  obtain ⟨-, -, -, ⟨h0, h1⟩, -⟩ := idx_out (tt n h)
  funext a; apply Fin.ext
  match a with
  | ⟨0, _⟩ => show win0_12.index (tt n h) 0 * 1 + 1 * r.val = r.val; rw [h0]; omega
  | ⟨1, _⟩ => show win0_12.index (tt n h) 1 * 1024 + 1 * l.val = (oF n l).val; rw [h1, oF_val n h]; dsimp only; omega
theorem rd12 (G : S1x5120.Idx → EReal) (n : ℕ) (h : n < 40) (r : Fin 1) (l : Fin 1024) :
    ((cfg0.win 12).blk (tt n h)).view.read (Elt Ideal) G (ix2 r l) = G (ix2 r (oF n l)) := by
  rw [View.read_apply]
  exact congrArg G (emb12 n h r l)
theorem emb13 (n : ℕ) (h : n < 40) (r : Fin 1024) (l : Fin 32) :
    ((cfg0.win 13).blk (tt n h)).view.emb (ix2 r l) = (ix2 (oF n r) l : S5120x32.Idx) := by
  obtain ⟨-, -, -, -, ⟨h0, h1⟩, -⟩ := idx_out (tt n h)
  funext a; apply Fin.ext
  match a with
  | ⟨0, _⟩ => show win0_13.index (tt n h) 0 * 1024 + 1 * r.val = (oF n r).val; rw [h0, oF_val n h]; dsimp only; omega
  | ⟨1, _⟩ => show win0_13.index (tt n h) 1 * 32 + 1 * l.val = l.val; rw [h1]; omega
theorem rd13 (G : S5120x32.Idx → EReal) (n : ℕ) (h : n < 40) (r : Fin 1024) (l : Fin 32) :
    ((cfg0.win 13).blk (tt n h)).view.read (Elt Ideal) G (ix2 r l) = G (ix2 (oF n r) l) := by
  rw [View.read_apply]
  exact congrArg G (emb13 n h r l)
theorem emb14 (n : ℕ) (h : n < 40) (r : Fin 1024) (l : Fin 32) :
    ((cfg0.win 14).blk (tt n h)).view.emb (ix2 r l) = (ix2 r l : S1024x32.Idx) := by
  obtain ⟨-, -, -, -, -, ⟨h0, h1⟩, -⟩ := idx_out (tt n h)
  funext a; apply Fin.ext
  match a with
  | ⟨0, _⟩ => show win0_14.index (tt n h) 0 * 1024 + 1 * r.val = r.val; rw [h0]; omega
  | ⟨1, _⟩ => show win0_14.index (tt n h) 1 * 32 + 1 * l.val = l.val; rw [h1]; omega
theorem rd14 (G : S1024x32.Idx → EReal) (n : ℕ) (h : n < 40) (r : Fin 1024) (l : Fin 32) :
    ((cfg0.win 14).blk (tt n h)).view.read (Elt Ideal) G (ix2 r l) = G (ix2 r l) := by
  rw [View.read_apply]
  exact congrArg G (emb14 n h r l)
theorem emb15 (n : ℕ) (h : n < 40) (r : Fin 1024) (l : Fin 32) :
    ((cfg0.win 15).blk (tt n h)).view.emb (ix2 r l) = (ix2 r l : S1024x32.Idx) := by
  obtain ⟨-, -, -, -, -, -, ⟨h0, h1⟩, -⟩ := idx_out (tt n h)
  funext a; apply Fin.ext
  match a with
  | ⟨0, _⟩ => show win0_15.index (tt n h) 0 * 1024 + 1 * r.val = r.val; rw [h0]; omega
  | ⟨1, _⟩ => show win0_15.index (tt n h) 1 * 32 + 1 * l.val = l.val; rw [h1]; omega
theorem rd15 (G : S1024x32.Idx → EReal) (n : ℕ) (h : n < 40) (r : Fin 1024) (l : Fin 32) :
    ((cfg0.win 15).blk (tt n h)).view.read (Elt Ideal) G (ix2 r l) = G (ix2 r l) := by
  rw [View.read_apply]
  exact congrArg G (emb15 n h r l)
theorem emb16 (n : ℕ) (h : n < 40) (r : Fin 32) (l : Fin 1024) :
    ((cfg0.win 16).blk (tt n h)).view.emb (ix2 r l) = (ix2 r l : S32x1024.Idx) := by
  obtain ⟨-, -, -, -, -, -, -, h0, h1⟩ := idx_out (tt n h)
  funext a; apply Fin.ext
  match a with
  | ⟨0, _⟩ => show win0_16.index (tt n h) 0 * 32 + 1 * r.val = r.val; rw [h0]; omega
  | ⟨1, _⟩ => show win0_16.index (tt n h) 1 * 1024 + 1 * l.val = l.val; rw [h1]; omega
theorem rd16 (G : S32x1024.Idx → EReal) (n : ℕ) (h : n < 40) (r : Fin 32) (l : Fin 1024) :
    ((cfg0.win 16).blk (tt n h)).view.read (Elt Ideal) G (ix2 r l) = G (ix2 r l) := by
  rw [View.read_apply]
  exact congrArg G (emb16 n h r l)

/-! ## What is written back -/

/-- The transposed factor of the adapter. -/
theorem bt_at (k : Fin 32) (o : Fin 5120) : (V m c main_v3 : Vec Ideal S32x5120 .bf16) (ix2 k o) = (KIn m c).B o k := by
  have e : V m c main_v3 = transpose S32x5120 [1, 0] (V m c main_arg4 : Vec Ideal S5120x32 .bf16) transposes_S5120x32_S32x5120_1_0 := by
    rw [V_main_arg4]
    show StableHlo.after hostOps0 _ (Proc.devRef .tc main_v3) = _
    after_results
  rw [e]
  show _ = (V m c main_arg4 : Vec Ideal S5120x32 .bf16) (ix2 o k)
  generalize (V m c main_arg4 : Vec Ideal S5120x32 .bf16) = b
  pointwise

theorem flush9 (n : ℕ) (h : n < 40) :
    (dats m 0 c).flushed 9 (tt n h) = ((cfg0.win 9).blk (tt n h)).view.read (Elt Ideal) (KIn m c).rV := by
  show (cfg0.win 9).cut (grid0.coords (tt n h)) ((dats m 0 c).after 9 (tt n h)) = _
  rw [after0_9]
  funext j
  obtain ⟨r, l, rfl⟩ : ∃ (r : Fin 1024) (l : Fin 2048), j = ix2 r l := ⟨j 0, j 1, eq_ix2 j⟩
  refine Eq.trans ?_ (rd9 (KIn m c).rV n h r l).symm
  show (outV m c (tt n h)) (ix2 r l) = _
  unfold outV
  exact (mainV_apply _ _ _ _ _ r l).trans (vB_at m c n h r l)
theorem flush10 (n : ℕ) (h : n < 40) (e : n % 8 = 7) :
    (dats m 0 c).flushed 10 (tt n h) = ((cfg0.win 10).blk (tt n h)).view.read (Elt Ideal) (KIn m c).rZ := by
  show (cfg0.win 10).cut (grid0.coords (tt n h)) ((dats m 0 c).after 10 (tt n h)) = _
  rw [after0_10]
  funext j
  obtain ⟨r, l, rfl⟩ : ∃ (r : Fin 1024) (l : Fin 1024), j = ix2 r l := ⟨j 0, j 1, eq_ix2 j⟩
  refine Eq.trans ?_ (rd10 (KIn m c).rZ n h r l).symm
  show (outZ m c (tt n h)) (ix2 r l) = _
  unfold outZ
  exact (endZ_apply _ _ r l).trans (ZZ_top m c n h e r l)
theorem flush11 (n : ℕ) (h : n < 40) (e : n % 8 = 7) :
    (dats m 0 c).flushed 11 (tt n h) = ((cfg0.win 11).blk (tt n h)).view.read (Elt Ideal) (KIn m c).rG := by
  show (cfg0.win 11).cut (grid0.coords (tt n h)) ((dats m 0 c).after 11 (tt n h)) = _
  rw [after0_11]
  funext j
  obtain ⟨r, l, rfl⟩ : ∃ (r : Fin 1056) (l : Fin 1024), j = ix2 r l := ⟨j 0, j 1, eq_ix2 j⟩
  refine Eq.trans ?_ (rd11 (KIn m c).rG n h r l).symm
  show (outG m c (tt n h)) (ix2 r l) = _
  unfold outG
  rcases In.row_cases r with ⟨t, rfl⟩ | ⟨k, rfl⟩
  · exact ((endG_top _ _ _ _ _ _ _ t l).trans (eG_at m c n h e t l)).trans (In.rG_top _ t (oF n l)).symm
  · refine ((endG_bot _ _ _ _ _ _ _ k l).trans ?_).trans (In.rG_bot _ k (oF n l)).symm
    rw [eK_at m c n h e, iblk5]
    exact congrArg (fun u => u * (KIn m c).k (oF n l)) (bt_at m c k (oF n l))
theorem flush12 (n : ℕ) (h : n < 40) (e : n % 8 = 7) :
    (dats m 0 c).flushed 12 (tt n h) = ((cfg0.win 12).blk (tt n h)).view.read (Elt Ideal) (KIn m c).rD := by
  show (cfg0.win 12).cut (grid0.coords (tt n h)) ((dats m 0 c).after 12 (tt n h)) = _
  rw [after0_12]
  funext j
  obtain ⟨r, l, rfl⟩ : ∃ (r : Fin 1) (l : Fin 1024), j = ix2 r l := ⟨j 0, j 1, eq_ix2 j⟩
  refine Eq.trans ?_ (rd12 (KIn m c).rD n h r l).symm
  obtain rfl : r = 0 := Subsingleton.elim _ _
  show (outD m c (tt n h)) (ix2 0 l) = _
  unfold outD
  exact (endD_apply _ _ _ _ _ l).trans (eD_at m c n h e l)
theorem flush13 (n : ℕ) (h : n < 40) (e : n % 8 = 7) :
    (dats m 0 c).flushed 13 (tt n h) = ((cfg0.win 13).blk (tt n h)).view.read (Elt Ideal) (KIn m c).rL := by
  show (cfg0.win 13).cut (grid0.coords (tt n h)) ((dats m 0 c).after 13 (tt n h)) = _
  rw [after0_13]
  funext j
  obtain ⟨r, l, rfl⟩ : ∃ (r : Fin 1024) (l : Fin 32), j = ix2 r l := ⟨j 0, j 1, eq_ix2 j⟩
  refine Eq.trans ?_ (rd13 (KIn m c).rL n h r l).symm
  show (outL m c (tt n h)) (ix2 r l) = _
  unfold outL
  refine (endL_apply _ _ _ _ _ _ _ r l).trans ?_
  rw [eK_at m c n h e, ZZ_bot m c n h e]
  show _ = (KIn m c).dl (oF n r) l
  unfold In.dl
  refine congrArg (fun u => u - (KIn m c).k (oF n r) * (KIn m c).va l (oF n r)) (Finset.sum_congr rfl fun t _ => ?_)
  rw [eG_at m c n h e, XT_end m c n (by omega) h]
theorem flush14 (n : ℕ) (h : n < 40) (e : n % 40 = 39) :
    (dats m 0 c).flushed 14 (tt n h) = ((cfg0.win 14).blk (tt n h)).view.read (Elt Ideal) (KIn m c).rX := by
  show (cfg0.win 14).cut (grid0.coords (tt n h)) ((dats m 0 c).after 14 (tt n h)) = _
  rw [after0_14]
  funext j
  obtain ⟨r, l, rfl⟩ : ∃ (r : Fin 1024) (l : Fin 32), j = ix2 r l := ⟨j 0, j 1, eq_ix2 j⟩
  refine Eq.trans ?_ (rd14 (KIn m c).rX n h r l).symm
  show (outX m c) (ix2 r l) = _
  unfold outX
  exact (pay205_apply _ r l).trans (XA_end m c r l)
theorem flush15 (n : ℕ) (h : n < 40) (e : n % 40 = 39) :
    (dats m 0 c).flushed 15 (tt n h) = ((cfg0.win 15).blk (tt n h)).view.read (Elt Ideal) (KIn m c).rB := by
  show (cfg0.win 15).cut (grid0.coords (tt n h)) ((dats m 0 c).after 15 (tt n h)) = _
  rw [after0_15]
  funext j
  obtain ⟨r, l, rfl⟩ : ∃ (r : Fin 1024) (l : Fin 32), j = ix2 r l := ⟨j 0, j 1, eq_ix2 j⟩
  refine Eq.trans ?_ (rd15 (KIn m c).rB n h r l).symm
  obtain rfl : n = 39 := by omega
  show (outB m c (tt 39 h)) (ix2 r l) = _
  unfold outB
  exact (pay1_apply _ r l).trans (GB_end m c r l)
theorem flush16 (n : ℕ) (h : n < 40) (e : n % 40 = 39) :
    (dats m 0 c).flushed 16 (tt n h) = ((cfg0.win 16).blk (tt n h)).view.read (Elt Ideal) (KIn m c).rT := by
  show (cfg0.win 16).cut (grid0.coords (tt n h)) ((dats m 0 c).after 16 (tt n h)) = _
  rw [after0_16]
  funext j
  obtain ⟨r, l, rfl⟩ : ∃ (r : Fin 32) (l : Fin 1024), j = ix2 r l := ⟨j 0, j 1, eq_ix2 j⟩
  refine Eq.trans ?_ (rd16 (KIn m c).rT n h r l).symm
  obtain rfl : n = 39 := by omega
  show (outT m c (tt 39 h)) (ix2 r l) = _
  unfold outT
  exact (pay2_apply _ l r).trans (GB_end m c l r)

/-! ## The arrays after the run -/

theorem final9 : (dats m 0 c).arrAt 9 cfg0.N = (KIn m c).rV :=
  (dats m 0 c).arrAt_eq_of_cover 9 (KIn m c).rV (fun t hf => flush9 m c t.val (lt40 t)) fun i => by
    have hi0 : (i 0).val < 5120 := (i 0).isLt
    have hi1 : (i 1).val < 16384 := (i 1).isLt
    have hn : (i 0).val / 1024 * 8 + (i 1).val / 2048 < 40 := by omega
    obtain ⟨⟨h0, h1⟩, -⟩ := idx_out (tt ((i 0).val / 1024 * 8 + (i 1).val / 2048) hn)
    refine ⟨tt ((i 0).val / 1024 * 8 + (i 1).val / 2048) hn, flush0_9 _, ?_⟩
    show i ∈ ((View.whole main_v6_0).slice (win0_9.rect (tt ((i 0).val / 1024 * 8 + (i 1).val / 2048) hn))).set
    rw [View.set_slice_whole, Rect.mem_set_unit]
    intro a
    match a with
    | ⟨0, _⟩ => show win0_9.index (tt ((i 0).val / 1024 * 8 + (i 1).val / 2048) hn) 0 * 1024 ≤ (i 0).val ∧ (i 0).val < win0_9.index (tt ((i 0).val / 1024 * 8 + (i 1).val / 2048) hn) 0 * 1024 + 1024; rw [h0]; dsimp only; omega
    | ⟨1, _⟩ => show win0_9.index (tt ((i 0).val / 1024 * 8 + (i 1).val / 2048) hn) 1 * 2048 ≤ (i 1).val ∧ (i 1).val < win0_9.index (tt ((i 0).val / 1024 * 8 + (i 1).val / 2048) hn) 1 * 2048 + 2048; rw [h1]; dsimp only; omega
theorem final10 : (dats m 0 c).arrAt 10 cfg0.N = (KIn m c).rZ :=
  (dats m 0 c).arrAt_eq_of_cover 10 (KIn m c).rZ (fun t hf => flush10 m c t.val (lt40 t) ((flush0_10 t).mp hf)) fun i => by
    have hi0 : (i 0).val < 1024 := (i 0).isLt
    have hi1 : (i 1).val < 5120 := (i 1).isLt
    have hn : (i 1).val / 1024 * 8 + 7 < 40 := by omega
    obtain ⟨-, ⟨h0, h1⟩, -⟩ := idx_out (tt ((i 1).val / 1024 * 8 + 7) hn)
    refine ⟨tt ((i 1).val / 1024 * 8 + 7) hn, (flush0_10 _).mpr (by show ((i 1).val / 1024 * 8 + 7) % 8 = 7; omega), ?_⟩
    show i ∈ ((View.whole main_v6_1).slice (win0_10.rect (tt ((i 1).val / 1024 * 8 + 7) hn))).set
    rw [View.set_slice_whole, Rect.mem_set_unit]
    intro a
    match a with
    | ⟨0, _⟩ => show win0_10.index (tt ((i 1).val / 1024 * 8 + 7) hn) 0 * 1024 ≤ (i 0).val ∧ (i 0).val < win0_10.index (tt ((i 1).val / 1024 * 8 + 7) hn) 0 * 1024 + 1024; rw [h0]; dsimp only; omega
    | ⟨1, _⟩ => show win0_10.index (tt ((i 1).val / 1024 * 8 + 7) hn) 1 * 1024 ≤ (i 1).val ∧ (i 1).val < win0_10.index (tt ((i 1).val / 1024 * 8 + 7) hn) 1 * 1024 + 1024; rw [h1]; dsimp only; omega
theorem final11 : (dats m 0 c).arrAt 11 cfg0.N = (KIn m c).rG :=
  (dats m 0 c).arrAt_eq_of_cover 11 (KIn m c).rG (fun t hf => flush11 m c t.val (lt40 t) ((flush0_11 t).mp hf)) fun i => by
    have hi0 : (i 0).val < 1056 := (i 0).isLt
    have hi1 : (i 1).val < 5120 := (i 1).isLt
    have hn : (i 1).val / 1024 * 8 + 7 < 40 := by omega
    obtain ⟨-, -, ⟨h0, h1⟩, -⟩ := idx_out (tt ((i 1).val / 1024 * 8 + 7) hn)
    refine ⟨tt ((i 1).val / 1024 * 8 + 7) hn, (flush0_11 _).mpr (by show ((i 1).val / 1024 * 8 + 7) % 8 = 7; omega), ?_⟩
    show i ∈ ((View.whole main_v6_2).slice (win0_11.rect (tt ((i 1).val / 1024 * 8 + 7) hn))).set
    rw [View.set_slice_whole, Rect.mem_set_unit]
    intro a
    match a with
    | ⟨0, _⟩ => show win0_11.index (tt ((i 1).val / 1024 * 8 + 7) hn) 0 * 1056 ≤ (i 0).val ∧ (i 0).val < win0_11.index (tt ((i 1).val / 1024 * 8 + 7) hn) 0 * 1056 + 1056; rw [h0]; dsimp only; omega
    | ⟨1, _⟩ => show win0_11.index (tt ((i 1).val / 1024 * 8 + 7) hn) 1 * 1024 ≤ (i 1).val ∧ (i 1).val < win0_11.index (tt ((i 1).val / 1024 * 8 + 7) hn) 1 * 1024 + 1024; rw [h1]; dsimp only; omega
theorem final12 : (dats m 0 c).arrAt 12 cfg0.N = (KIn m c).rD :=
  (dats m 0 c).arrAt_eq_of_cover 12 (KIn m c).rD (fun t hf => flush12 m c t.val (lt40 t) ((flush0_12 t).mp hf)) fun i => by
    have hi0 : (i 0).val < 1 := (i 0).isLt
    have hi1 : (i 1).val < 5120 := (i 1).isLt
    have hn : (i 1).val / 1024 * 8 + 7 < 40 := by omega
    obtain ⟨-, -, -, ⟨h0, h1⟩, -⟩ := idx_out (tt ((i 1).val / 1024 * 8 + 7) hn)
    refine ⟨tt ((i 1).val / 1024 * 8 + 7) hn, (flush0_12 _).mpr (by show ((i 1).val / 1024 * 8 + 7) % 8 = 7; omega), ?_⟩
    show i ∈ ((View.whole main_v6_3).slice (win0_12.rect (tt ((i 1).val / 1024 * 8 + 7) hn))).set
    rw [View.set_slice_whole, Rect.mem_set_unit]
    intro a
    match a with
    | ⟨0, _⟩ => show win0_12.index (tt ((i 1).val / 1024 * 8 + 7) hn) 0 * 1 ≤ (i 0).val ∧ (i 0).val < win0_12.index (tt ((i 1).val / 1024 * 8 + 7) hn) 0 * 1 + 1; rw [h0]; dsimp only; omega
    | ⟨1, _⟩ => show win0_12.index (tt ((i 1).val / 1024 * 8 + 7) hn) 1 * 1024 ≤ (i 1).val ∧ (i 1).val < win0_12.index (tt ((i 1).val / 1024 * 8 + 7) hn) 1 * 1024 + 1024; rw [h1]; dsimp only; omega
theorem final13 : (dats m 0 c).arrAt 13 cfg0.N = (KIn m c).rL :=
  (dats m 0 c).arrAt_eq_of_cover 13 (KIn m c).rL (fun t hf => flush13 m c t.val (lt40 t) ((flush0_13 t).mp hf)) fun i => by
    have hi0 : (i 0).val < 5120 := (i 0).isLt
    have hi1 : (i 1).val < 32 := (i 1).isLt
    have hn : (i 0).val / 1024 * 8 + 7 < 40 := by omega
    obtain ⟨-, -, -, -, ⟨h0, h1⟩, -⟩ := idx_out (tt ((i 0).val / 1024 * 8 + 7) hn)
    refine ⟨tt ((i 0).val / 1024 * 8 + 7) hn, (flush0_13 _).mpr (by show ((i 0).val / 1024 * 8 + 7) % 8 = 7; omega), ?_⟩
    show i ∈ ((View.whole main_v6_4).slice (win0_13.rect (tt ((i 0).val / 1024 * 8 + 7) hn))).set
    rw [View.set_slice_whole, Rect.mem_set_unit]
    intro a
    match a with
    | ⟨0, _⟩ => show win0_13.index (tt ((i 0).val / 1024 * 8 + 7) hn) 0 * 1024 ≤ (i 0).val ∧ (i 0).val < win0_13.index (tt ((i 0).val / 1024 * 8 + 7) hn) 0 * 1024 + 1024; rw [h0]; dsimp only; omega
    | ⟨1, _⟩ => show win0_13.index (tt ((i 0).val / 1024 * 8 + 7) hn) 1 * 32 ≤ (i 1).val ∧ (i 1).val < win0_13.index (tt ((i 0).val / 1024 * 8 + 7) hn) 1 * 32 + 32; rw [h1]; dsimp only; omega
theorem final14 : (dats m 0 c).arrAt 14 cfg0.N = (KIn m c).rX :=
  (dats m 0 c).arrAt_eq_of_cover 14 (KIn m c).rX (fun t hf => flush14 m c t.val (lt40 t) ((flush0_14 t).mp hf)) fun i => by
    have hi0 : (i 0).val < 1024 := (i 0).isLt
    have hi1 : (i 1).val < 32 := (i 1).isLt
    have hn : 39 < 40 := by omega
    obtain ⟨-, -, -, -, -, ⟨h0, h1⟩, -⟩ := idx_out (tt (39) hn)
    refine ⟨tt (39) hn, (flush0_14 _).mpr (by show (39) % 40 = 39; omega), ?_⟩
    show i ∈ ((View.whole main_v6_5).slice (win0_14.rect (tt (39) hn))).set
    rw [View.set_slice_whole, Rect.mem_set_unit]
    intro a
    match a with
    | ⟨0, _⟩ => show win0_14.index (tt (39) hn) 0 * 1024 ≤ (i 0).val ∧ (i 0).val < win0_14.index (tt (39) hn) 0 * 1024 + 1024; rw [h0]; dsimp only; omega
    | ⟨1, _⟩ => show win0_14.index (tt (39) hn) 1 * 32 ≤ (i 1).val ∧ (i 1).val < win0_14.index (tt (39) hn) 1 * 32 + 32; rw [h1]; dsimp only; omega
theorem final15 : (dats m 0 c).arrAt 15 cfg0.N = (KIn m c).rB :=
  (dats m 0 c).arrAt_eq_of_cover 15 (KIn m c).rB (fun t hf => flush15 m c t.val (lt40 t) ((flush0_15 t).mp hf)) fun i => by
    have hi0 : (i 0).val < 1024 := (i 0).isLt
    have hi1 : (i 1).val < 32 := (i 1).isLt
    have hn : 39 < 40 := by omega
    obtain ⟨-, -, -, -, -, -, ⟨h0, h1⟩, -⟩ := idx_out (tt (39) hn)
    refine ⟨tt (39) hn, (flush0_15 _).mpr (by show (39) % 40 = 39; omega), ?_⟩
    show i ∈ ((View.whole main_v6_6).slice (win0_15.rect (tt (39) hn))).set
    rw [View.set_slice_whole, Rect.mem_set_unit]
    intro a
    match a with
    | ⟨0, _⟩ => show win0_15.index (tt (39) hn) 0 * 1024 ≤ (i 0).val ∧ (i 0).val < win0_15.index (tt (39) hn) 0 * 1024 + 1024; rw [h0]; dsimp only; omega
    | ⟨1, _⟩ => show win0_15.index (tt (39) hn) 1 * 32 ≤ (i 1).val ∧ (i 1).val < win0_15.index (tt (39) hn) 1 * 32 + 32; rw [h1]; dsimp only; omega
theorem final16 : (dats m 0 c).arrAt 16 cfg0.N = (KIn m c).rT :=
  (dats m 0 c).arrAt_eq_of_cover 16 (KIn m c).rT (fun t hf => flush16 m c t.val (lt40 t) ((flush0_16 t).mp hf)) fun i => by
    have hi0 : (i 0).val < 32 := (i 0).isLt
    have hi1 : (i 1).val < 1024 := (i 1).isLt
    have hn : 39 < 40 := by omega
    obtain ⟨-, -, -, -, -, -, -, h0, h1⟩ := idx_out (tt (39) hn)
    refine ⟨tt (39) hn, (flush0_16 _).mpr (by show (39) % 40 = 39; omega), ?_⟩
    show i ∈ ((View.whole main_v6_7).slice (win0_16.rect (tt (39) hn))).set
    rw [View.set_slice_whole, Rect.mem_set_unit]
    intro a
    match a with
    | ⟨0, _⟩ => show win0_16.index (tt (39) hn) 0 * 32 ≤ (i 0).val ∧ (i 0).val < win0_16.index (tt (39) hn) 0 * 32 + 32; rw [h0]; dsimp only; omega
    | ⟨1, _⟩ => show win0_16.index (tt (39) hn) 1 * 1024 ≤ (i 1).val ∧ (i 1).val < win0_16.index (tt (39) hn) 1 * 1024 + 1024; rw [h1]; dsimp only; omega

/-- The run leaves the eight results at these functions of the arguments. -/
theorem run_value (ρ : Dev nD → PrngReg) : θ_run defs (onTc (τ := τ) (Cert.FwdIdeal.main (F := Ideal))) ⟨m, fun _ => 0, ρ⟩ (fun r => ∀ c : Dev nD,
      r.2.mem ((c.tc : Thread nD τ).loc main_v6_0) = (KIn m c).rV
      ∧ r.2.mem ((c.tc : Thread nD τ).loc main_v6_1) = (KIn m c).rZ
      ∧ r.2.mem ((c.tc : Thread nD τ).loc main_v6_2) = (KIn m c).rG
      ∧ r.2.mem ((c.tc : Thread nD τ).loc main_v6_3) = (KIn m c).rD
      ∧ r.2.mem ((c.tc : Thread nD τ).loc main_v6_4) = (KIn m c).rL
      ∧ r.2.mem ((c.tc : Thread nD τ).loc main_v6_5) = (KIn m c).rX
      ∧ r.2.mem ((c.tc : Thread nD τ).loc main_v6_6) = (KIn m c).rB
      ∧ r.2.mem ((c.tc : Thread nD τ).loc main_v6_7) = (KIn m c).rT) :=
  (θ_run defs _ _).mono (fun _ h c => ⟨((h c).1 9).trans (final9 m c), ((h c).1 10).trans (final10 m c), ((h c).1 11).trans (final11 m c),
    ((h c).1 12).trans (final12 m c), ((h c).1 13).trans (final13 m c), ((h c).1 14).trans (final14 m c), ((h c).1 15).trans (final15 m c),
    ((h c).1 16).trans (final16 m c)⟩) (run_main m ρ)

end Cert.FwdIdeal.Front

end
-- ==== Proof.Front.RefVal.lean ====
/-
  Hand-written, untrusted. WHAT THE FIRST CALL'S REFERENCE COMPUTES over the extended reals: each of its eight results is the function
  `Spec.lean` states of its arguments.
-/
module

public import proofs.«01_k».proof.Defs
public import proofs.«01_k».proof.Proof.Gen.RefFwdIdeal.Value
public import proofs.«01_k».proof.Proof.Front.Spec
public import Idealize.ShloMosaic.Lib.Pointwise

@[expose] public section

set_option maxRecDepth 16384

noncomputable section

namespace Cert.RefFwdIdeal.Front

open Cert.RefFwdIdeal Cert.RefFwdIdeal.Gen Idealize.ShloMosaic Idealize.ShloMosaic.TcCoe Idealize.SL.Sem
open Cert.FwdIdeal.Front (In nrm)

theorem hz : (![0, 0] : Fin 2 → Nat) = fun _ => 0 := funext fun a => by fin_cases a <;> rfl

/-- A load of a whole buffer reads it. -/
theorem ld0 (x : Vec Ideal S1024x16384 .bf16) : View.ld x r0_0 = x := View.ld_unit_zero (S := S1024x16384) hz _ _
theorem ld4 (x : Vec Ideal S5120x16384 .fp8e4m3) : View.ld x r0_4 = x := View.ld_unit_zero (S := S5120x16384) hz _ _
theorem ld5 (x : Vec Ideal S5120x1 .f32) : View.ld x r0_5 = x := View.ld_unit_zero (S := S5120x1) hz _ _
theorem ld1 (x : Vec Ideal S32x16384 .bf16) : View.ld x r0_1 = x := View.ld_unit_zero (S := S32x16384) hz _ _
theorem ld2 (x : Vec Ideal S5120x32 .bf16) : View.ld x r0_2 = x := View.ld_unit_zero (S := S5120x32) hz _ _
theorem ld3 (x : Vec Ideal S1x5120 .f32) : View.ld x r0_3 = x := View.ld_unit_zero (S := S1x5120) hz _ _
theorem ld6 (x : Vec Ideal S1024x5120 .fp8e5m2) : View.ld x r0_6 = x := View.ld_unit_zero (S := S1024x5120) hz _ _
theorem ld7 (x : Vec Ideal S1024x1 .f32) : View.ld x r0_7 = x := View.ld_unit_zero (S := S1024x1) hz _ _

/-! ## The body's terms at an index -/

section Body
variable (x : Vec Ideal S1024x16384 .bf16) (w : Vec Ideal S5120x16384 .fp8e4m3) (s : Vec Ideal S5120x1 .f32) (a : Vec Ideal S32x16384 .bf16)
  (b : Vec Ideal S5120x32 .bf16) (m : Vec Ideal S1x5120 .f32) (dy : Vec Ideal S1024x5120 .fp8e5m2) (d : Vec Ideal S1024x1 .f32)

/-- The arguments at plain indices. -/
def RIn : In where
  X t i := x (ix2 t i)
  W o i := w (ix2 o i)
  S o := s (ix2 o 0)
  A j i := a (ix2 j i)
  B o j := b (ix2 o j)
  M o := m (ix2 0 o)
  Y t o := dy (ix2 t o)
  D t := d (ix2 t 0)

theorem p1 : k0_pay1 x = x := shapeCast_self x _
theorem p2 : k0_pay2 m = m := shapeCast_self m _

theorem p3 (o : Fin 5120) (i : Fin 16384) : k0_pay3 a b w s (ix2 o i) = (RIn x w s a b m dy d).v o i := by
  pointwise! [k0_pay3, In.v, RIn]

theorem p5 (o : Fin 5120) (i : Fin 16384) : k0_pay5 a b w s (ix2 o i) = (RIn x w s a b m dy d).v o i := by
  rw [← p3]
  pointwise! [k0_pay5]

theorem p4' (o : Fin 5120) : k0_pay4 a b w s (ix2 0 o) = nrm (∑ i : Fin 16384, k0_pay3 a b w s (ix2 o i) * k0_pay3 a b w s (ix2 o i)) := by
  pointwise! [k0_pay4, nrm]

theorem p4 (o : Fin 5120) : k0_pay4 a b w s (ix2 0 o) = (RIn x w s a b m dy d).n o := by
  rw [p4']
  exact congrArg nrm (Finset.sum_congr rfl fun i _ => by rw [p3 x w s a b m dy d])

theorem p6' (t : Fin 1024) (o : Fin 5120) : k0_pay6 x a b w s (ix2 t o) = ∑ i : Fin 16384, k0_pay1 x (ix2 t i) * k0_pay5 a b w s (ix2 o i) := by
  pointwise! [k0_pay6]

theorem p6 (t : Fin 1024) (o : Fin 5120) : k0_pay6 x a b w s (ix2 t o) = (RIn x w s a b m dy d).z t o := by
  rw [p6', p1]
  exact Finset.sum_congr rfl fun i _ => by rw [p5 x w s a b m dy d]; rfl

theorem p7 (t : Fin 1024) (o : Fin 5120) : k0_pay7 dy d (ix2 t o) = (RIn x w s a b m dy d).y t o := by
  pointwise! [k0_pay7, In.y, RIn]

theorem p8' (o : Fin 5120) : k0_pay8 x a b w s dy d (ix2 0 o)
    = Ideal.div (∑ t : Fin 1024, k0_pay7 dy d (ix2 t o) * k0_pay6 x a b w s (ix2 t o)) (k0_pay4 a b w s (ix2 0 o)) := by
  pointwise! [k0_pay8]

theorem p8 (o : Fin 5120) : k0_pay8 x a b w s dy d (ix2 0 o) = (RIn x w s a b m dy d).dm o := by
  rw [p8', p4 x w s a b m dy d]
  unfold In.dm
  exact congrArg (fun u => Ideal.div u ((RIn x w s a b m dy d).n o)) (Finset.sum_congr rfl fun t _ => congrArg₂ (· * ·) (p7 x w s a b m dy d t o) (p6 x w s a b m dy d t o))

theorem p9' (t : Fin 1024) (o : Fin 5120) : k0_pay9 a b m w s (ix2 t o) = Ideal.div (k0_pay2 m (ix2 0 o)) (k0_pay4 a b w s (ix2 0 o)) := by
  pointwise! [k0_pay9]

theorem p10' (u v : FVec Ideal S1024x5120 .f32) (t : Fin 1024) (o : Fin 5120) : k0_pay10 u v (ix2 t o) = u (ix2 t o) * v (ix2 t o) := by
  pointwise! [k0_pay10]

/-- The gradient times `M / n`. -/
theorem p10 (t : Fin 1024) (o : Fin 5120) : k0_pay10 (k0_pay7 dy d) (k0_pay9 a b m w s) (ix2 t o) = (RIn x w s a b m dy d).g t o := by
  rw [p10', p9', p2, p4 x w s a b m dy d, p7 x w s a b m dy d]; rfl

theorem p11 (t : Fin 1024) (j : Fin 32) : k0_pay11 x a (ix2 t j) = (RIn x w s a b m dy d).xa t j := by
  pointwise! [k0_pay11, In.xa, RIn]

theorem p12' (u v : FVec Ideal S1024x5120 .f32) (t : Fin 1024) (j : Fin 32) : k0_pay12 b u v (ix2 t j) = ∑ o : Fin 5120, k0_pay10 u v (ix2 t o) * b (ix2 o j) := by
  pointwise! [k0_pay12]

theorem p12 (t : Fin 1024) (j : Fin 32) : k0_pay12 b (k0_pay7 dy d) (k0_pay9 a b m w s) (ix2 t j) = (RIn x w s a b m dy d).gb t j := by
  rw [p12']
  exact Finset.sum_congr rfl fun o _ => by rw [p10 x w s a b m dy d]; rfl

theorem p17 (t : Fin 1024) (j : Fin 32) : k0_pay17 b (k0_pay7 dy d) (k0_pay9 a b m w s) (ix2 j t) = (RIn x w s a b m dy d).gb t j := by
  rw [← p12]
  pointwise! [k0_pay17]

theorem p13' (m n k : FVec Ideal S1x5120 .f32) (o : Fin 5120) : k0_pay13 m n k (ix2 0 o) = Ideal.div (m (ix2 0 o) * k (ix2 0 o)) (n (ix2 0 o) * n (ix2 0 o)) := by
  pointwise! [k0_pay13]

theorem p13 (o : Fin 5120) : k0_pay13 m (k0_pay4 a b w s) (k0_pay8 x a b w s dy d) (ix2 0 o) = (RIn x w s a b m dy d).k o := by
  rw [p13', p4 x w s a b m dy d, p8 x w s a b m dy d]; rfl

theorem p14' (n k : FVec Ideal S1x5120 .f32) (vv : FVec Ideal S5120x16384 .bf16) (u v : FVec Ideal S1024x5120 .f32) (o : Fin 5120) (j : Fin 32) :
    k0_pay14 x a m n vv u k v (ix2 o j) = (∑ t : Fin 1024, k0_pay10 u v (ix2 t o) * k0_pay11 x a (ix2 t j))
      - k0_pay13 m n k (ix2 0 o) * ∑ i : Fin 16384, vv (ix2 o i) * a (ix2 j i) := by
  pointwise! [k0_pay14]

theorem p14 (o : Fin 5120) (j : Fin 32) :
    k0_pay14 x a m (k0_pay4 a b w s) (k0_pay5 a b w s) (k0_pay7 dy d) (k0_pay8 x a b w s dy d) (k0_pay9 a b m w s) (ix2 o j) = (RIn x w s a b m dy d).dl o j := by
  rw [p14', p13]
  unfold In.dl
  refine congrArg₂ (· - ·) (Finset.sum_congr rfl fun t _ => ?_) (congrArg _ (Finset.sum_congr rfl fun i _ => ?_))
  · rw [p10 x w s a b m dy d, p11 x w s a b m dy d, mul_comm]
  · rw [p5 x w s a b m dy d, mul_comm]; rfl

theorem p15 (u : FVec Ideal S1024x5120 .f32) (j : S1024x5120.Idx) : k0_pay15 u j = u j := by
  pointwise! [k0_pay15]

theorem p16_top (n k : FVec Ideal S1x5120 .f32) (u v : FVec Ideal S1024x5120 .f32) (t : Fin 1024) (o : Fin 5120) :
    k0_pay16 b m n u k v (ix2 ⟨t.val, by omega⟩ o) = k0_pay10 u v (ix2 t o) := by
  pointwise! [k0_pay16]

theorem p16_bot (n k : FVec Ideal S1x5120 .f32) (u v : FVec Ideal S1024x5120 .f32) (j : Fin 32) (o : Fin 5120) :
    k0_pay16 b m n u k v (ix2 ⟨1024 + j.val, by omega⟩ o) = b (ix2 o j) * k0_pay13 m n k (ix2 0 o) := by
  pointwise! [k0_pay16]

/-! ## The eight results -/

theorem o8 : out0_8 (F := Ideal) x w s a b m dy d = (RIn x w s a b m dy d).rV := by
  unfold out0_8 k0_pay21
  rw [View.canon_unit_zero hz]
  simp only [ld0, ld1, ld2, ld3, ld4, ld5, ld6, ld7]
  funext j
  obtain ⟨r, l, rfl⟩ : ∃ (r : Fin 5120) (l : Fin 16384), j = ix2 r l := ⟨j 0, j 1, eq_ix2 j⟩
  exact p5 x w s a b m dy d r l

theorem o9 : out0_9 (F := Ideal) x w s a b m dy d = (RIn x w s a b m dy d).rZ := by
  unfold out0_9
  rw [View.canon_unit_zero hz]
  simp only [ld0, ld1, ld2, ld3, ld4, ld5, ld6, ld7]
  funext j
  obtain ⟨r, l, rfl⟩ : ∃ (r : Fin 1024) (l : Fin 5120), j = ix2 r l := ⟨j 0, j 1, eq_ix2 j⟩
  exact (p15 _ _).trans (p6 x w s a b m dy d r l)

theorem o10 : out0_10 (F := Ideal) x w s a b m dy d = (RIn x w s a b m dy d).rG := by
  unfold out0_10 k0_pay24 k0_pay23 k0_pay22 k0_pay20 k0_pay19
  rw [View.canon_unit_zero hz]
  simp only [ld0, ld1, ld2, ld3, ld4, ld5, ld6, ld7]
  funext j
  obtain ⟨r, l, rfl⟩ : ∃ (r : Fin 1056) (l : Fin 5120), j = ix2 r l := ⟨j 0, j 1, eq_ix2 j⟩
  rw [p2]
  rcases In.row_cases r with ⟨t, rfl⟩ | ⟨k, rfl⟩
  · exact ((p16_top b m _ _ _ _ t l).trans (p10 x w s a b m dy d t l)).trans (In.rG_top _ t l).symm
  · refine ((p16_bot b m _ _ _ _ k l).trans ?_).trans (In.rG_bot _ k l).symm
    rw [p13]; rfl

theorem o11 : out0_11 (F := Ideal) x w s a b m dy d = (RIn x w s a b m dy d).rD := by
  unfold out0_11 k0_pay23
  rw [View.canon_unit_zero hz]
  simp only [ld0, ld1, ld2, ld3, ld4, ld5, ld6, ld7]
  funext j
  obtain ⟨r, l, rfl⟩ : ∃ (r : Fin 1) (l : Fin 5120), j = ix2 r l := ⟨j 0, j 1, eq_ix2 j⟩
  obtain rfl : r = 0 := Subsingleton.elim _ _
  exact p8 x w s a b m dy d l

theorem o12 : out0_12 (F := Ideal) x w s a b m dy d = (RIn x w s a b m dy d).rL := by
  unfold out0_12 k0_pay24 k0_pay23 k0_pay22 k0_pay21 k0_pay20 k0_pay19 k0_pay18
  rw [View.canon_unit_zero hz]
  simp only [ld0, ld1, ld2, ld3, ld4, ld5, ld6, ld7]
  funext j
  obtain ⟨r, l, rfl⟩ : ∃ (r : Fin 5120) (l : Fin 32), j = ix2 r l := ⟨j 0, j 1, eq_ix2 j⟩
  rw [p2, p1]
  exact p14 x w s a b m dy d r l

theorem o13 : out0_13 (F := Ideal) x w s a b m dy d = (RIn x w s a b m dy d).rX := by
  unfold out0_13 k0_pay18
  rw [View.canon_unit_zero hz]
  simp only [ld0, ld1, ld2, ld3, ld4, ld5, ld6, ld7]
  funext j
  obtain ⟨r, l, rfl⟩ : ∃ (r : Fin 1024) (l : Fin 32), j = ix2 r l := ⟨j 0, j 1, eq_ix2 j⟩
  rw [p1]
  exact p11 x w s a b m dy d r l

theorem o14 : out0_14 (F := Ideal) x w s a b m dy d = (RIn x w s a b m dy d).rB := by
  unfold out0_14 k0_pay24 k0_pay22
  rw [View.canon_unit_zero hz]
  simp only [ld0, ld1, ld2, ld3, ld4, ld5, ld6, ld7]
  funext j
  obtain ⟨r, l, rfl⟩ : ∃ (r : Fin 1024) (l : Fin 32), j = ix2 r l := ⟨j 0, j 1, eq_ix2 j⟩
  exact p12 x w s a b m dy d r l

theorem o15 : out0_15 (F := Ideal) x w s a b m dy d = (RIn x w s a b m dy d).rT := by
  unfold out0_15 k0_pay24 k0_pay22
  rw [View.canon_unit_zero hz]
  simp only [ld0, ld1, ld2, ld3, ld4, ld5, ld6, ld7]
  funext j
  obtain ⟨r, l, rfl⟩ : ∃ (r : Fin 32) (l : Fin 1024), j = ix2 r l := ⟨j 0, j 1, eq_ix2 j⟩
  exact p17 x w s a b m dy d l r
end Body

end Cert.RefFwdIdeal.Front

end
-- ==== Proof.Front.RefFin.lean ====
/-
  Hand-written, untrusted. THE RESULT ARRAYS OF THE FIRST CALL'S REFERENCE: its one point takes every array whole.
-/
module

public import proofs.«01_k».proof.Proof.Front.RefVal

@[expose] public section

set_option maxRecDepth 16384

noncomputable section

namespace Cert.RefFwdIdeal.Front

open Cert.RefFwdIdeal Cert.RefFwdIdeal.Gen Idealize.ShloMosaic Idealize.ShloMosaic.TcCoe Idealize.SL.Sem
open Idealize.ShloMosaic.Pipeline (Dat)
open Cert.FwdIdeal.Front (In)

variable (m : (ℓ : Loc nD τ sig) → Buf (Elt Ideal) ℓ) (c : Dev nD)

/-- Every window stands at the origin. -/
theorem idx0 : ∀ (w : Fin cfg0.W) (t : Fin cfg0.N) (a), (cfg0.win w).index t a = 0 :=
  (by decide +kernel : ∀ (w : Fin cfg0.W) (t : Fin grid0.N) (a), (cfg0.win w).index t a = 0)

/-- Each input's block is its array. -/
theorem i0 (t : Fin cfg0.N) : (iblk m c 0 t : Vec Ideal S1024x16384 .bf16) = V m c main_v0 := by
  unfold iblk
  funext j
  rw [View.read_apply]
  refine congrArg (V m c main_v0) (funext fun a => Fin.ext ?_)
  show (cfg0.win 0).index t a * _ + 1 * (j a).val = (j a).val
  rw [idx0, zero_mul, zero_add, one_mul]
theorem i1 (t : Fin cfg0.N) : (iblk m c 1 t : Vec Ideal S5120x16384 .fp8e4m3) = V m c main_arg1 := by
  unfold iblk
  funext j
  rw [View.read_apply]
  refine congrArg (V m c main_arg1) (funext fun a => Fin.ext ?_)
  show (cfg0.win 1).index t a * _ + 1 * (j a).val = (j a).val
  rw [idx0, zero_mul, zero_add, one_mul]
theorem i2 (t : Fin cfg0.N) : (iblk m c 2 t : Vec Ideal S5120x1 .f32) = V m c main_v1 := by
  unfold iblk
  funext j
  rw [View.read_apply]
  refine congrArg (V m c main_v1) (funext fun a => Fin.ext ?_)
  show (cfg0.win 2).index t a * _ + 1 * (j a).val = (j a).val
  rw [idx0, zero_mul, zero_add, one_mul]
theorem i3 (t : Fin cfg0.N) : (iblk m c 3 t : Vec Ideal S32x16384 .bf16) = V m c main_arg3 := by
  unfold iblk
  funext j
  rw [View.read_apply]
  refine congrArg (V m c main_arg3) (funext fun a => Fin.ext ?_)
  show (cfg0.win 3).index t a * _ + 1 * (j a).val = (j a).val
  rw [idx0, zero_mul, zero_add, one_mul]
theorem i4 (t : Fin cfg0.N) : (iblk m c 4 t : Vec Ideal S5120x32 .bf16) = V m c main_arg4 := by
  unfold iblk
  funext j
  rw [View.read_apply]
  refine congrArg (V m c main_arg4) (funext fun a => Fin.ext ?_)
  show (cfg0.win 4).index t a * _ + 1 * (j a).val = (j a).val
  rw [idx0, zero_mul, zero_add, one_mul]
theorem i5 (t : Fin cfg0.N) : (iblk m c 5 t : Vec Ideal S1x5120 .f32) = V m c main_v2 := by
  unfold iblk
  funext j
  rw [View.read_apply]
  refine congrArg (V m c main_v2) (funext fun a => Fin.ext ?_)
  show (cfg0.win 5).index t a * _ + 1 * (j a).val = (j a).val
  rw [idx0, zero_mul, zero_add, one_mul]
theorem i6 (t : Fin cfg0.N) : (iblk m c 6 t : Vec Ideal S1024x5120 .fp8e5m2) = V m c main_v3 := by
  unfold iblk
  funext j
  rw [View.read_apply]
  refine congrArg (V m c main_v3) (funext fun a => Fin.ext ?_)
  show (cfg0.win 6).index t a * _ + 1 * (j a).val = (j a).val
  rw [idx0, zero_mul, zero_add, one_mul]
theorem i7 (t : Fin cfg0.N) : (iblk m c 7 t : Vec Ideal S1024x1 .f32) = V m c main_v4 := by
  unfold iblk
  funext j
  rw [View.read_apply]
  refine congrArg (V m c main_v4) (funext fun a => Fin.ext ?_)
  show (cfg0.win 7).index t a * _ + 1 * (j a).val = (j a).val
  rw [idx0, zero_mul, zero_add, one_mul]

/-- The reference's arguments as its body finds them. -/
abbrev args : In := RIn (V m c main_v0) (V m c main_arg1) (V m c main_v1) (V m c main_arg3) (V m c main_arg4) (V m c main_v2) (V m c main_v3) (V m c main_v4)

/-- The one point. -/
def t0 : Fin cfg0.N := ⟨0, by decide⟩

/-- Each result's block is its array, and covers it. -/
theorem b8 (G : S5120x16384.Idx → EReal) (t : Fin cfg0.N) : (cfg0.win 8).cut (grid0.coords t) G = ((cfg0.win 8).blk t).view.read (Elt Ideal) G := by
  funext j
  rw [View.read_apply]
  refine congrArg G (funext fun a => Fin.ext ?_)
  show (j a).val = (cfg0.win 8).index t a * _ + 1 * (j a).val
  rw [idx0, zero_mul, zero_add, one_mul]
theorem c8 (i : S5120x16384.Idx) : i ∈ ((View.whole main_v5_0).slice (win0_8.rect t0)).set := by
  rw [View.set_slice_whole, Rect.mem_set_unit]
  intro a
  show (cfg0.win 8).index t0 a * _ ≤ (i a).val ∧ (i a).val < (cfg0.win 8).index t0 a * _ + _
  rw [idx0, zero_mul, zero_add]
  exact ⟨Nat.zero_le _, (i a).isLt⟩
theorem b9 (G : S1024x5120.Idx → EReal) (t : Fin cfg0.N) : (cfg0.win 9).cut (grid0.coords t) G = ((cfg0.win 9).blk t).view.read (Elt Ideal) G := by
  funext j
  rw [View.read_apply]
  refine congrArg G (funext fun a => Fin.ext ?_)
  show (j a).val = (cfg0.win 9).index t a * _ + 1 * (j a).val
  rw [idx0, zero_mul, zero_add, one_mul]
theorem c9 (i : S1024x5120.Idx) : i ∈ ((View.whole main_v5_1).slice (win0_9.rect t0)).set := by
  rw [View.set_slice_whole, Rect.mem_set_unit]
  intro a
  show (cfg0.win 9).index t0 a * _ ≤ (i a).val ∧ (i a).val < (cfg0.win 9).index t0 a * _ + _
  rw [idx0, zero_mul, zero_add]
  exact ⟨Nat.zero_le _, (i a).isLt⟩
theorem b10 (G : S1056x5120.Idx → EReal) (t : Fin cfg0.N) : (cfg0.win 10).cut (grid0.coords t) G = ((cfg0.win 10).blk t).view.read (Elt Ideal) G := by
  funext j
  rw [View.read_apply]
  refine congrArg G (funext fun a => Fin.ext ?_)
  show (j a).val = (cfg0.win 10).index t a * _ + 1 * (j a).val
  rw [idx0, zero_mul, zero_add, one_mul]
theorem c10 (i : S1056x5120.Idx) : i ∈ ((View.whole main_v5_2).slice (win0_10.rect t0)).set := by
  rw [View.set_slice_whole, Rect.mem_set_unit]
  intro a
  show (cfg0.win 10).index t0 a * _ ≤ (i a).val ∧ (i a).val < (cfg0.win 10).index t0 a * _ + _
  rw [idx0, zero_mul, zero_add]
  exact ⟨Nat.zero_le _, (i a).isLt⟩
theorem b11 (G : S1x5120.Idx → EReal) (t : Fin cfg0.N) : (cfg0.win 11).cut (grid0.coords t) G = ((cfg0.win 11).blk t).view.read (Elt Ideal) G := by
  funext j
  rw [View.read_apply]
  refine congrArg G (funext fun a => Fin.ext ?_)
  show (j a).val = (cfg0.win 11).index t a * _ + 1 * (j a).val
  rw [idx0, zero_mul, zero_add, one_mul]
theorem c11 (i : S1x5120.Idx) : i ∈ ((View.whole main_v5_3).slice (win0_11.rect t0)).set := by
  rw [View.set_slice_whole, Rect.mem_set_unit]
  intro a
  show (cfg0.win 11).index t0 a * _ ≤ (i a).val ∧ (i a).val < (cfg0.win 11).index t0 a * _ + _
  rw [idx0, zero_mul, zero_add]
  exact ⟨Nat.zero_le _, (i a).isLt⟩
theorem b12 (G : S5120x32.Idx → EReal) (t : Fin cfg0.N) : (cfg0.win 12).cut (grid0.coords t) G = ((cfg0.win 12).blk t).view.read (Elt Ideal) G := by
  funext j
  rw [View.read_apply]
  refine congrArg G (funext fun a => Fin.ext ?_)
  show (j a).val = (cfg0.win 12).index t a * _ + 1 * (j a).val
  rw [idx0, zero_mul, zero_add, one_mul]
theorem c12 (i : S5120x32.Idx) : i ∈ ((View.whole main_v5_4).slice (win0_12.rect t0)).set := by
  rw [View.set_slice_whole, Rect.mem_set_unit]
  intro a
  show (cfg0.win 12).index t0 a * _ ≤ (i a).val ∧ (i a).val < (cfg0.win 12).index t0 a * _ + _
  rw [idx0, zero_mul, zero_add]
  exact ⟨Nat.zero_le _, (i a).isLt⟩
theorem b13 (G : S1024x32.Idx → EReal) (t : Fin cfg0.N) : (cfg0.win 13).cut (grid0.coords t) G = ((cfg0.win 13).blk t).view.read (Elt Ideal) G := by
  funext j
  rw [View.read_apply]
  refine congrArg G (funext fun a => Fin.ext ?_)
  show (j a).val = (cfg0.win 13).index t a * _ + 1 * (j a).val
  rw [idx0, zero_mul, zero_add, one_mul]
theorem c13 (i : S1024x32.Idx) : i ∈ ((View.whole main_v5_5).slice (win0_13.rect t0)).set := by
  rw [View.set_slice_whole, Rect.mem_set_unit]
  intro a
  show (cfg0.win 13).index t0 a * _ ≤ (i a).val ∧ (i a).val < (cfg0.win 13).index t0 a * _ + _
  rw [idx0, zero_mul, zero_add]
  exact ⟨Nat.zero_le _, (i a).isLt⟩
theorem b14 (G : S1024x32.Idx → EReal) (t : Fin cfg0.N) : (cfg0.win 14).cut (grid0.coords t) G = ((cfg0.win 14).blk t).view.read (Elt Ideal) G := by
  funext j
  rw [View.read_apply]
  refine congrArg G (funext fun a => Fin.ext ?_)
  show (j a).val = (cfg0.win 14).index t a * _ + 1 * (j a).val
  rw [idx0, zero_mul, zero_add, one_mul]
theorem c14 (i : S1024x32.Idx) : i ∈ ((View.whole main_v5_6).slice (win0_14.rect t0)).set := by
  rw [View.set_slice_whole, Rect.mem_set_unit]
  intro a
  show (cfg0.win 14).index t0 a * _ ≤ (i a).val ∧ (i a).val < (cfg0.win 14).index t0 a * _ + _
  rw [idx0, zero_mul, zero_add]
  exact ⟨Nat.zero_le _, (i a).isLt⟩
theorem b15 (G : S32x1024.Idx → EReal) (t : Fin cfg0.N) : (cfg0.win 15).cut (grid0.coords t) G = ((cfg0.win 15).blk t).view.read (Elt Ideal) G := by
  funext j
  rw [View.read_apply]
  refine congrArg G (funext fun a => Fin.ext ?_)
  show (j a).val = (cfg0.win 15).index t a * _ + 1 * (j a).val
  rw [idx0, zero_mul, zero_add, one_mul]
theorem c15 (i : S32x1024.Idx) : i ∈ ((View.whole main_v5_7).slice (win0_15.rect t0)).set := by
  rw [View.set_slice_whole, Rect.mem_set_unit]
  intro a
  show (cfg0.win 15).index t0 a * _ ≤ (i a).val ∧ (i a).val < (cfg0.win 15).index t0 a * _ + _
  rw [idx0, zero_mul, zero_add]
  exact ⟨Nat.zero_le _, (i a).isLt⟩

/-- Each result array after the run. -/
theorem f8 : (dats m 0 c).arrAt 8 cfg0.N = (args m c).rV :=
  (dats m 0 c).arrAt_eq_of_cover 8 (args m c).rV (fun t _ => by
    rw [Value.flushed8, i0, i1, i2, i3, i4, i5, i6, i7, o8, b8]) fun i => ⟨t0, by decide +kernel, c8 i⟩
theorem f9 : (dats m 0 c).arrAt 9 cfg0.N = (args m c).rZ :=
  (dats m 0 c).arrAt_eq_of_cover 9 (args m c).rZ (fun t _ => by
    rw [Value.flushed9, i0, i1, i2, i3, i4, i5, i6, i7, o9, b9]) fun i => ⟨t0, by decide +kernel, c9 i⟩
theorem f10 : (dats m 0 c).arrAt 10 cfg0.N = (args m c).rG :=
  (dats m 0 c).arrAt_eq_of_cover 10 (args m c).rG (fun t _ => by
    rw [Value.flushed10, i0, i1, i2, i3, i4, i5, i6, i7, o10, b10]) fun i => ⟨t0, by decide +kernel, c10 i⟩
theorem f11 : (dats m 0 c).arrAt 11 cfg0.N = (args m c).rD :=
  (dats m 0 c).arrAt_eq_of_cover 11 (args m c).rD (fun t _ => by
    rw [Value.flushed11, i0, i1, i2, i3, i4, i5, i6, i7, o11, b11]) fun i => ⟨t0, by decide +kernel, c11 i⟩
theorem f12 : (dats m 0 c).arrAt 12 cfg0.N = (args m c).rL :=
  (dats m 0 c).arrAt_eq_of_cover 12 (args m c).rL (fun t _ => by
    rw [Value.flushed12, i0, i1, i2, i3, i4, i5, i6, i7, o12, b12]) fun i => ⟨t0, by decide +kernel, c12 i⟩
theorem f13 : (dats m 0 c).arrAt 13 cfg0.N = (args m c).rX :=
  (dats m 0 c).arrAt_eq_of_cover 13 (args m c).rX (fun t _ => by
    rw [Value.flushed13, i0, i1, i2, i3, i4, i5, i6, i7, o13, b13]) fun i => ⟨t0, by decide +kernel, c13 i⟩
theorem f14 : (dats m 0 c).arrAt 14 cfg0.N = (args m c).rB :=
  (dats m 0 c).arrAt_eq_of_cover 14 (args m c).rB (fun t _ => by
    rw [Value.flushed14, i0, i1, i2, i3, i4, i5, i6, i7, o14, b14]) fun i => ⟨t0, by decide +kernel, c14 i⟩
theorem f15 : (dats m 0 c).arrAt 15 cfg0.N = (args m c).rT :=
  (dats m 0 c).arrAt_eq_of_cover 15 (args m c).rT (fun t _ => by
    rw [Value.flushed15, i0, i1, i2, i3, i4, i5, i6, i7, o15, b15]) fun i => ⟨t0, by decide +kernel, c15 i⟩

end Cert.RefFwdIdeal.Front

end
-- ==== Proof.Front.Alg.lean ====
/-
  Hand-written, untrusted. THE VALUE CLAIM OF THE FIRST CALL (`dora_fwd`, program `FwdIdeal`): over the extended reals the kernel and its
  reference leave the same eight results. Both read the same arguments, each in its own layout.
-/
module

public import proofs.«01_k».proof.Proof.Front.FrontVal
public import proofs.«01_k».proof.Proof.Front.RefFin

@[expose] public section

set_option maxRecDepth 16384

noncomputable section

/-! ## The host's layouts of the arguments -/

namespace Cert.FwdIdeal.Front

open Cert.FwdIdeal Cert.FwdIdeal.Gen Idealize.ShloMosaic Idealize.ShloMosaic.TcCoe Idealize.SL.Sem

variable (m : (ℓ : Loc nD τ sig) → Buf (Elt Ideal) ℓ) (c : Dev nD)

theorem v0_eq : V m c main_v0 = shapeCast S1024x16384 (m ((c : Thread nD τ).loc main_arg0) : Vec Ideal S4x256x16384 .bf16) shapeCasts_S4x256x16384_S1024x16384 := by
  show StableHlo.after hostOps0 _ (Proc.devRef .tc main_v0) = _
  after_results
  rfl
theorem v1_eq : V m c main_v1 = shapeCast S1024x5120 (m ((c : Thread nD τ).loc main_arg6) : Vec Ideal S4x256x5120 .fp8e5m2) shapeCasts_S4x256x5120_S1024x5120 := by
  show StableHlo.after hostOps0 _ (Proc.devRef .tc main_v1) = _
  after_results
  rfl
theorem v2_eq : V m c main_v2 = shapeCast S1x5120 (m ((c : Thread nD τ).loc main_arg2) : Vec Ideal S5120 .f32) shapeCasts_S5120_S1x5120 := by
  show StableHlo.after hostOps0 _ (Proc.devRef .tc main_v2) = _
  after_results
  rfl
theorem v4_eq : V m c main_v4 = shapeCast S1x5120 (m ((c : Thread nD τ).loc main_arg5) : Vec Ideal S5120 .f32) shapeCasts_S5120_S1x5120 := by
  show StableHlo.after hostOps0 _ (Proc.devRef .tc main_v4) = _
  after_results
  rfl
theorem v5_eq : V m c main_v5 = shapeCast S1x1024 (m ((c : Thread nD τ).loc main_arg7) : Vec Ideal S4x256 .f32) shapeCasts_S4x256_S1x1024 := by
  show StableHlo.after hostOps0 _ (Proc.devRef .tc main_v5) = _
  after_results
  rfl

theorem In.eq_of {I J : In} (hX : I.X = J.X) (hW : I.W = J.W) (hS : I.S = J.S) (hA : I.A = J.A) (hB : I.B = J.B) (hM : I.M = J.M)
    (hY : I.Y = J.Y) (hD : I.D = J.D) : I = J := by
  cases I; cases J; cases hX; cases hW; cases hS; cases hA; cases hB; cases hM; cases hY; cases hD; rfl

end Cert.FwdIdeal.Front

namespace Cert.RefFwdIdeal.Front

open Cert.RefFwdIdeal Cert.RefFwdIdeal.Gen Idealize.ShloMosaic Idealize.ShloMosaic.TcCoe Idealize.SL.Sem

variable (m : (ℓ : Loc nD τ sig) → Buf (Elt Ideal) ℓ) (c : Dev nD)

theorem v0_eq : V m c main_v0 = shapeCast S1024x16384 (m ((c : Thread nD τ).loc main_arg0) : Vec Ideal S4x256x16384 .bf16) shapeCasts_S4x256x16384_S1024x16384 := by
  show StableHlo.after hostOps0 _ (Proc.devRef .tc main_v0) = _
  after_results
  rfl
theorem v1_eq : V m c main_v1 = shapeCast S5120x1 (m ((c : Thread nD τ).loc main_arg2) : Vec Ideal S5120 .f32) shapeCasts_S5120_S5120x1 := by
  show StableHlo.after hostOps0 _ (Proc.devRef .tc main_v1) = _
  after_results
  rfl
theorem v2_eq : V m c main_v2 = shapeCast S1x5120 (m ((c : Thread nD τ).loc main_arg5) : Vec Ideal S5120 .f32) shapeCasts_S5120_S1x5120 := by
  show StableHlo.after hostOps0 _ (Proc.devRef .tc main_v2) = _
  after_results
  rfl
theorem v3_eq : V m c main_v3 = shapeCast S1024x5120 (m ((c : Thread nD τ).loc main_arg6) : Vec Ideal S4x256x5120 .fp8e5m2) shapeCasts_S4x256x5120_S1024x5120 := by
  show StableHlo.after hostOps0 _ (Proc.devRef .tc main_v3) = _
  after_results
  rfl
theorem v4_eq : V m c main_v4 = shapeCast S1024x1 (m ((c : Thread nD τ).loc main_arg7) : Vec Ideal S4x256 .f32) shapeCasts_S4x256_S1024x1 := by
  show StableHlo.after hostOps0 _ (Proc.devRef .tc main_v4) = _
  after_results
  rfl

/-- A vector as a row and as a column. -/
theorem row_col (u : Vec Ideal S5120 .f32) (h : S5120.ShapeCasts S5120x1) (h' : S5120.ShapeCasts Cert.FwdIdeal.S1x5120) (o : Fin 5120) :
    shapeCast S5120x1 u h (ix2 o 0) = shapeCast Cert.FwdIdeal.S1x5120 u h' (ix2 0 o) :=
  (shapeCast_apply u _ (ix2 o 0) (ix1 o) (by rw [Shape.rowMajor_val_one, Shape.rowMajor_val_two]; show o.val = o.val * 1 + 0; omega)).trans
    (shapeCast_apply u _ (ix2 0 o) (ix1 o) (by rw [Shape.rowMajor_val_one, Shape.rowMajor_val_two]; show o.val = 0 * 5120 + o.val; omega)).symm

/-- Four rows of 256 as one row and as one column. -/
theorem row_col' (u : Vec Ideal S4x256 .f32) (h : S4x256.ShapeCasts S1024x1) (h' : S4x256.ShapeCasts Cert.FwdIdeal.S1x1024) (t : Fin 1024) :
    shapeCast S1024x1 u h (ix2 t 0) = shapeCast Cert.FwdIdeal.S1x1024 u h' (ix2 0 t) :=
  (shapeCast_apply u _ (ix2 t 0) (ix2 ⟨t.val / 256, by omega⟩ ⟨t.val % 256, by omega⟩) (by
      rw [Shape.rowMajor_val_two, Shape.rowMajor_val_two]; show t.val / 256 * 256 + t.val % 256 = t.val * 1 + 0; omega)).trans
    (shapeCast_apply u _ (ix2 0 t) (ix2 ⟨t.val / 256, by omega⟩ ⟨t.val % 256, by omega⟩) (by
      rw [Shape.rowMajor_val_two, Shape.rowMajor_val_two]; show t.val / 256 * 256 + t.val % 256 = 0 * 1024 + t.val; omega)).symm

end Cert.RefFwdIdeal.Front

namespace Cert.Proof

open Idealize.ShloMosaic Idealize.ShloMosaic.TcCoe Idealize.SL.Sem

/-- Memories that hold the same arguments give both programs the same arguments. -/
theorem args_eq (m : (ℓ : Loc Cert.FwdIdeal.nD Cert.FwdIdeal.τ Cert.FwdIdeal.sig) → Buf (Elt Ideal) ℓ)
    (m' : (ℓ : Loc Cert.RefFwdIdeal.nD Cert.RefFwdIdeal.τ Cert.RefFwdIdeal.sig) → Buf (Elt Ideal) ℓ) (c : Dev Cert.FwdIdeal.nD)
    (e0 : m' ((c.tc : Thread Cert.RefFwdIdeal.nD Cert.RefFwdIdeal.τ).loc Cert.RefFwdIdeal.main_arg0) = m ((c.tc : Thread Cert.FwdIdeal.nD Cert.FwdIdeal.τ).loc Cert.FwdIdeal.main_arg0))
    (e1 : m' ((c.tc : Thread Cert.RefFwdIdeal.nD Cert.RefFwdIdeal.τ).loc Cert.RefFwdIdeal.main_arg1) = m ((c.tc : Thread Cert.FwdIdeal.nD Cert.FwdIdeal.τ).loc Cert.FwdIdeal.main_arg1))
    (e2 : m' ((c.tc : Thread Cert.RefFwdIdeal.nD Cert.RefFwdIdeal.τ).loc Cert.RefFwdIdeal.main_arg2) = m ((c.tc : Thread Cert.FwdIdeal.nD Cert.FwdIdeal.τ).loc Cert.FwdIdeal.main_arg2))
    (e3 : m' ((c.tc : Thread Cert.RefFwdIdeal.nD Cert.RefFwdIdeal.τ).loc Cert.RefFwdIdeal.main_arg3) = m ((c.tc : Thread Cert.FwdIdeal.nD Cert.FwdIdeal.τ).loc Cert.FwdIdeal.main_arg3))
    (e4 : m' ((c.tc : Thread Cert.RefFwdIdeal.nD Cert.RefFwdIdeal.τ).loc Cert.RefFwdIdeal.main_arg4) = m ((c.tc : Thread Cert.FwdIdeal.nD Cert.FwdIdeal.τ).loc Cert.FwdIdeal.main_arg4))
    (e5 : m' ((c.tc : Thread Cert.RefFwdIdeal.nD Cert.RefFwdIdeal.τ).loc Cert.RefFwdIdeal.main_arg5) = m ((c.tc : Thread Cert.FwdIdeal.nD Cert.FwdIdeal.τ).loc Cert.FwdIdeal.main_arg5))
    (e6 : m' ((c.tc : Thread Cert.RefFwdIdeal.nD Cert.RefFwdIdeal.τ).loc Cert.RefFwdIdeal.main_arg6) = m ((c.tc : Thread Cert.FwdIdeal.nD Cert.FwdIdeal.τ).loc Cert.FwdIdeal.main_arg6))
    (e7 : m' ((c.tc : Thread Cert.RefFwdIdeal.nD Cert.RefFwdIdeal.τ).loc Cert.RefFwdIdeal.main_arg7) = m ((c.tc : Thread Cert.FwdIdeal.nD Cert.FwdIdeal.τ).loc Cert.FwdIdeal.main_arg7)) :
    Cert.RefFwdIdeal.Front.args m' c = Cert.FwdIdeal.Front.KIn m c := by
  unfold Cert.RefFwdIdeal.Front.args
  rw [Cert.RefFwdIdeal.Front.v0_eq, Cert.RefFwdIdeal.Front.v1_eq, Cert.RefFwdIdeal.Front.v2_eq, Cert.RefFwdIdeal.Front.v3_eq, Cert.RefFwdIdeal.Front.v4_eq,
    Cert.RefFwdIdeal.Gen.V_main_arg1, Cert.RefFwdIdeal.Gen.V_main_arg3, Cert.RefFwdIdeal.Gen.V_main_arg4, e0, e1, e2, e3, e4, e5, e6, e7]
  unfold Cert.FwdIdeal.Front.KIn
  rw [Cert.FwdIdeal.Front.v0_eq, Cert.FwdIdeal.Front.v1_eq, Cert.FwdIdeal.Front.v2_eq, Cert.FwdIdeal.Front.v4_eq, Cert.FwdIdeal.Front.v5_eq,
    Cert.FwdIdeal.Gen.V_main_arg1, Cert.FwdIdeal.Gen.V_main_arg3, Cert.FwdIdeal.Gen.V_main_arg4]
  exact Cert.FwdIdeal.Front.In.eq_of rfl rfl (funext fun o => Cert.RefFwdIdeal.Front.row_col _ _ _ o) rfl rfl rfl rfl
    (funext fun t => Cert.RefFwdIdeal.Front.row_col' _ _ _ t)

/-- The value claim of the first call. -/
theorem algebraic_front : algebraic_FwdIdeal_RefFwdIdeal := by
  intro m g m' g' _ hm
  refine ⟨fun c => (Cert.FwdIdeal.Front.KIn m c).rV, fun c => (Cert.FwdIdeal.Front.KIn m c).rZ, fun c => (Cert.FwdIdeal.Front.KIn m c).rG,
    fun c => (Cert.FwdIdeal.Front.KIn m c).rD, fun c => (Cert.FwdIdeal.Front.KIn m c).rL, fun c => (Cert.FwdIdeal.Front.KIn m c).rX,
    fun c => (Cert.FwdIdeal.Front.KIn m c).rB, fun c => (Cert.FwdIdeal.Front.KIn m c).rT, ?_, ?_⟩
  · refine (θ_run _ _ _).mono (fun r h c => ?_) (θ_run_and (Cert.FwdIdeal.Front.run_value m g) (Cert.FwdIdeal.Front.unchanged m g))
    obtain ⟨a0, a1, a2, a3, a4, a5, a6, a7⟩ := h.1 c
    exact ⟨a0, a1, a2, a3, a4, a5, a6, a7, h.2 c⟩
  · refine (θ_run _ _ _).mono (fun r h c => ?_) (Cert.RefFwdIdeal.Value.run_blocks m' g')
    obtain ⟨a0, a1, a2, a3, a4, a5, a6, a7, k⟩ := h c
    obtain ⟨e0, e1, e2, e3, e4, e5, e6, e7⟩ := hm c
    have e := args_eq m m' c e0 e1 e2 e3 e4 e5 e6 e7
    rw [Cert.RefFwdIdeal.Front.f8, e] at a0
    rw [Cert.RefFwdIdeal.Front.f9, e] at a1
    rw [Cert.RefFwdIdeal.Front.f10, e] at a2
    rw [Cert.RefFwdIdeal.Front.f11, e] at a3
    rw [Cert.RefFwdIdeal.Front.f12, e] at a4
    rw [Cert.RefFwdIdeal.Front.f13, e] at a5
    rw [Cert.RefFwdIdeal.Front.f14, e] at a6
    rw [Cert.RefFwdIdeal.Front.f15, e] at a7
    exact ⟨a0, a1, a2, a3, a4, a5, a6, a7, k⟩

end Cert.Proof

end
-- ==== Proof.lean ====
module

public import proofs.«01_k».proof.Defs
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.Bwd
public import proofs.«01_k».proof.Proof.Gen.Bwd.Skeleton
public import proofs.«01_k».proof.Proof.Gen.Bwd.Launch
public import proofs.«01_k».proof.Proof.Gen.Bwd.Points
public import proofs.«01_k».proof.Proof.Gen.Bwd.Frame
public import proofs.«01_k».proof.Proof.Gen.BwdIdeal
public import proofs.«01_k».proof.Proof.Gen.BwdIdeal.Skeleton
public import proofs.«01_k».proof.Proof.Gen.BwdIdeal.Launch
public import proofs.«01_k».proof.Proof.Gen.BwdIdeal.Points
public import proofs.«01_k».proof.Proof.Gen.BwdIdeal.Frame
public import proofs.«01_k».proof.Proof.Gen.RefFwdIdeal
public import proofs.«01_k».proof.Proof.Gen.RefFwdIdeal.Skeleton
public import proofs.«01_k».proof.Proof.Gen.RefFwdIdeal.Launch
public import proofs.«01_k».proof.Proof.Gen.RefFwdIdeal.Points
public import proofs.«01_k».proof.Proof.Gen.RefFwdIdeal.Frame
public import proofs.«01_k».proof.Proof.Gen.RefFwdIdeal.Value
public import proofs.«01_k».proof.Proof.Gen.RefBwdIdeal
public import proofs.«01_k».proof.Proof.Gen.RefBwdIdeal.Run
public import proofs.«01_k».proof.Proof.Gen.BwdIdeal.Value
public import proofs.«01_k».proof.Proof.Back.Value
public import proofs.«01_k».proof.Proof.Front.Transfer
public import proofs.«01_k».proof.Proof.Front.Alg
public import Idealize.ShloMosaic.Lib.Quiescent
public import Idealize.ShloMosaic.Adequacy
public import Idealize.ShloMosaic.Init

@[expose] public section

noncomputable section

namespace Cert.Proof

open Idealize.ShloMosaic Idealize.SL.Sem

theorem frame_refBwd : quiescent_RefBwdIdeal := fun m ρ _ =>
  (θ_run _ _ _).mono (fun r h => ⟨fun c => (h c).2.2, sem_eq_zero_of_no_sems rfl _⟩) (Cert.RefBwdIdeal.Value.run m ρ)

theorem claim : Cert.Claim := ⟨Cert.Fwd.Gen.facts, Cert.FwdIdeal.Gen.facts, Cert.RefFwdIdeal.Gen.facts, Cert.Bwd.Gen.facts, Cert.BwdIdeal.Gen.facts, Cert.RefBwdIdeal.Gen.facts,
  frame_fwd, frame_fwdIdeal, fun m ρ _ => Cert.RefFwdIdeal.Gen.frame m ρ, fun m ρ _ => Cert.Bwd.Gen.frame m ρ,
  fun m ρ _ => Cert.BwdIdeal.Gen.frame m ρ, frame_refBwd, trivial, trivial, algebraic_front, algebraic_back⟩

end Cert.Proof

end
